-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![64, 128, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨3, ![2, 128, 512]⟩ ⟨3, ![64, 128, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S64x128x128x64 : Shape := ⟨4, ![64, 128, 128, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S64x128x128x64 : S_.BroadcastsInDim S64x128x128x64 (![] : Fin 0 → Fin S64x128x128x64.rank)
  reducesTo_S64x128x128x64_S_d0_1_2_3 : S64x128x128x64.ReducesTo [0, 1, 2, 3] S_

variable [Facts]

def fn {F : FTy → Type} [FloatOps F] (main_arg0 : FVec F S2x128x512 .f32) (main_arg1 : FVec F S512x256 .f32) (main_arg2 : FVec F S64x128x128x64 .f32) (main_arg3 : FVec F S64x128x128x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S64x128x128x64 .f32 := Host.absf main_arg2
  let main_cst_2 : FVec F S_ .f32 := constant S_ .f32 0x7F800000#32
  let main_v10 : FVec F S64x128x128x64 .f32 := broadcastInDim S64x128x128x64 ![] bcast_S_S64x128x128x64 main_cst_2
  let main_v11 : IVec S64x128x128x64 1 := cmpf .olt main_v9 main_v10
  let main_c_3 : IVec S_ 1 := constantI S_ 1 1#1
  let main_v12 : IVec S_ 1 := (fun x v => Host.reduce IntOp.andi x v reducesTo_S64x128x128x64_S_d0_1_2_3 h_S_) main_v11 main_c_3
  let main_v13 : IVec S_ 1 := andi main_v8 main_v12
  main_v13
-- ==== Pre_finite_scores_ReferenceIdeal.lean ====
abbrev S64x128x512 : Shape := ⟨3, ![64, 128, 512]⟩
abbrev S512x8192 : Shape := ⟨2, ![512, 8192]⟩
abbrev S64x128x128x64 : Shape := ⟨4, ![64, 128, 128, 64]⟩
abbrev S8192x512 : Shape := ⟨2, ![8192, 512]⟩
abbrev S_ : Shape := ⟨0, ![]⟩

class Facts : Prop where
  bcast_S_S64x128x512 : S_.BroadcastsInDim S64x128x512 (![] : Fin 0 → Fin S64x128x512.rank)
  reducesTo_S64x128x512_S_d0_1_2 : S64x128x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S64x128x128x64 : S_.BroadcastsInDim S64x128x128x64 (![] : Fin 0 → Fin S64x128x128x64.rank)
  reducesTo_S64x128x128x64_S_d0_1_2_3 : S64x128x128x64.ReducesTo [0, 1, 2, 3] S_

variable [Facts]

def fn {F : FTy → Type} [FloatOps F] (main_arg0 : FVec F S64x128x512 .f32) (main_arg1 : FVec F S512x8192 .f32) (main_arg2 : FVec F S64x128x128x64 .f32) (main_arg3 : FVec F S64x128x128x64 .f32) (main_arg4 : FVec F S8192x512 .f32) : IVec S_ 1 :=
  let main_v0 : FVec F S64x128x512 .f32 := Host.absf main_arg0
  let main_cst : FVec F S_ .f32 := constant S_ .f32 0x7F800000#32
  let main_v1 : FVec F S64x128x512 .f32 := broadcastInDim S64x128x512 ![] bcast_S_S64x128x512 main_cst
  let main_v2 : IVec S64x128x512 1 := cmpf .olt main_v0 main_v1
  let main_c : IVec S_ 1 := constantI S_ 1 1#1
  let main_v3 : IVec S_ 1 := (fun x v => Host.reduce IntOp.andi x v reducesTo_S64x128x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S64x128x128x64 .f32 := Host.absf main_arg2
  let main_cst_2 : FVec F S_ .f32 := constant S_ .f32 0x7F800000#32
  let main_v10 : FVec F S64x128x128x64 .f32 := broadcastInDim S64x128x128x64 ![] bcast_S_S64x128x128x64 main_cst_2
  let main_v11 : IVec S64x128x128x64 1 := cmpf .olt main_v9 main_v10
  let main_c_3 : IVec S_ 1 := constantI S_ 1 1#1
  let main_v12 : IVec S_ 1 := (fun x v => Host.reduce IntOp.andi x v reducesTo_S64x128x128x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S64x128x128x64 : Shape := ⟨4, ![64, 128, 128, 64]⟩
abbrev S256x512 : Shape := ⟨2, ![256, 512]⟩
abbrev S_ : Shape := ⟨0, ![]⟩
abbrev S2x128x128x64 : Shape := ⟨4, ![2, 128, 128, 64]⟩
abbrev S256x128x64 : Shape := ⟨3, ![256, 128, 64]⟩
abbrev S4x512x256 : Shape := ⟨3, ![4, 512, 256]⟩
abbrev S4x256x512 : Shape := ⟨3, ![4, 256, 512]⟩
abbrev S4 : Shape := ⟨1, ![4]⟩
abbrev S1x512x256 : Shape := ⟨3, ![1, 512, 256]⟩
abbrev S1x256x512 : Shape := ⟨3, ![1, 256, 512]⟩
abbrev S1 : Shape := ⟨1, ![1]⟩
abbrev S4x128x64 : Shape := ⟨3, ![4, 128, 64]⟩
abbrev S1x128x64 : Shape := ⟨3, ![1, 128, 64]⟩
abbrev S128x64 : Shape := ⟨2, ![128, 64]⟩
abbrev S128x192 : Shape := ⟨2, ![128, 192]⟩
abbrev S128x256 : Shape := ⟨2, ![128, 256]⟩
abbrev S128x128 : Shape := ⟨2, ![128, 128]⟩
abbrev S1x128x512 : Shape := ⟨3, ![1, 128, 512]⟩
abbrev S128x512 : Shape := ⟨2, ![128, 512]⟩
abbrev S128 : Shape := ⟨1, ![128]⟩
abbrev S128x1 : Shape := ⟨2, ![128, 1]⟩

abbrev nBuf : Space → Nat
  | .hbm => 38
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S64x128x128x64, .f32⟩
  | .hbm, ⟨3, _⟩ => ⟨S64x128x128x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x128x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x128x64, .f32⟩
  | .hbm, ⟨33, _⟩ => ⟨S2x128x128x64, .f32⟩
  | .hbm, ⟨34, _⟩ => ⟨S256x128x64, .f32⟩
  | .hbm, ⟨35, _⟩ => ⟨S2x128x128x64, .f32⟩
  | .hbm, ⟨36, _⟩ => ⟨S256x128x64, .f32⟩
  | .hbm, ⟨37, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x128x64, .f32⟩
  | .local _ .vmem, ⟨3, _⟩ => ⟨S256x128x64, .f32⟩
  | .local _ .vmem, ⟨4, _⟩ => ⟨S256x512, .f32⟩
  | .local _ .vmem, ⟨5, _⟩ => ⟨S2x128x512, .f32⟩
  | .local _ .vmem, ⟨6, _⟩ => ⟨S4x512x256, .f32⟩
  | .local _ .vmem, ⟨7, _⟩ => ⟨S4x256x512, .f32⟩
  | .local _ .vmem, ⟨8, _⟩ => ⟨S4x512x256, .f32⟩
  | .local _ .vmem, ⟨9, _⟩ => ⟨S4x256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_38 : BitVec 32 := 1#32
  let v46 : BitVec 32 := Scalar.muli v24 c1_i32_38
  let v47 : BitVec 32 := Scalar.addi c0_i32_39 v46
  v47.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v56 : BitVec 32 := Scalar.muli v24 c1_i32_48
  let v57 : BitVec 32 := Scalar.addi c0_i32_49 v56
  v57.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_58 : BitVec 32 := 1#32
  let v66 : BitVec 32 := Scalar.muli v13 c1_i32_58
  let v67 : BitVec 32 := Scalar.addi c0_i32_59 v66
  v67.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_68 : BitVec 32 := 1#32
  let v76 : BitVec 32 := Scalar.muli v13 c1_i32_68
  let v77 : BitVec 32 := Scalar.addi c0_i32_69 v76
  v77.toNat
def k0_off1 (d0 : Dev nD) (c0_i32_74 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v86 : BitVec 32 := Scalar.muli v2 c4_i32
  let v87 : BitVec 32 := Scalar.addi c0_i32_74 v86
  let v88 : Index := Scalar.indexCast v87
  let c0_75 : Index := 0#32
  let c0_76 : Index := 0#32
  ![v88.toNat, 0, 0]
def k0_dev7 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_184 : BitVec 32 := 1#32
  let v280 : BitVec 32 := Scalar.muli v24 c1_i32_184
  let v281 : BitVec 32 := Scalar.addi c0_i32_185 v280
  v281.toNat
def k0_dev8 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_194 : BitVec 32 := 1#32
  let v290 : BitVec 32 := Scalar.muli v24 c1_i32_194
  let v291 : BitVec 32 := Scalar.addi c0_i32_195 v290
  v291.toNat
def k0_dev9 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_204 : BitVec 32 := 1#32
  let v300 : BitVec 32 := Scalar.muli v13 c1_i32_204
  let v301 : BitVec 32 := Scalar.addi c0_i32_205 v300
  v301.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_214 : BitVec 32 := 1#32
  let v310 : BitVec 32 := Scalar.muli v13 c1_i32_214
  let v311 : BitVec 32 := Scalar.addi c0_i32_215 v310
  v311.toNat
def k0_off2 (d0 : Dev nD) (c0_i32_235 : BitVec 32) (c0_i32_220 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v320 : BitVec 32 := Scalar.subi v2 c0_i32_220
  let c1_i32_221 : BitVec 32 := 1#32
  let v321 : BitVec 32 := Scalar.subi v320 c1_i32_221
  let c32_i32_222 : BitVec 32 := 32#32
  let c0_i32_223 : BitVec 32 := 0#32
  let v322 : BitVec 1 := Scalar.cmpi .eq c32_i32_222 c0_i32_223
  let c1_i32_224 : BitVec 32 := 1#32
  let v323 : BitVec 32 := Scalar.select v322 c1_i32_224 c32_i32_222
  let v324 : BitVec 32 := Scalar.remsi v321 v323
  let c0_i32_226 : BitVec 32 := 0#32
  let v326 : BitVec 1 := Scalar.cmpi .slt v324 c0_i32_226
  let c0_i32_227 : BitVec 32 := 0#32
  let v327 : BitVec 1 := Scalar.cmpi .slt v323 c0_i32_227
  let v328 : BitVec 1 := Scalar.xori v326 v327
  let c0_i32_225 : BitVec 32 := 0#32
  let v325 : BitVec 1 := Scalar.cmpi .ne v324 c0_i32_225
  let v329 : BitVec 1 := Scalar.andi v328 v325
  let v330 : BitVec 32 := Scalar.addi v324 v323
  let v331 : BitVec 32 := Scalar.select v329 v330 v324
  let c4_i32_234 : BitVec 32 := 4#32
  let v336 : BitVec 32 := Scalar.muli v331 c4_i32_234
  let v337 : BitVec 32 := Scalar.addi c0_i32_235 v336
  let v338 : Index := Scalar.indexCast v337
  let c0_236 : Index := 0#32
  let c0_237 : Index := 0#32
  ![v338.toNat, 0, 0]
def k0_off3 (d0 : Dev nD) (c0_i32_325 : BitVec 32) (c0_i32_310 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v504 : BitVec 32 := Scalar.addi v2 c0_i32_310
  let c1_i32_311 : BitVec 32 := 1#32
  let v505 : BitVec 32 := Scalar.addi v504 c1_i32_311
  let c32_i32_312 : BitVec 32 := 32#32
  let c0_i32_313 : BitVec 32 := 0#32
  let v506 : BitVec 1 := Scalar.cmpi .eq c32_i32_312 c0_i32_313
  let c1_i32_314 : BitVec 32 := 1#32
  let v507 : BitVec 32 := Scalar.select v506 c1_i32_314 c32_i32_312
  let v508 : BitVec 32 := Scalar.remsi v505 v507
  let c0_i32_316 : BitVec 32 := 0#32
  let v510 : BitVec 1 := Scalar.cmpi .slt v508 c0_i32_316
  let c0_i32_317 : BitVec 32 := 0#32
  let v511 : BitVec 1 := Scalar.cmpi .slt v507 c0_i32_317
  let v512 : BitVec 1 := Scalar.xori v510 v511
  let c0_i32_315 : BitVec 32 := 0#32
  let v509 : BitVec 1 := Scalar.cmpi .ne v508 c0_i32_315
  let v513 : BitVec 1 := Scalar.andi v512 v509
  let v514 : BitVec 32 := Scalar.addi v508 v507
  let v515 : BitVec 32 := Scalar.select v513 v514 v508
  let c4_i32_324 : BitVec 32 := 4#32
  let v520 : BitVec 32 := Scalar.muli v515 c4_i32_324
  let v521 : BitVec 32 := Scalar.addi c0_i32_325 v520
  let v522 : Index := Scalar.indexCast v521
  let c0_326 : Index := 0#32
  let c0_327 : Index := 0#32
  ![v522.toNat, 0, 0]
def k0_dev11 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_443 : BitVec 32 := 1#32
  let v720 : BitVec 32 := Scalar.muli v24 c1_i32_443
  let v721 : BitVec 32 := Scalar.addi c0_i32_444 v720
  v721.toNat
def k0_dev12 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_453 : BitVec 32 := 1#32
  let v730 : BitVec 32 := Scalar.muli v24 c1_i32_453
  let v731 : BitVec 32 := Scalar.addi c0_i32_454 v730
  v731.toNat
def k0_dev13 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v740 : BitVec 32 := Scalar.muli v13 c1_i32_463
  let v741 : BitVec 32 := Scalar.addi c0_i32_464 v740
  v741.toNat
def k0_dev14 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_473 : BitVec 32 := 1#32
  let v750 : BitVec 32 := Scalar.muli v13 c1_i32_473
  let v751 : BitVec 32 := Scalar.addi c0_i32_474 v750
  v751.toNat
def k0_dev15 (d0 : Dev nD) : Nat :=
  let c0_i32_703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_702 : BitVec 32 := 1#32
  let v1160 : BitVec 32 := Scalar.muli v24 c1_i32_702
  let v1161 : BitVec 32 := Scalar.addi c0_i32_703 v1160
  v1161.toNat
def k0_dev16 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_712 : BitVec 32 := 1#32
  let v1170 : BitVec 32 := Scalar.muli v24 c1_i32_712
  let v1171 : BitVec 32 := Scalar.addi c0_i32_713 v1170
  v1171.toNat
def k0_dev17 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_722 : BitVec 32 := 1#32
  let v1180 : BitVec 32 := Scalar.muli v13 c1_i32_722
  let v1181 : BitVec 32 := Scalar.addi c0_i32_723 v1180
  v1181.toNat
def k0_dev18 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_732 : BitVec 32 := 1#32
  let v1190 : BitVec 32 := Scalar.muli v13 c1_i32_732
  let v1191 : BitVec 32 := Scalar.addi c0_i32_733 v1190
  v1191.toNat
def k0_dev19 (d0 : Dev nD) : Nat :=
  let c0_i32_998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_997 : BitVec 32 := 1#32
  let v1624 : BitVec 32 := Scalar.muli v24 c1_i32_997
  let v1625 : BitVec 32 := Scalar.addi c0_i32_998 v1624
  v1625.toNat
def k0_dev20 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1007 : BitVec 32 := 1#32
  let v1634 : BitVec 32 := Scalar.muli v24 c1_i32_1007
  let v1635 : BitVec 32 := Scalar.addi c0_i32_1008 v1634
  v1635.toNat
def k0_dev21 (d0 : Dev nD) : Nat :=
  let c0_i32_1018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1017 : BitVec 32 := 1#32
  let v1644 : BitVec 32 := Scalar.muli v13 c1_i32_1017
  let v1645 : BitVec 32 := Scalar.addi c0_i32_1018 v1644
  v1645.toNat
def k0_dev22 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1027 : BitVec 32 := 1#32
  let v1654 : BitVec 32 := Scalar.muli v13 c1_i32_1027
  let v1655 : BitVec 32 := Scalar.addi c0_i32_1028 v1654
  v1655.toNat
def k0_dev23 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1293 : BitVec 32 := 1#32
  let v2088 : BitVec 32 := Scalar.muli v24 c1_i32_1293
  let v2089 : BitVec 32 := Scalar.addi c0_i32_1294 v2088
  v2089.toNat
def k0_dev24 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1303 : BitVec 32 := 1#32
  let v2098 : BitVec 32 := Scalar.muli v24 c1_i32_1303
  let v2099 : BitVec 32 := Scalar.addi c0_i32_1304 v2098
  v2099.toNat
def k0_dev25 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1313 : BitVec 32 := 1#32
  let v2108 : BitVec 32 := Scalar.muli v13 c1_i32_1313
  let v2109 : BitVec 32 := Scalar.addi c0_i32_1314 v2108
  v2109.toNat
def k0_dev26 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1323 : BitVec 32 := 1#32
  let v2118 : BitVec 32 := Scalar.muli v13 c1_i32_1323
  let v2119 : BitVec 32 := Scalar.addi c0_i32_1324 v2118
  v2119.toNat
def k0_dev27 (d0 : Dev nD) : Nat :=
  let c0_i32_1590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1589 : BitVec 32 := 1#32
  let v2552 : BitVec 32 := Scalar.muli v24 c1_i32_1589
  let v2553 : BitVec 32 := Scalar.addi c0_i32_1590 v2552
  v2553.toNat
def k0_dev28 (d0 : Dev nD) : Nat :=
  let c0_i32_1600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1599 : BitVec 32 := 1#32
  let v2562 : BitVec 32 := Scalar.muli v24 c1_i32_1599
  let v2563 : BitVec 32 := Scalar.addi c0_i32_1600 v2562
  v2563.toNat
def k0_dev29 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1609 : BitVec 32 := 1#32
  let v2572 : BitVec 32 := Scalar.muli v13 c1_i32_1609
  let v2573 : BitVec 32 := Scalar.addi c0_i32_1610 v2572
  v2573.toNat
def k0_dev30 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1619 : BitVec 32 := 1#32
  let v2582 : BitVec 32 := Scalar.muli v13 c1_i32_1619
  let v2583 : BitVec 32 := Scalar.addi c0_i32_1620 v2582
  v2583.toNat
def k0_dev31 (d0 : Dev nD) : Nat :=
  let c0_i32_1885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1884 : BitVec 32 := 1#32
  let v3016 : BitVec 32 := Scalar.muli v24 c1_i32_1884
  let v3017 : BitVec 32 := Scalar.addi c0_i32_1885 v3016
  v3017.toNat
def k0_dev32 (d0 : Dev nD) : Nat :=
  let c0_i32_1895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1894 : BitVec 32 := 1#32
  let v3026 : BitVec 32 := Scalar.muli v24 c1_i32_1894
  let v3027 : BitVec 32 := Scalar.addi c0_i32_1895 v3026
  v3027.toNat
def k0_dev33 (d0 : Dev nD) : Nat :=
  let c0_i32_1905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1904 : BitVec 32 := 1#32
  let v3036 : BitVec 32 := Scalar.muli v13 c1_i32_1904
  let v3037 : BitVec 32 := Scalar.addi c0_i32_1905 v3036
  v3037.toNat
def k0_dev34 (d0 : Dev nD) : Nat :=
  let c0_i32_1915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1914 : BitVec 32 := 1#32
  let v3046 : BitVec 32 := Scalar.muli v13 c1_i32_1914
  let v3047 : BitVec 32 := Scalar.addi c0_i32_1915 v3046
  v3047.toNat
def k0_dev35 (d0 : Dev nD) : Nat :=
  let c0_i32_2180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2179 : BitVec 32 := 1#32
  let v3480 : BitVec 32 := Scalar.muli v24 c1_i32_2179
  let v3481 : BitVec 32 := Scalar.addi c0_i32_2180 v3480
  v3481.toNat
def k0_dev36 (d0 : Dev nD) : Nat :=
  let c0_i32_2190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2189 : BitVec 32 := 1#32
  let v3490 : BitVec 32 := Scalar.muli v24 c1_i32_2189
  let v3491 : BitVec 32 := Scalar.addi c0_i32_2190 v3490
  v3491.toNat
def k0_dev37 (d0 : Dev nD) : Nat :=
  let c0_i32_2200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2199 : BitVec 32 := 1#32
  let v3500 : BitVec 32 := Scalar.muli v13 c1_i32_2199
  let v3501 : BitVec 32 := Scalar.addi c0_i32_2200 v3500
  v3501.toNat
def k0_dev38 (d0 : Dev nD) : Nat :=
  let c0_i32_2210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2209 : BitVec 32 := 1#32
  let v3510 : BitVec 32 := Scalar.muli v13 c1_i32_2209
  let v3511 : BitVec 32 := Scalar.addi c0_i32_2210 v3510
  v3511.toNat
def k0_dev39 (d0 : Dev nD) : Nat :=
  let c0_i32_2475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2474 : BitVec 32 := 1#32
  let v3944 : BitVec 32 := Scalar.muli v24 c1_i32_2474
  let v3945 : BitVec 32 := Scalar.addi c0_i32_2475 v3944
  v3945.toNat
def k0_dev40 (d0 : Dev nD) : Nat :=
  let c0_i32_2485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2484 : BitVec 32 := 1#32
  let v3954 : BitVec 32 := Scalar.muli v24 c1_i32_2484
  let v3955 : BitVec 32 := Scalar.addi c0_i32_2485 v3954
  v3955.toNat
def k0_dev41 (d0 : Dev nD) : Nat :=
  let c0_i32_2495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2494 : BitVec 32 := 1#32
  let v3964 : BitVec 32 := Scalar.muli v13 c1_i32_2494
  let v3965 : BitVec 32 := Scalar.addi c0_i32_2495 v3964
  v3965.toNat
def k0_dev42 (d0 : Dev nD) : Nat :=
  let c0_i32_2505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2504 : BitVec 32 := 1#32
  let v3974 : BitVec 32 := Scalar.muli v13 c1_i32_2504
  let v3975 : BitVec 32 := Scalar.addi c0_i32_2505 v3974
  v3975.toNat
def k0_dev43 (d0 : Dev nD) : Nat :=
  let c0_i32_2770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2769 : BitVec 32 := 1#32
  let v4408 : BitVec 32 := Scalar.muli v24 c1_i32_2769
  let v4409 : BitVec 32 := Scalar.addi c0_i32_2770 v4408
  v4409.toNat
def k0_dev44 (d0 : Dev nD) : Nat :=
  let c0_i32_2780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2779 : BitVec 32 := 1#32
  let v4418 : BitVec 32 := Scalar.muli v24 c1_i32_2779
  let v4419 : BitVec 32 := Scalar.addi c0_i32_2780 v4418
  v4419.toNat
def k0_dev45 (d0 : Dev nD) : Nat :=
  let c0_i32_2790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2789 : BitVec 32 := 1#32
  let v4428 : BitVec 32 := Scalar.muli v13 c1_i32_2789
  let v4429 : BitVec 32 := Scalar.addi c0_i32_2790 v4428
  v4429.toNat
def k0_dev46 (d0 : Dev nD) : Nat :=
  let c0_i32_2800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2799 : BitVec 32 := 1#32
  let v4438 : BitVec 32 := Scalar.muli v13 c1_i32_2799
  let v4439 : BitVec 32 := Scalar.addi c0_i32_2800 v4438
  v4439.toNat
def k0_dev47 (d0 : Dev nD) : Nat :=
  let c0_i32_3065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3064 : BitVec 32 := 1#32
  let v4872 : BitVec 32 := Scalar.muli v24 c1_i32_3064
  let v4873 : BitVec 32 := Scalar.addi c0_i32_3065 v4872
  v4873.toNat
def k0_dev48 (d0 : Dev nD) : Nat :=
  let c0_i32_3075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3074 : BitVec 32 := 1#32
  let v4882 : BitVec 32 := Scalar.muli v24 c1_i32_3074
  let v4883 : BitVec 32 := Scalar.addi c0_i32_3075 v4882
  v4883.toNat
def k0_dev49 (d0 : Dev nD) : Nat :=
  let c0_i32_3085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3084 : BitVec 32 := 1#32
  let v4892 : BitVec 32 := Scalar.muli v13 c1_i32_3084
  let v4893 : BitVec 32 := Scalar.addi c0_i32_3085 v4892
  v4893.toNat
def k0_dev50 (d0 : Dev nD) : Nat :=
  let c0_i32_3095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3094 : BitVec 32 := 1#32
  let v4902 : BitVec 32 := Scalar.muli v13 c1_i32_3094
  let v4903 : BitVec 32 := Scalar.addi c0_i32_3095 v4902
  v4903.toNat
def k0_dev51 (d0 : Dev nD) : Nat :=
  let c0_i32_3360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3359 : BitVec 32 := 1#32
  let v5336 : BitVec 32 := Scalar.muli v24 c1_i32_3359
  let v5337 : BitVec 32 := Scalar.addi c0_i32_3360 v5336
  v5337.toNat
def k0_dev52 (d0 : Dev nD) : Nat :=
  let c0_i32_3370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3369 : BitVec 32 := 1#32
  let v5346 : BitVec 32 := Scalar.muli v24 c1_i32_3369
  let v5347 : BitVec 32 := Scalar.addi c0_i32_3370 v5346
  v5347.toNat
def k0_dev53 (d0 : Dev nD) : Nat :=
  let c0_i32_3380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3379 : BitVec 32 := 1#32
  let v5356 : BitVec 32 := Scalar.muli v13 c1_i32_3379
  let v5357 : BitVec 32 := Scalar.addi c0_i32_3380 v5356
  v5357.toNat
def k0_dev54 (d0 : Dev nD) : Nat :=
  let c0_i32_3390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3389 : BitVec 32 := 1#32
  let v5366 : BitVec 32 := Scalar.muli v13 c1_i32_3389
  let v5367 : BitVec 32 := Scalar.addi c0_i32_3390 v5366
  v5367.toNat
def k0_dev55 (d0 : Dev nD) : Nat :=
  let c0_i32_3655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3654 : BitVec 32 := 1#32
  let v5800 : BitVec 32 := Scalar.muli v24 c1_i32_3654
  let v5801 : BitVec 32 := Scalar.addi c0_i32_3655 v5800
  v5801.toNat
def k0_dev56 (d0 : Dev nD) : Nat :=
  let c0_i32_3665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3664 : BitVec 32 := 1#32
  let v5810 : BitVec 32 := Scalar.muli v24 c1_i32_3664
  let v5811 : BitVec 32 := Scalar.addi c0_i32_3665 v5810
  v5811.toNat
def k0_dev57 (d0 : Dev nD) : Nat :=
  let c0_i32_3675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3674 : BitVec 32 := 1#32
  let v5820 : BitVec 32 := Scalar.muli v13 c1_i32_3674
  let v5821 : BitVec 32 := Scalar.addi c0_i32_3675 v5820
  v5821.toNat
def k0_dev58 (d0 : Dev nD) : Nat :=
  let c0_i32_3685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3684 : BitVec 32 := 1#32
  let v5830 : BitVec 32 := Scalar.muli v13 c1_i32_3684
  let v5831 : BitVec 32 := Scalar.addi c0_i32_3685 v5830
  v5831.toNat
def k0_dev59 (d0 : Dev nD) : Nat :=
  let c0_i32_3950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3949 : BitVec 32 := 1#32
  let v6264 : BitVec 32 := Scalar.muli v24 c1_i32_3949
  let v6265 : BitVec 32 := Scalar.addi c0_i32_3950 v6264
  v6265.toNat
def k0_dev60 (d0 : Dev nD) : Nat :=
  let c0_i32_3960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3959 : BitVec 32 := 1#32
  let v6274 : BitVec 32 := Scalar.muli v24 c1_i32_3959
  let v6275 : BitVec 32 := Scalar.addi c0_i32_3960 v6274
  v6275.toNat
def k0_dev61 (d0 : Dev nD) : Nat :=
  let c0_i32_3970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3969 : BitVec 32 := 1#32
  let v6284 : BitVec 32 := Scalar.muli v13 c1_i32_3969
  let v6285 : BitVec 32 := Scalar.addi c0_i32_3970 v6284
  v6285.toNat
def k0_dev62 (d0 : Dev nD) : Nat :=
  let c0_i32_3980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3979 : BitVec 32 := 1#32
  let v6294 : BitVec 32 := Scalar.muli v13 c1_i32_3979
  let v6295 : BitVec 32 := Scalar.addi c0_i32_3980 v6294
  v6295.toNat
def k0_dev63 (d0 : Dev nD) : Nat :=
  let c0_i32_4245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4244 : BitVec 32 := 1#32
  let v6728 : BitVec 32 := Scalar.muli v24 c1_i32_4244
  let v6729 : BitVec 32 := Scalar.addi c0_i32_4245 v6728
  v6729.toNat
def k0_dev64 (d0 : Dev nD) : Nat :=
  let c0_i32_4255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4254 : BitVec 32 := 1#32
  let v6738 : BitVec 32 := Scalar.muli v24 c1_i32_4254
  let v6739 : BitVec 32 := Scalar.addi c0_i32_4255 v6738
  v6739.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S64x128x512 : Shape := ⟨3, ![64, 128, 512]⟩
abbrev S512x8192 : Shape := ⟨2, ![512, 8192]⟩
abbrev S64x128x128x64 : Shape := ⟨4, ![64, 128, 128, 64]⟩
abbrev S8192x512 : Shape := ⟨2, ![8192, 512]⟩
abbrev S64x128x8192 : Shape := ⟨3, ![64, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S64x128x128x128 : Shape := ⟨4, ![64, 128, 128, 128]⟩
abbrev S1x1x128x128 : Shape := ⟨4, ![1, 1, 128, 128]⟩
abbrev S64x128x128 : Shape := ⟨3, ![64, 128, 128]⟩
abbrev S64x128x128x1 : Shape := ⟨4, ![64, 128, 128, 1]⟩
abbrev S1x1x128x1 : Shape := ⟨4, ![1, 1, 128, 1]⟩
abbrev S64x128x64x128 : Shape := ⟨4, ![64, 128, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S64x128x512, .f32⟩
  | .hbm, ⟨1, _⟩ => ⟨S512x8192, .f32⟩
  | .hbm, ⟨2, _⟩ => ⟨S64x128x128x64, .f32⟩
  | .hbm, ⟨3, _⟩ => ⟨S64x128x128x64, .f32⟩
  | .hbm, ⟨4, _⟩ => ⟨S8192x512, .f32⟩
  | .hbm, ⟨5, _⟩ => ⟨S64x128x8192, .f32⟩
  | .hbm, ⟨6, _⟩ => ⟨S64x128x128x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S64x128x128x128, .f32⟩
  | .hbm, ⟨19, _⟩ => ⟨S_, .f32⟩
  | .hbm, ⟨20, _⟩ => ⟨S64x128x128x128, .f32⟩
  | .hbm, ⟨21, _⟩ => ⟨S64x128x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S64x128x128x128, .i1⟩
  | .hbm, ⟨26, _⟩ => ⟨S64x128x128x128, .f32⟩
  | .hbm, ⟨27, _⟩ => ⟨S64x128x128x128, .f32⟩
  | .hbm, ⟨28, _⟩ => ⟨S_, .f32⟩
  | .hbm, ⟨29, _⟩ => ⟨S64x128x128, .f32⟩
  | .hbm, ⟨30, _⟩ => ⟨S64x128x128x1, .f32⟩
  | .hbm, ⟨31, _⟩ => ⟨S64x128x128x128, .f32⟩
  | .hbm, ⟨32, _⟩ => ⟨S64x128x128x128, .f32⟩
  | .hbm, ⟨33, _⟩ => ⟨S64x128x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S64x128x128, .f32⟩
  | .hbm, ⟨39, _⟩ => ⟨S64x128x128x1, .f32⟩
  | .hbm, ⟨40, _⟩ => ⟨S_, .f32⟩
  | .hbm, ⟨41, _⟩ => ⟨S_, .f32⟩
  | .hbm, ⟨42, _⟩ => ⟨S64x128x128x1, .i1⟩
  | .hbm, ⟨43, _⟩ => ⟨S64x128x128x1, .f32⟩
  | .hbm, ⟨44, _⟩ => ⟨S64x128x128x1, .f32⟩
  | .hbm, ⟨45, _⟩ => ⟨S64x128x128x128, .f32⟩
  | .hbm, ⟨46, _⟩ => ⟨S64x128x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S64x128x128x128, .i1⟩
  | .hbm, ⟨51, _⟩ => ⟨S64x128x128x128, .f32⟩
  | .hbm, ⟨52, _⟩ => ⟨S64x128x128x128, .f32⟩
  | .hbm, ⟨53, _⟩ => ⟨S64x128x64x128, .f32⟩
  | .hbm, ⟨54, _⟩ => ⟨S64x128x128x64, .f32⟩
  | .hbm, ⟨55, _⟩ => ⟨S64x128x8192, .f32⟩
  | .hbm, ⟨56, _⟩ => ⟨S64x128x512, .f32⟩
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Body.lean ====
/- The kernel's body once more, as it is read: a prologue, one contribution of one pair of weight blocks, one round of the
   two rings at a symbolic round number, an epilogue; and the statement that the printed body is this text. -/
module

public import proofs.«01_k».proof.Proof.Gen.KernelIdeal

@[expose] public section

noncomputable section

namespace Cert.KernelIdeal.Ring

open Idealize.ShloMosaic Idealize.SL.Sem
open Cert.KernelIdeal Cert.KernelIdeal.Gen

variable {F : FTy → Type} [FloatOps F]

/-- Four heads of one array of heads laid out block-diagonally: head `h` in rows `128h…` and columns `64h…`, zeros elsewhere. -/
def blockDiag (kv : Vec F S4x128x64 .f32) : FVec F S512x256 .f32 :=
  have b0 : FVec F S4x128x64 .f32 := shapeCast S4x128x64 kv shapeCasts_S4x128x64_S4x128x64
  have b1 : FVec F S1x128x64 .f32 := extractStridedSlice S1x128x64 ![0, 0, 0] b0 slices_S4x128x64_o0_0_0_S1x128x64
  have b2 : FVec F S128x64 .f32 := shapeCast S128x64 b1 shapeCasts_S1x128x64_S128x64
  have z0 : F .f32 := Scalar.ofBits .f32 0x00000000#32
  have b3 : FVec F S128x192 .f32 := broadcast S128x192 z0
  have b4 : FVec F S128x256 .f32 := concatenate S128x256 1 [⟨S128x64, b2⟩, ⟨S128x192, b3⟩] concatenates_S128x64_S128x192_S128x256_d1
  have z1 : F .f32 := Scalar.ofBits .f32 0x00000000#32
  have b5 : FVec F S128x64 .f32 := broadcast S128x64 z1
  have b6 : FVec F S1x128x64 .f32 := extractStridedSlice S1x128x64 ![1, 0, 0] b0 slices_S4x128x64_o1_0_0_S1x128x64
  have b7 : FVec F S128x64 .f32 := shapeCast S128x64 b6 shapeCasts_S1x128x64_S128x64
  have z2 : F .f32 := Scalar.ofBits .f32 0x00000000#32
  have b8 : FVec F S128x128 .f32 := broadcast S128x128 z2
  have b9 : FVec F S128x256 .f32 := concatenate S128x256 1 [⟨S128x64, b5⟩, ⟨S128x64, b7⟩, ⟨S128x128, b8⟩] concatenates_S128x64_S128x64_S128x128_S128x256_d1
  have z3 : F .f32 := Scalar.ofBits .f32 0x00000000#32
  have b10 : FVec F S128x128 .f32 := broadcast S128x128 z3
  have b11 : FVec F S1x128x64 .f32 := extractStridedSlice S1x128x64 ![2, 0, 0] b0 slices_S4x128x64_o2_0_0_S1x128x64
  have b12 : FVec F S128x64 .f32 := shapeCast S128x64 b11 shapeCasts_S1x128x64_S128x64
  have z4 : F .f32 := Scalar.ofBits .f32 0x00000000#32
  have b13 : FVec F S128x64 .f32 := broadcast S128x64 z4
  have b14 : FVec F S128x256 .f32 := concatenate S128x256 1 [⟨S128x128, b10⟩, ⟨S128x64, b12⟩, ⟨S128x64, b13⟩] concatenates_S128x128_S128x64_S128x64_S128x256_d1
  have z5 : F .f32 := Scalar.ofBits .f32 0x00000000#32
  have b15 : FVec F S128x192 .f32 := broadcast S128x192 z5
  have b16 : FVec F S1x128x64 .f32 := extractStridedSlice S1x128x64 ![3, 0, 0] b0 slices_S4x128x64_o3_0_0_S1x128x64
  have b17 : FVec F S128x64 .f32 := shapeCast S128x64 b16 shapeCasts_S1x128x64_S128x64
  have b18 : FVec F S128x256 .f32 := concatenate S128x256 1 [⟨S128x192, b15⟩, ⟨S128x64, b17⟩] concatenates_S128x192_S128x64_S128x256_d1
  have b19 : FVec F S512x256 .f32 := concatenate S512x256 0 [⟨S128x256, b4⟩, ⟨S128x256, b9⟩, ⟨S128x256, b14⟩, ⟨S128x256, b18⟩] concatenates_S128x256_S128x256_S128x256_S128x256_S512x256_d0
  b19

/-- Attention of one batch row's four heads and its product with one block of `Wo`: from the row of `x`, a block of `Wq`, the
    block-diagonal keys and values, a block of `Wo`. -/
def attn (x : Vec F S1x128x512 .f32) (wq : FVec F S512x256 .f32) (kbd vbd : FVec F S512x256 .f32) (wo : FVec F S256x512 .f32) :
    FVec F S128x512 .f32 :=
  have a0 : FVec F S128x512 .f32 := shapeCast S128x512 x shapeCasts_S1x128x512_S128x512
  have z0 : FVec F S128x256 .f32 := constant S128x256 .f32 0x00000000#32
  have a1 : FVec F S128x256 .f32 := matmul dot_S128x512_S512x256_S128x256_1_0_0_1_n_n none a0 wq z0
  have z1 : FVec F S128x512 .f32 := constant S128x512 .f32 0x00000000#32
  have a2 : FVec F S128x512 .f32 := matmul dot_S128x256_S512x256_S128x512_1_1_0_0_n_n none a1 kbd z1
  have z2 : F .f32 := Scalar.ofBits .f32 0x3E000000#32
  have a3 : FVec F S128x512 .f32 := broadcast S128x512 z2
  have a4 : FVec F S128x512 .f32 := mulf a2 a3
  have a5 : FVec F S128x512 .f32 := exp a4
  have a6 : FVec F S128x128 .f32 := extractStridedSlice S128x128 ![0, 0] a5 slices_S128x512_o0_0_S128x128
  have z3 : FVec F S128 .f32 := constant S128 .f32 0x00000000#32
  have a7 : FVec F S128 .f32 := multiReduction .add [1] S128 a6 0x00000000#32 reduces_S128x128_S128 (.inl rfl) rfl
  have a8 : FVec F S128x1 .f32 := shapeCast S128x1 a7 shapeCasts_S128_S128x1
  have a9 : FVec F S128x128 .f32 := broadcastTo S128x128 a8 broadcasts_S128x1_S128x128
  have a10 : FVec F S128x128 .f32 := divf a6 a9
  have a11 : FVec F S128x128 .f32 := extractStridedSlice S128x128 ![0, 128] a5 slices_S128x512_o0_128_S128x128
  have z4 : FVec F S128 .f32 := constant S128 .f32 0x00000000#32
  have a12 : FVec F S128 .f32 := multiReduction .add [1] S128 a11 0x00000000#32 reduces_S128x128_S128 (.inl rfl) rfl
  have a13 : FVec F S128x1 .f32 := shapeCast S128x1 a12 shapeCasts_S128_S128x1
  have a14 : FVec F S128x128 .f32 := broadcastTo S128x128 a13 broadcasts_S128x1_S128x128
  have a15 : FVec F S128x128 .f32 := divf a11 a14
  have a16 : FVec F S128x128 .f32 := extractStridedSlice S128x128 ![0, 256] a5 slices_S128x512_o0_256_S128x128
  have z5 : FVec F S128 .f32 := constant S128 .f32 0x00000000#32
  have a17 : FVec F S128 .f32 := multiReduction .add [1] S128 a16 0x00000000#32 reduces_S128x128_S128 (.inl rfl) rfl
  have a18 : FVec F S128x1 .f32 := shapeCast S128x1 a17 shapeCasts_S128_S128x1
  have a19 : FVec F S128x128 .f32 := broadcastTo S128x128 a18 broadcasts_S128x1_S128x128
  have a20 : FVec F S128x128 .f32 := divf a16 a19
  have a21 : FVec F S128x128 .f32 := extractStridedSlice S128x128 ![0, 384] a5 slices_S128x512_o0_384_S128x128
  have z6 : FVec F S128 .f32 := constant S128 .f32 0x00000000#32
  have a22 : FVec F S128 .f32 := multiReduction .add [1] S128 a21 0x00000000#32 reduces_S128x128_S128 (.inl rfl) rfl
  have a23 : FVec F S128x1 .f32 := shapeCast S128x1 a22 shapeCasts_S128_S128x1
  have a24 : FVec F S128x128 .f32 := broadcastTo S128x128 a23 broadcasts_S128x1_S128x128
  have a25 : FVec F S128x128 .f32 := divf a21 a24
  have a26 : FVec F S128x512 .f32 := concatenate S128x512 1 [⟨S128x128, a10⟩, ⟨S128x128, a15⟩, ⟨S128x128, a20⟩, ⟨S128x128, a25⟩] concatenates_S128x128_S128x128_S128x128_S128x128_S128x512_d1
  have z7 : FVec F S128x256 .f32 := constant S128x256 .f32 0x00000000#32
  have a27 : FVec F S128x256 .f32 := matmul dot_S128x512_S512x256_S128x256_1_0_0_1_n_n none a26 vbd z7
  have z8 : FVec F S128x512 .f32 := constant S128x512 .f32 0x00000000#32
  have a28 : FVec F S128x512 .f32 := matmul dot_S128x256_S256x512_S128x512_1_0_0_1_n_n none a27 wo z8
  a28

/-! ## Slots -/

/-- The slot a round number selects. -/
abbrev slotOf (t : ℕ) : Fin 4 := ⟨t % 4, Nat.mod_lt _ (by decide)⟩

theorem inbQ (s : Fin 4) : ∀ a, (![s.val, 0, 0] : Fin 3 → ℕ) a + S1x512x256.size a ≤ S4x512x256.size a := by revert s; decide
theorem inbO (s : Fin 4) : ∀ a, (![s.val, 0, 0] : Fin 3 → ℕ) a + S1x256x512.size a ≤ S4x256x512.size a := by revert s; decide
theorem inbS (s : Fin 4) : ∀ a, (![s.val] : Fin 1 → ℕ) a + S1.size a ≤ S4.size a := by revert s; decide
theorem inbX (b : Fin 2) : ∀ a, (![b.val, 0, 0] : Fin 3 → ℕ) a + S1x128x512.size a ≤ S2x128x512.size a := by revert b; decide

abbrev rectQ (s : Fin 4) := Rect.unit (s := S4x512x256) ![s.val, 0, 0] S1x512x256.size (inbQ s)
abbrev rectO (s : Fin 4) := Rect.unit (s := S4x256x512) ![s.val, 0, 0] S1x256x512.size (inbO s)
abbrev rectX (b : Fin 2) := Rect.unit (s := S2x128x512) ![b.val, 0, 0] S1x128x512.size (inbX b)

/-- Slot `s` of a ring of blocks of `Wq`. -/
abbrev slotQ (M : Memref sig .tc .vmem S4x512x256 .f32) (s : Fin 4) : Memref sig .tc .vmem S512x256 .f32 :=
  (M.slice (rectQ s) (fun _ => rfl)).squeeze S512x256 squeezes_S1x512x256_S512x256
/-- Slot `s` of a ring of blocks of `Wo`. -/
abbrev slotO (M : Memref sig .tc .vmem S4x256x512 .f32) (s : Fin 4) : Memref sig .tc .vmem S256x512 .f32 :=
  (M.slice (rectO s) (fun _ => rfl)).squeeze S256x512 squeezes_S1x256x512_S256x512
/-- Semaphore `s` of an array of four. -/
abbrev semOf (a : DmaSems sig S4) (s : Fin 4) :=
  ((a.slice (Rect.unit (s := S4) ![s.val] S1.size (inbS s))).squeeze S_ squeezes_S1_S_).sem

abbrev BProg (F : FTy → Type) := Prog (TpuEff nD τ sig (Elt F) Λ₀ .tc)

/-- Start the send of a slot of `Wq` into the next slot of a neighbour. -/
def sendQ (M : Memref sig .tc .vmem S4x512x256 .f32) (ss rs : DmaSems sig S4) (dev : Dev nD) (t : ℕ) : BProg F PUnit :=
  Prog.lift (.enqueueDma (slotQ M (slotOf t)) (.remote (Dev.tc dev) (slotQ M (slotOf (t + 1))) (.dma (semOf ss (slotOf t))))
    (.dma (semOf rs (slotOf (t + 1)))) ((View.wordExact_bits rfl).reshape _ _) ((View.wordExact_bits rfl).reshape _ _) ⟨⟨rfl, Or.inl rfl⟩, trivial⟩)
/-- Start the send of a slot of `Wo`. -/
def sendO (M : Memref sig .tc .vmem S4x256x512 .f32) (ss rs : DmaSems sig S4) (dev : Dev nD) (t : ℕ) : BProg F PUnit :=
  Prog.lift (.enqueueDma (slotO M (slotOf t)) (.remote (Dev.tc dev) (slotO M (slotOf (t + 1))) (.dma (semOf ss (slotOf t))))
    (.dma (semOf rs (slotOf (t + 1)))) ((View.wordExact_bits rfl).reshape _ _) ((View.wordExact_bits rfl).reshape _ _) ⟨⟨rfl, Or.inl rfl⟩, trivial⟩)

/-- Wait until transfer `t` of `Wq` has landed. -/
def recvQ (M : Memref sig .tc .vmem S4x512x256 .f32) (rs : DmaSems sig S4) (t : ℕ) : BProg F PUnit :=
  Prog.lift (.waitDma2 (semOf rs (slotOf (t + 1))) (slotQ M (slotOf t)) (slotQ M (slotOf (t + 1)))
    ((View.wordExact_bits rfl).reshape _ _) ((View.wordExact_bits rfl).reshape _ _))
def recvO (M : Memref sig .tc .vmem S4x256x512 .f32) (rs : DmaSems sig S4) (t : ℕ) : BProg F PUnit :=
  Prog.lift (.waitDma2 (semOf rs (slotOf (t + 1))) (slotO M (slotOf t)) (slotO M (slotOf (t + 1)))
    ((View.wordExact_bits rfl).reshape _ _) ((View.wordExact_bits rfl).reshape _ _))
/-- Wait until transfer `t` of `Wq` has left. -/
def sentQ (M : Memref sig .tc .vmem S4x512x256 .f32) (ss : DmaSems sig S4) (t : ℕ) : BProg F PUnit :=
  Prog.lift (.waitDma2 (semOf ss (slotOf t)) (slotQ M (slotOf (t + 1))) (slotQ M (slotOf t))
    ((View.wordExact_bits rfl).reshape _ _) ((View.wordExact_bits rfl).reshape _ _))
def sentO (M : Memref sig .tc .vmem S4x256x512 .f32) (ss : DmaSems sig S4) (t : ℕ) : BProg F PUnit :=
  Prog.lift (.waitDma2 (semOf ss (slotOf t)) (slotO M (slotOf (t + 1))) (slotO M (slotOf t))
    ((View.wordExact_bits rfl).reshape _ _) ((View.wordExact_bits rfl).reshape _ _))

/-- The block of `Wq` in a slot. -/
def getQ (M : Memref sig .tc .vmem S4x512x256 .f32) (s : Fin 4) : BProg F (Vec F S1x512x256 .f32) :=
  Prog.lift (.load M (rectQ s).toLoadRect (View.loadsAt_vmem h_S1x512x256))
def getO (M : Memref sig .tc .vmem S4x256x512 .f32) (s : Fin 4) : BProg F (Vec F S1x256x512 .f32) :=
  Prog.lift (.load M (rectO s).toLoadRect (View.loadsAt_vmem h_S1x256x512))
def putQ (M : Memref sig .tc .vmem S4x512x256 .f32) (w : FVec F S1x512x256 .f32) : BProg F PUnit := do
  let _ ← getQ M 0
  Prog.lift (.store M (rectQ 0) w Finset.univ (View.stores_vmem_bits_univ h_S1x512x256 rfl) (.inl rfl))
def putO (M : Memref sig .tc .vmem S4x256x512 .f32) (w : FVec F S1x256x512 .f32) : BProg F PUnit := do
  let _ ← getO M 0
  Prog.lift (.store M (rectO 0) w Finset.univ (View.stores_vmem_bits_univ h_S1x256x512 rfl) (.inl rfl))

/-- The body's arguments: the six windows' buffers, the four rings of four slots, the rings' semaphores. -/
structure Refs where
  x : Memref sig .tc .vmem S2x128x512 .f32
  wq : Memref sig .tc .vmem S512x256 .f32
  k : Memref sig .tc .vmem S256x128x64 .f32
  v : Memref sig .tc .vmem S256x128x64 .f32
  wo : Memref sig .tc .vmem S256x512 .f32
  out : Memref sig .tc .vmem S2x128x512 .f32
  bqr : Memref sig .tc .vmem S4x512x256 .f32
  bor : Memref sig .tc .vmem S4x256x512 .f32
  bql : Memref sig .tc .vmem S4x512x256 .f32
  bol : Memref sig .tc .vmem S4x256x512 .f32
  sqr : DmaSems sig S4
  rqr : DmaSems sig S4
  sor : DmaSems sig S4
  ror : DmaSems sig S4
  sql : DmaSems sig S4
  rql : DmaSems sig S4
  sol : DmaSems sig S4
  rol : DmaSems sig S4

/-- Four heads of keys or values, from row `off` on. -/
def getKV (M : Memref sig .tc .vmem S256x128x64 .f32) (off : Fin 3 → ℕ) (h : ∀ a, off a + S4x128x64.size a ≤ S256x128x64.size a) :
    BProg F (Vec F S4x128x64 .f32) :=
  Prog.lift (.load M (Rect.unit (s := S256x128x64) off S4x128x64.size h).toLoadRect (View.loadsAt_vmem h_S4x128x64))
def getX (M : Memref sig .tc .vmem S2x128x512 .f32) (b : Fin 2) : BProg F (Vec F S1x128x512 .f32) :=
  Prog.lift (.load M (rectX b).toLoadRect (View.loadsAt_vmem h_S1x128x512))
def putX (M : Memref sig .tc .vmem S2x128x512 .f32) (b : Fin 2) (w : FVec F S1x128x512 .f32) : BProg F PUnit :=
  Prog.lift (.store M (rectX b) w Finset.univ (View.stores_vmem_bits_univ h_S1x128x512 rfl) (.inl rfl))

/-- The first contribution to one batch row: the output row is overwritten. -/
def first (A : Refs) (b : Fin 2) (off : Fin 3 → ℕ) (h : ∀ a, off a + S4x128x64.size a ≤ S256x128x64.size a)
    (wq : FVec F S512x256 .f32) (wo : FVec F S256x512 .f32) : BProg F PUnit := do
  let k ← getKV A.k off h
  let v ← getKV A.v off h
  let x ← getX A.x b
  let _ ← getX A.out b
  putX A.out b (shapeCast S1x128x512 (attn x wq (blockDiag k) (blockDiag v) wo) shapeCasts_S128x512_S1x128x512)

/-- A later contribution to one batch row: it is added to the output row. -/
def more (A : Refs) (b : Fin 2) (off : Fin 3 → ℕ) (h : ∀ a, off a + S4x128x64.size a ≤ S256x128x64.size a)
    (wq : FVec F S512x256 .f32) (wo : FVec F S256x512 .f32) : BProg F PUnit := do
  let k ← getKV A.k off h
  let v ← getKV A.v off h
  let x ← getX A.x b
  let o ← getX A.out b
  let _ ← getX A.out b
  putX A.out b (shapeCast S1x128x512 (addf (shapeCast S128x512 o shapeCasts_S1x128x512_S128x512)
    (attn x wq (blockDiag k) (blockDiag v) wo)) shapeCasts_S128x512_S1x128x512)
abbrev rightOf (d : Dev nD) : Dev nD := ⟨k0_dev3 d, k0_dev3_lt d⟩
abbrev leftOf (d : Dev nD) : Dev nD := ⟨k0_dev5 d, k0_dev5_lt d⟩

/-- The two sends of the right ring, the two of the left ring. -/
def sendR (A : Refs) (d : Dev nD) (t : ℕ) : BProg F PUnit := do
  sendQ A.bqr A.sqr A.rqr (rightOf d) t
  sendO A.bor A.sor A.ror (rightOf d) t
def sendL (A : Refs) (d : Dev nD) (t : ℕ) : BProg F PUnit := do
  sendQ A.bql A.sql A.rql (leftOf d) t
  sendO A.bol A.sol A.rol (leftOf d) t
def recvR (A : Refs) (t : ℕ) : BProg F PUnit := do
  recvQ A.bqr A.rqr t
  recvO A.bor A.ror t
def recvL (A : Refs) (t : ℕ) : BProg F PUnit := do
  recvQ A.bql A.rql t
  recvO A.bol A.rol t
def sentR (A : Refs) (t : ℕ) : BProg F PUnit := do
  sentQ A.bqr A.sqr t
  sentO A.bor A.sor t
def sentL (A : Refs) (t : ℕ) : BProg F PUnit := do
  sentQ A.bql A.sql t
  sentO A.bol A.sol t

/-- The two contributions of the blocks round `t` brought from the left. -/
def useR (A : Refs) (d : Dev nD) (t : Fin 16) : BProg F PUnit := do
  let wq ← getQ A.bqr (slotOf (t.val + 1))
  let wo ← getO A.bor (slotOf (t.val + 1))
  more A 0 _ (k0_off2_inb d 0 t) (shapeCast S512x256 wq shapeCasts_S1x512x256_S512x256) (shapeCast S256x512 wo shapeCasts_S1x256x512_S256x512)
  more A 1 _ (k0_off2_inb d 1 t) (shapeCast S512x256 wq shapeCasts_S1x512x256_S512x256) (shapeCast S256x512 wo shapeCasts_S1x256x512_S256x512)
/-- The two contributions of the blocks round `t` brought from the right. -/
def useL (A : Refs) (d : Dev nD) (t : Fin 15) : BProg F PUnit := do
  let wq ← getQ A.bql (slotOf (t.val + 1))
  let wo ← getO A.bol (slotOf (t.val + 1))
  more A 0 _ (k0_off3_inb d 0 t) (shapeCast S512x256 wq shapeCasts_S1x512x256_S512x256) (shapeCast S256x512 wo shapeCasts_S1x256x512_S256x512)
  more A 1 _ (k0_off3_inb d 1 t) (shapeCast S512x256 wq shapeCasts_S1x512x256_S512x256) (shapeCast S256x512 wo shapeCasts_S1x256x512_S256x512)

/-- Round `t` of the rings, for the rounds in which both rings receive. -/
def round (A : Refs) (d : Dev nD) (t : Fin 15) : BProg F PUnit := do
  recvR A t.val
  recvL A t.val
  if 3 ≤ t.val then (do
    sentR A (t.val - 3)
    sentL A (t.val - 3)) else pure ⟨⟩
  sendR A d (t.val + 1)
  if t.val + 1 < 15 then sendL A d (t.val + 1) else pure ⟨⟩
  useR A d ⟨t.val, by omega⟩
  useL A d t

/-- `n` rounds from round `t` on. -/
def rounds (A : Refs) (d : Dev nD) : ℕ → ℕ → BProg F PUnit
  | 0, _ => pure ⟨⟩
  | n + 1, t => do
    if h : t < 15 then round A d ⟨t, h⟩ else pure ⟨⟩
    rounds A d n (t + 1)

/-- Signal both neighbours and wait for both. -/
def meet (d : Dev nD) : BProg F PUnit := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32

/-- The own blocks put in the rings' first slots, the first sends, the own contribution. -/
def own (A : Refs) (d : Dev nD) : BProg F PUnit := do
  let wq ← Prog.lift (.load A.wq (Rect.unit (s := S512x256) ![0, 0] S512x256.size inb_S512x256_S512x256_0_0).toLoadRect (View.loadsAt_vmem h_S512x256))
  let wo ← Prog.lift (.load A.wo (Rect.unit (s := S256x512) ![0, 0] S256x512.size inb_S256x512_S256x512_0_0).toLoadRect (View.loadsAt_vmem h_S256x512))
  putQ A.bqr (shapeCast S1x512x256 (shapeCast S512x256 wq shapeCasts_S512x256_S512x256) shapeCasts_S512x256_S1x512x256)
  putO A.bor (shapeCast S1x256x512 (shapeCast S256x512 wo shapeCasts_S256x512_S256x512) shapeCasts_S256x512_S1x256x512)
  putQ A.bql (shapeCast S1x512x256 (shapeCast S512x256 wq shapeCasts_S512x256_S512x256) shapeCasts_S512x256_S1x512x256)
  putO A.bol (shapeCast S1x256x512 (shapeCast S256x512 wo shapeCasts_S256x512_S256x512) shapeCasts_S256x512_S1x256x512)
  sendR A d 0
  sendL A d 0
  first A 0 _ (k0_off1_inb d 0) (shapeCast S512x256 wq shapeCasts_S512x256_S512x256) (shapeCast S256x512 wo shapeCasts_S256x512_S256x512)
  first A 1 _ (k0_off1_inb d 1) (shapeCast S512x256 wq shapeCasts_S512x256_S512x256) (shapeCast S256x512 wo shapeCasts_S256x512_S256x512)

/-- The last round of the right ring and the waits left over. -/
def finish (A : Refs) (d : Dev nD) : BProg F PUnit := do
  recvR A 15
  useR A d 15
  sentR A 12
  sentL A 12
  sentR A 13
  sentL A 13
  sentR A 14
  sentL A 14
  sentR A 15

/-- The body. -/
def ringBody (A : Refs) : BProg F PUnit := do
  let d ← Prog.lift .deviceId
  meet d
  own A d
  rounds A d 15 0
  finish A d
end Cert.KernelIdeal.Ring

end
-- ==== Proof.Soft.lean ====
/- Attention weights over the extended reals: subtracting the row's maximum changes nothing when the scores are finite. -/
module

public import Idealize.ShloMosaic.Lib.Pointwise
public import Idealize.ShloMosaic.Lib.Pipeline.ValueKit

@[expose] public section

noncomputable section

namespace Cert.Attn

open Idealize.ShloMosaic

/-- A finite extended real. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.sum {ι : Type} (s : Finset ι) (f : ι → EReal) (h : ∀ i, Fin' (f i)) : Fin' (∑ i ∈ s, f i) := by
  classical
  induction s using Finset.induction with
  | empty => exact ⟨0, by simp⟩
  | insert a t ha ih => rw [Finset.sum_insert ha]; exact (h a).add ih

theorem coe_sum {ι : Type} (s : Finset ι) (f : ι → ℝ) : (∑ i ∈ s, (f i : EReal)) = ((∑ i ∈ s, f i : ℝ) : EReal) := by
  classical
  induction s using Finset.induction with
  | empty => simp
  | insert a t ha ih => rw [Finset.sum_insert ha, Finset.sum_insert ha, ih, EReal.coe_add]

/-- The weight of key `j` from a row of scores. -/
def wt {n : ℕ} (s : Fin n → EReal) (j : Fin n) : EReal := Ideal.div (Ideal.exp (s j)) (∑ j', Ideal.exp (s j'))

/-- The weight from finite scores is the real softmax. -/
theorem wt_coe {n : ℕ} (r : Fin n → ℝ) (j : Fin n) :
    wt (fun j => (r j : EReal)) j = ((Real.exp (r j) / ∑ j', Real.exp (r j') : ℝ) : EReal) := by
  have hpos : 0 < ∑ j', Real.exp (r j') := Finset.sum_pos (fun i _ => Real.exp_pos _) ⟨j, Finset.mem_univ _⟩
  unfold wt
  simp only [Ideal.exp_coe]
  rw [coe_sum, Ideal.div_coe hpos.ne', ← EReal.coe_mul, mul_one_div]

/-- A common finite shift of the scores leaves the weights. -/
theorem wt_shift {n : ℕ} (s : Fin n → EReal) (hs : ∀ j, Fin' (s j)) (M : EReal) (hM : Fin' M) (j : Fin n) :
    wt (fun j => s j - M) j = wt s j := by
  choose r hr using hs
  obtain ⟨m, rfl⟩ := hM
  have e : s = fun j => (r j : EReal) := funext hr
  have e' : (fun j => s j - (m : EReal)) = fun j => ((r j - m : ℝ) : EReal) := by
    funext j
    rw [hr j, EReal.coe_sub]
  rw [e', e, wt_coe, wt_coe]
  congr 1
  simp only [Real.exp_sub]
  rw [← Finset.sum_div]
  exact div_div_div_cancel_right₀ (Real.exp_ne_zero m) _ _

/-- The maximum of a nonempty row of finite scores is finite. -/
theorem fin_max {n : ℕ} [NeZero n] (s : Fin n → EReal) (hs : ∀ j, Fin' (s j)) :
    Fin' ((Finset.univ : Finset (Fin n)).fold max ⊥ s) := by
  choose r hr using hs
  have h1 : (Finset.univ : Finset (Fin n)).fold max ⊥ s < ⊤ :=
    (Finset.fold_max_lt _).2 ⟨bot_lt_top, fun j _ => by rw [hr j]; exact EReal.coe_lt_top _⟩
  have h2 : ⊥ < (Finset.univ : Finset (Fin n)).fold max ⊥ s :=
    (Finset.lt_fold_max _).2 (.inr ⟨0, Finset.mem_univ _, by rw [hr 0]; exact EReal.bot_lt_coe _⟩)
  exact ⟨_, (EReal.coe_toReal h1.ne h2.ne').symm⟩

/-! ## One head -/

/-- A query entry: a row of `x` against a column of `Wq`. -/
def qry (x : Fin 512 → EReal) (w : Fin 512 → EReal) : EReal := ∑ k, x k * w k

/-- The scaling of the scores, as both programs write it. -/
def scale : EReal := Ideal.ofBits .f32 0x3E000000#32

/-- The score of one query and one key. -/
def score (q k : Fin 64 → EReal) : EReal := (∑ d, q d * k d) * scale

/-- One entry of a head's context: the weights of the keys against one column of the values. -/
def ctx (q : Fin 64 → EReal) (k : Fin 128 → Fin 64 → EReal) (v : Fin 128 → EReal) : EReal :=
  ∑ j, wt (fun j' => score q (k j')) j * v j

theorem fin_scale : Fin' scale := by
  unfold scale Ideal.ofBits Ideal.ieee
  dsimp only
  rw [if_neg (by decide), if_neg (by decide)]
  exact ⟨_, rfl⟩

/-- The maximum's start is minus infinity. -/
theorem word_bot : Ideal.ofBits .f32 0xFF800000#32 = (⊥ : EReal) := by
  unfold Ideal.ofBits Ideal.ieee
  dsimp only
  rw [if_pos (by decide), if_pos (by decide), if_pos (by decide)]

/-- The bound of a finite number is plus infinity. -/
theorem word_top : Ideal.ofBits .f32 0x7F800000#32 = (⊤ : EReal) := by
  unfold Ideal.ofBits Ideal.ieee
  dsimp only
  rw [if_pos (by decide), if_pos (by decide), if_neg (by decide)]

/-- A number below plus infinity in absolute value is finite. -/
theorem fin_of_abs {x : EReal} (h : max x (-x) < ⊤) : Fin' x := by
  induction x with
  | bot => simp at h
  | top => simp at h
  | coe r => exact ⟨r, rfl⟩

theorem fin_score (q k : Fin 64 → EReal) (hq : ∀ d, Fin' (q d)) (hk : ∀ d, Fin' (k d)) : Fin' (score q k) := by
  refine (Fin'.sum _ _ fun d => (hq d).mul (hk d)).mul fin_scale

/-! ## Sums -/

/-- A sum over 256 columns is the sum over four heads of 64. -/
theorem sum_heads (f : Fin 256 → EReal) : ∑ p, f p = ∑ h : Fin 4, ∑ d : Fin 64, f ⟨h.val * 64 + d.val, by omega⟩ :=
  (Fin.sum_mul_add_fin _ _ f).symm

/-- A sum over 512 columns is the sum over four heads of 128 keys. -/
theorem sum_keys (f : Fin 512 → EReal) : ∑ p, f p = ∑ h : Fin 4, ∑ d : Fin 128, f ⟨h.val * 128 + d.val, by omega⟩ :=
  (Fin.sum_mul_add_fin _ _ f).symm

/-- A sum over 8192 columns is the sum over the devices' 256. -/
theorem sum_blocks (f : Fin 8192 → EReal) : ∑ p, f p = ∑ e : Fin 32, ∑ d : Fin 256, f ⟨e.val * 256 + d.val, by omega⟩ :=
  (Fin.sum_mul_add_fin _ _ f).symm

/-- A sum over the columns of one head's row of a block-diagonal array keeps that head's columns. -/
theorem pick_heads (f : Fin 256 → EReal) (h : Fin 4) (g : Fin 64 → EReal) :
    ∑ p : Fin 256, f p * (if h.val = p.val / 64 then g ⟨p.val % 64, by omega⟩ else 0)
      = ∑ d : Fin 64, f ⟨h.val * 64 + d.val, by omega⟩ * g d := by
  rw [sum_heads, Finset.sum_eq_single h]
  · refine Finset.sum_congr rfl fun d _ => ?_
    rw [if_pos (by simp only; omega)]
    congr 2
    exact Fin.ext (by simp only; omega)
  · intro a _ ha
    refine Finset.sum_eq_zero fun d _ => ?_
    rw [if_neg fun e => ha (Fin.ext (by simp only at e; omega)), mul_zero]
  · exact fun hn => absurd (Finset.mem_univ h) hn

/-- A sum over the keys of one head's column of a block-diagonal array keeps that head's keys. -/
theorem pick_keys (f : Fin 512 → EReal) (h : Fin 4) (g : Fin 4 → Fin 128 → EReal) :
    ∑ t : Fin 512, f t * (if t.val / 128 = h.val then g ⟨t.val / 128, by omega⟩ ⟨t.val % 128, by omega⟩ else 0)
      = ∑ j : Fin 128, f ⟨h.val * 128 + j.val, by omega⟩ * g h j := by
  rw [sum_keys, Finset.sum_eq_single h]
  · refine Finset.sum_congr rfl fun d _ => ?_
    rw [if_pos (by simp only; omega)]
    congr 2
    · exact Fin.ext (by simp only; omega)
    · exact Fin.ext (by simp only; omega)
  · intro a _ ha
    refine Finset.sum_eq_zero fun d _ => ?_
    rw [if_neg fun e => ha (Fin.ext (by simp only at e; omega)), mul_zero]
  · exact fun hn => absurd (Finset.mem_univ h) hn

/-! ## Reading an array at equal coordinates -/

theorem at2 {α : Type} {a b : ℕ} (f : (⟨2, ![a, b]⟩ : Shape).Idx → α) {i i' : Fin a} {j j' : Fin b} (hi : i.val = i'.val) (hj : j.val = j'.val) :
    f (ix2 i j) = f (ix2 i' j') := by
  obtain rfl := Fin.ext hi
  obtain rfl := Fin.ext hj
  rfl

theorem at3 {α : Type} {a b c : ℕ} (f : (⟨3, ![a, b, c]⟩ : Shape).Idx → α) {i i' : Fin a} {j j' : Fin b} {k k' : Fin c}
    (hi : i.val = i'.val) (hj : j.val = j'.val) (hk : k.val = k'.val) : f (ix3 i j k) = f (ix3 i' j' k') := by
  obtain rfl := Fin.ext hi
  obtain rfl := Fin.ext hj
  obtain rfl := Fin.ext hk
  rfl

theorem at4 {α : Type} {a b c d : ℕ} (f : (⟨4, ![a, b, c, d]⟩ : Shape).Idx → α) {i i' : Fin a} {j j' : Fin b} {k k' : Fin c} {l l' : Fin d}
    (hi : i.val = i'.val) (hj : j.val = j'.val) (hk : k.val = k'.val) (hl : l.val = l'.val) : f (ix4 i j k l) = f (ix4 i' j' k' l') := by
  obtain rfl := Fin.ext hi
  obtain rfl := Fin.ext hj
  obtain rfl := Fin.ext hk
  obtain rfl := Fin.ext hl
  rfl

end Cert.Attn

end
-- ==== Proof.Attn.lean ====
/- What one contribution of the kernel is over the extended reals, entry by entry. -/
module

public import proofs.«01_k».proof.Proof.Body
public import proofs.«01_k».proof.Proof.Soft
public import Idealize.ShloMosaic.Lib.Tactic.CleanTypes

@[expose] public section

set_option maxRecDepth 16384

noncomputable section

namespace Cert.KernelIdeal.Ring

open Cert.KernelIdeal Cert.KernelIdeal.Gen Idealize.ShloMosaic Cert.Attn

set_option maxHeartbeats 4000000 in
/-- The block-diagonal layout at an entry: the head's array on its own block, zero elsewhere. -/
theorem blockDiag_apply (kv : S4x128x64.Idx → EReal) (r : Fin 512) (p : Fin 256) :
    blockDiag (F := Ideal) kv (ix2 r p) =
      if r.val / 128 = p.val / 64 then kv (ix3 ⟨r.val / 128, by omega⟩ ⟨r.val % 128, by omega⟩ ⟨p.val % 64, by omega⟩) else (0 : EReal) := by
  unfold blockDiag
  pointwise
  clean_types
  by_cases c : r.val / 128 = p.val / 64
  · rw [if_pos c]
    split_ifs <;> first
      | omega
      | (exfalso; rename_i hh; exact absurd hh (by decide))
      | (refine at3 kv ?_ ?_ ?_ <;> first | omega | (simp only [Fin.isValue, Fin.coe_ofNat_eq_mod]; omega))
  · rw [if_neg c]
    split_ifs <;> first
      | rfl
      | omega
      | (exfalso; rename_i hh; exact absurd hh (by decide))

/-- The weights of four heads side by side, from their scores. -/
def weights {F : FTy → Type} [FloatOps F] (a2 : FVec F S128x512 .f32) : FVec F S128x512 .f32 :=
  have z2 : F .f32 := Scalar.ofBits .f32 0x3E000000#32
  have a3 : FVec F S128x512 .f32 := broadcast S128x512 z2
  have a4 : FVec F S128x512 .f32 := mulf a2 a3
  have a5 : FVec F S128x512 .f32 := exp a4
  have a6 : FVec F S128x128 .f32 := extractStridedSlice S128x128 ![0, 0] a5 slices_S128x512_o0_0_S128x128
  have a7 : FVec F S128 .f32 := multiReduction .add [1] S128 a6 0x00000000#32 reduces_S128x128_S128 (.inl rfl) rfl
  have a8 : FVec F S128x1 .f32 := shapeCast S128x1 a7 shapeCasts_S128_S128x1
  have a9 : FVec F S128x128 .f32 := broadcastTo S128x128 a8 broadcasts_S128x1_S128x128
  have a10 : FVec F S128x128 .f32 := divf a6 a9
  have a11 : FVec F S128x128 .f32 := extractStridedSlice S128x128 ![0, 128] a5 slices_S128x512_o0_128_S128x128
  have a12 : FVec F S128 .f32 := multiReduction .add [1] S128 a11 0x00000000#32 reduces_S128x128_S128 (.inl rfl) rfl
  have a13 : FVec F S128x1 .f32 := shapeCast S128x1 a12 shapeCasts_S128_S128x1
  have a14 : FVec F S128x128 .f32 := broadcastTo S128x128 a13 broadcasts_S128x1_S128x128
  have a15 : FVec F S128x128 .f32 := divf a11 a14
  have a16 : FVec F S128x128 .f32 := extractStridedSlice S128x128 ![0, 256] a5 slices_S128x512_o0_256_S128x128
  have a17 : FVec F S128 .f32 := multiReduction .add [1] S128 a16 0x00000000#32 reduces_S128x128_S128 (.inl rfl) rfl
  have a18 : FVec F S128x1 .f32 := shapeCast S128x1 a17 shapeCasts_S128_S128x1
  have a19 : FVec F S128x128 .f32 := broadcastTo S128x128 a18 broadcasts_S128x1_S128x128
  have a20 : FVec F S128x128 .f32 := divf a16 a19
  have a21 : FVec F S128x128 .f32 := extractStridedSlice S128x128 ![0, 384] a5 slices_S128x512_o0_384_S128x128
  have a22 : FVec F S128 .f32 := multiReduction .add [1] S128 a21 0x00000000#32 reduces_S128x128_S128 (.inl rfl) rfl
  have a23 : FVec F S128x1 .f32 := shapeCast S128x1 a22 shapeCasts_S128_S128x1
  have a24 : FVec F S128x128 .f32 := broadcastTo S128x128 a23 broadcasts_S128x1_S128x128
  have a25 : FVec F S128x128 .f32 := divf a21 a24
  concatenate S128x512 1 [⟨S128x128, a10⟩, ⟨S128x128, a15⟩, ⟨S128x128, a20⟩, ⟨S128x128, a25⟩] concatenates_S128x128_S128x128_S128x128_S128x128_S128x512_d1

/-- The scores of four heads side by side, before the scaling. -/
def scores {F : FTy → Type} [FloatOps F] (x : Vec F S1x128x512 .f32) (wq kbd : FVec F S512x256 .f32) : FVec F S128x512 .f32 :=
  matmul dot_S128x256_S512x256_S128x512_1_1_0_0_n_n none
    (matmul dot_S128x512_S512x256_S128x256_1_0_0_1_n_n none (shapeCast S128x512 x shapeCasts_S1x128x512_S128x512) wq
      (constant S128x256 .f32 0x00000000#32)) kbd (constant S128x512 .f32 0x00000000#32)

/-- The contribution from the weights. -/
def spread {F : FTy → Type} [FloatOps F] (w : FVec F S128x512 .f32) (vbd : FVec F S512x256 .f32) (wo : FVec F S256x512 .f32) :
    FVec F S128x512 .f32 :=
  matmul dot_S128x256_S256x512_S128x512_1_0_0_1_n_n none
    (matmul dot_S128x512_S512x256_S128x256_1_0_0_1_n_n none w vbd (constant S128x256 .f32 0x00000000#32)) wo
    (constant S128x512 .f32 0x00000000#32)

/-- A contribution through its products. -/
theorem attn_eq {F : FTy → Type} [FloatOps F] (x : Vec F S1x128x512 .f32) (wq : FVec F S512x256 .f32) (kbd vbd : FVec F S512x256 .f32)
    (wo : FVec F S256x512 .f32) : attn x wq kbd vbd wo = spread (weights (scores x wq kbd)) vbd wo := rfl

/-- The weights at an entry: the softmax of the entry's head. -/
theorem weights_apply (s : S128x512.Idx → EReal) (i : Fin 128) (t : Fin 512) :
    weights (F := Ideal) s (ix2 i t) =
      wt (fun j : Fin 128 => s (ix2 i (⟨t.val / 128 * 128 + j.val, by omega⟩ : Fin 512)) * scale) ⟨t.val % 128, by omega⟩ := by
  unfold weights wt scale
  pointwise
  split_ifs
  all_goals
    congr 1
    · congr 2
      exact at2 s rfl (by simp only; omega)
    · refine Finset.sum_congr rfl fun j _ => ?_
      congr 2
      exact at2 s rfl (by simp only; omega)

/-- A column of the block of queries. -/
def qcol (x : S1x128x512.Idx → EReal) (wq : S512x256.Idx → EReal) (i : Fin 128) (p : Fin 256) : EReal :=
  qry (fun m => x (ix3 0 i m)) fun m => wq (ix2 m p)

theorem scores_apply (x : S1x128x512.Idx → EReal) (wq : S512x256.Idx → EReal) (k : S4x128x64.Idx → EReal) (i : Fin 128) (t : Fin 512) :
    scores (F := Ideal) x wq (blockDiag k) (ix2 i t) = ∑ d : Fin 64, qcol x wq i ⟨t.val / 128 * 64 + d.val, by omega⟩
      * k (ix3 ⟨t.val / 128, by omega⟩ ⟨t.val % 128, by omega⟩ d) := by
  have e : scores (F := Ideal) x wq (blockDiag k) (ix2 i t) = ∑ p : Fin 256, qcol x wq i p * blockDiag (F := Ideal) k (ix2 t p) := by
    unfold scores qcol qry
    pointwise
  rw [e]
  simp only [blockDiag_apply]
  exact pick_heads (qcol x wq i) ⟨t.val / 128, by omega⟩ fun d => k (ix3 ⟨t.val / 128, by omega⟩ ⟨t.val % 128, by omega⟩ d)

/-- A contribution at an entry: the sum over the block's columns of the head's context times the block of `Wo`. -/
theorem attn_apply (x : S1x128x512.Idx → EReal) (wq : S512x256.Idx → EReal) (k v : S4x128x64.Idx → EReal) (wo : S256x512.Idx → EReal)
    (i : Fin 128) (o : Fin 512) :
    attn (F := Ideal) x wq (blockDiag k) (blockDiag v) wo (ix2 i o) =
      ∑ p : Fin 256, ctx (fun d => qcol x wq i ⟨p.val / 64 * 64 + d.val, by omega⟩) (fun j d => k (ix3 ⟨p.val / 64, by omega⟩ j d))
        (fun j => v (ix3 ⟨p.val / 64, by omega⟩ j ⟨p.val % 64, by omega⟩)) * wo (ix2 p o) := by
  have e : attn (F := Ideal) x wq (blockDiag k) (blockDiag v) wo (ix2 i o) =
      ∑ p : Fin 256, (∑ t : Fin 512, weights (F := Ideal) (scores x wq (blockDiag k)) (ix2 i t) * blockDiag (F := Ideal) v (ix2 t p)) * wo (ix2 p o) := by
    rw [attn_eq]
    generalize weights (F := Ideal) (scores x wq (blockDiag k)) = w
    generalize blockDiag (F := Ideal) v = vbd
    unfold spread
    pointwise
  rw [e]
  refine Finset.sum_congr rfl fun p _ => ?_
  congr 1
  simp only [blockDiag_apply, weights_apply]
  rw [pick_keys (fun t => wt (fun j : Fin 128 => scores (F := Ideal) x wq (blockDiag k) (ix2 i (⟨t.val / 128 * 128 + j.val, by omega⟩ : Fin 512)) * scale) ⟨t.val % 128, by omega⟩)
    ⟨p.val / 64, by omega⟩ fun h j => v (ix3 h j ⟨p.val % 64, by omega⟩)]
  unfold ctx
  refine Finset.sum_congr rfl fun j _ => ?_
  congr 1
  have ej : (⟨(p.val / 64 * 128 + j.val) % 128, by omega⟩ : Fin 128) = j := Fin.ext (by simp only; omega)
  simp only [ej]
  refine congrFun (congrArg wt (funext fun j' => ?_)) j
  unfold score
  rw [scores_apply]
  congr 1
  refine Finset.sum_congr rfl fun d _ => ?_
  congr 1
  · exact congrArg (qcol x wq i) (Fin.ext (by simp only; omega))
  · exact at3 k (by simp only; omega) (by simp only; omega) rfl

end Cert.KernelIdeal.Ring

end
-- ==== Proof.Links.lean ====
/- The two rings as they are talked about: directions, neighbours, whose block a slot holds after `t` hops, the slots, the
   semaphores, the number of transfers a direction carries, the rounds of a semaphore. -/
module

public import proofs.«01_k».proof.Proof.Body
public import Idealize.ShloMosaic.Lib.Pipeline.Regions

@[expose] public section

noncomputable section

namespace Cert.KernelIdeal.Ring

open Idealize.ShloMosaic Idealize.ShloMosaic.TcCoe Idealize.SL.Sem
open Cert.KernelIdeal Cert.KernelIdeal.Gen

/-- The direction a block travels in: `false` to the right, `true` to the left. -/
abbrev Dir := Bool
/-- What a slot holds: `false` a block of `Wq`, `true` a block of `Wo`. -/
abbrev Kd := Bool

/-! ## Neighbours -/

/-- The device a block is sent to in direction `d`. -/
def nxt (d : Dir) (c : Dev nD) : Dev nD := ⟨(c.val + (if d then 31 else 1)) % 32, Nat.mod_lt _ (by decide)⟩
/-- The device a block comes from in direction `d`. -/
abbrev prv (d : Dir) (c : Dev nD) : Dev nD := nxt (!d) c

theorem nxt_prv (d : Dir) (c : Dev nD) : nxt d (prv d c) = c := by revert d c; decide
theorem prv_nxt (d : Dir) (c : Dev nD) : prv d (nxt d c) = c := by revert d c; decide
theorem prv_not (d : Dir) (c : Dev nD) : prv (!d) c = nxt d c := by cases d <;> rfl

/-- The device whose block has come to `c` after `t` hops in direction `d`. -/
def org (d : Dir) (t : ℕ) (c : Dev nD) : Dev nD := (prv d)^[t] c

theorem org_zero (d : Dir) (c : Dev nD) : org d 0 c = c := rfl
theorem org_succ (d : Dir) (t : ℕ) (c : Dev nD) : org d (t + 1) c = org d t (prv d c) := rfl
theorem org_nxt (d : Dir) (t : ℕ) (c : Dev nD) : org d (t + 1) (nxt d c) = org d t c := by rw [org_succ, prv_nxt]

theorem right_eq (c : Dev nD) : rightOf c = nxt false c := by revert c; decide +kernel
theorem left_eq (c : Dev nD) : leftOf c = nxt true c := by revert c; decide +kernel
theorem dev1_eq (c : Dev nD) : (⟨k0_dev1 c, k0_dev1_lt c⟩ : Dev nD) = nxt true c := by revert c; decide +kernel
theorem dev2_eq (c : Dev nD) : (⟨k0_dev2 c, k0_dev2_lt c⟩ : Dev nD) = nxt false c := by revert c; decide +kernel

/-! ## Slots and semaphores -/

/-- The shape of a slot. -/
def shp : Kd → Shape | false => S512x256 | true => S256x512

/-- Slot `s` of the ring of kind `k` in direction `d`. -/
def sl : Dir → (k : Kd) → Fin 4 → Memref sig .tc .vmem (shp k) .f32
  | false, false, s => slotQ (Memref.whole cc0_scratch0) s
  | false, true, s => slotO (Memref.whole cc0_scratch1) s
  | true, false, s => slotQ (Memref.whole cc0_scratch2) s
  | true, true, s => slotO (Memref.whole cc0_scratch3) s

/-- The semaphore that counts what has left slot `s`, and (`b`) the one that counts what has landed in slot `s`. -/
def smv (d : Dir) (k : Kd) (b : Bool) (s : Fin 4) : Fin 38 :=
  ⟨6 + ((if d then 16 else 0) + (if k then 8 else 0) + (if b then 4 else 0)) + s.val, by
    have := s.isLt; cases d <;> cases k <;> cases b <;> simp <;> omega⟩
def sm (d : Dir) (k : Kd) (b : Bool) (s : Fin 4) : DmaSem sig := smv d k b s

theorem sem4 (s : Fin 4) : semOf cc0_scratch4 s = sm false false false s := by revert s; decide
theorem sem5 (s : Fin 4) : semOf cc0_scratch5 s = sm false false true s := by revert s; decide
theorem sem6 (s : Fin 4) : semOf cc0_scratch6 s = sm false true false s := by revert s; decide
theorem sem7 (s : Fin 4) : semOf cc0_scratch7 s = sm false true true s := by revert s; decide
theorem sem8 (s : Fin 4) : semOf cc0_scratch8 s = sm true false false s := by revert s; decide
theorem sem9 (s : Fin 4) : semOf cc0_scratch9 s = sm true false true s := by revert s; decide
theorem sem10 (s : Fin 4) : semOf cc0_scratch10 s = sm true true false s := by revert s; decide
theorem sem11 (s : Fin 4) : semOf cc0_scratch11 s = sm true true true s := by revert s; decide

/-- Which ring, kind and slot a semaphore counts for. -/
def dec (i : DmaSem sig) : Option (Dir × Kd × Bool × Fin 4) :=
  if 6 ≤ i.val then
    some (decide (16 ≤ i.val - 6), decide (8 ≤ (i.val - 6) % 16), decide (4 ≤ (i.val - 6) % 8), ⟨(i.val - 6) % 4, Nat.mod_lt _ (by decide)⟩)
  else none

theorem dec_sm (d : Dir) (k : Kd) (b : Bool) (s : Fin 4) : dec (sm d k b s) = some (d, k, b, s) := by
  revert d k b s; decide
theorem sm_inj {d d' : Dir} {k k' : Kd} {b b' : Bool} {s s' : Fin 4} (h : sm d k b s = sm d' k' b' s') :
    d = d' ∧ k = k' ∧ b = b' ∧ s = s' := by
  have := congrArg dec h
  rw [dec_sm, dec_sm] at this
  simpa using this

/-! ## Transfers and rounds -/

/-- The last transfer of a direction: sixteen to the right, fifteen to the left. -/
def last (d : Dir) : ℕ := if d then 14 else 15

/-- Which of the transfers `t, t + 4, …` of slot `p` are below `n`: their number. -/
def cnt (p : Fin 4) (n : ℕ) : ℕ := (n + 3 - p.val) / 4

theorem cnt_self (t : ℕ) : cnt (slotOf t) t = t / 4 := by unfold cnt; show (t + 3 - t % 4) / 4 = _; omega
theorem cnt_self_succ (t : ℕ) : cnt (slotOf t) (t + 1) = t / 4 + 1 := by unfold cnt; show (t + 1 + 3 - t % 4) / 4 = _; omega
theorem cnt_other (t : ℕ) (p : Fin 4) (h : p ≠ slotOf t) : cnt p (t + 1) = cnt p t := by
  have h' : p.val ≠ t % 4 := fun e => h (Fin.ext e)
  have := p.isLt
  unfold cnt; omega
/-- While at most four transfers from slot `t` on are under way, slot `t`'s count is its round. -/
theorem cnt_near (t n : ℕ) (h : n ≤ t) (h' : t < n + 4) : cnt (slotOf t) n = t / 4 := by
  unfold cnt; show (n + 3 - t % 4) / 4 = _; omega

/-- The transfer that round `r` of slot `p` counts. -/
def tr (p : Fin 4) (r : ℕ) : ℕ := 4 * r + p.val
theorem tr_slot (t : ℕ) : tr (slotOf t) (t / 4) = t := by unfold tr; show 4 * (t / 4) + t % 4 = t; omega

/-- The semaphore on which transfer `t`'s leaving is counted. -/
abbrev sSem (d : Dir) (k : Kd) (p : Fin 4) : SemLoc sig := .dma (sm d k false p)
/-- The semaphore on which the landing of the transfers from slot `p` is counted: that of the slot after. -/
abbrev rSem (d : Dir) (k : Kd) (p : Fin 4) : SemLoc sig := .dma (sm d k true (p + 1))

abbrev sCell (d : Dir) (k : Kd) (c : Dev nD) (p : Fin 4) : GSem nD τ sig := ((c : Thread nD τ), sSem d k p)
abbrev rCell (d : Dir) (k : Kd) (c : Dev nD) (p : Fin 4) : GSem nD τ sig := ((c : Thread nD τ), rSem d k p)
abbrev barS : Sem sig := sig.barrier 0 rfl
abbrev bCell (c : Dev nD) : GSem nD τ sig := ((c : Thread nD τ), .reg barS)

theorem slotOf_succ (t : ℕ) : slotOf t + 1 = slotOf (t + 1) := by
  apply Fin.ext; show (t % 4 + 1) % 4 = (t + 1) % 4; omega
theorem slotOf_add_four (t : ℕ) : slotOf (t + 4) = slotOf t := by
  apply Fin.ext; show (t + 4) % 4 = t % 4; omega

/-- Units of one transfer. -/
abbrev NN : ℕ := (sl false false 0).view.dmaCredit
theorem NN_pos : 0 < NN := View.dmaCredit_pos _ (by decide)
theorem credit_sl (d : Dir) (k : Kd) (s : Fin 4) : (sl d k s).view.dmaCredit = NN := by
  cases d <;> cases k <;> rfl

end Cert.KernelIdeal.Ring

end
-- ==== Proof.Sched.lean ====
/- Who hands what to whom: per semaphore and round, the transfer it counts and what its landing (or leaving) hands over, with
   contents; what a device owes at the start; the levels that order the waits.

   A transfer `t` of direction `d` leaves from the sender's slot `t % 4` and lands in the receiver's slot `(t + 1) % 4`. Its
   landing hands the receiver `e` that slot at the block that has come `t + 1` hops; half of the sender's source slot, lent on
   to the sender's other neighbour's other ring and so back to the sender one transfer later; half of `e`'s own slot, lent the
   same way by transfer `t - 1` of the other direction; and the sender's slot that transfer `t + 1` of the other direction
   lands in. The last transfers to the right have no later transfer to the left to ride on: their source comes back with the
   count of what has left. -/
module

public import proofs.«01_k».proof.Proof.Links
public import Idealize.ShloMosaic.Lib.VecWindow

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost algebra: the pipeline's rounds beside the rings'. -/
abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## What a slot holds -/

/-- The blocks that travel: device `c`'s block of `Wq` and of `Wo`. -/
abbrev Blocks (F : FTy → Type) := (k : Kd) → Dev nD → (shp k).Idx → F .f32

variable (B : Blocks F)

/-- Device `c`'s slot `s` at the values `w`, at share `q`. -/
def slotAt (d : Dir) (k : Kd) (c : Dev nD) (s : Fin 4) (q : PosShare TreeShare) (w : (shp k).Idx → F .f32) : sProp 𝕄 :=
  (sl d k s).view.loc (c : Thread nD τ) ↦[(sl d k s).view.set]{q} (sl d k s).view.rep (Val := Elt F) w
/-- Device `c`'s slot `s`, whole, at values not named. -/
def slotAny (d : Dir) (k : Kd) (c : Dev nD) (s : Fin 4) : sProp 𝕄 :=
  iprop(∃ f : Buf (Elt F) ((sl d k s).view.loc (c : Thread nD τ)), (sl d k s).view.loc (c : Thread nD τ) ↦[(sl d k s).view.set]{fullShare} f)

/-- Device `c`'s slot that transfer `t` leaves from, at the block `t` hops have brought. -/
def hold (d : Dir) (k : Kd) (c : Dev nD) (t : ℕ) (q : PosShare TreeShare) : sProp 𝕄 :=
  slotAt d k c (slotOf t) q (B k (org d t c))

/-- Device `c`'s slot that transfer `t` lands in is ready for it. -/
def free (d : Dir) (k : Kd) (c : Dev nD) (t : ℕ) : sProp 𝕄 :=
  iprop(slotAny d k c (slotOf (t + 1)) ∗ reached ER (rCell d k c (slotOf t)) (t / 4))

/-- Transfer `t` of direction `d` is followed by a transfer `t + 1` of the other direction. -/
abbrev cont (d : Dir) (t : ℕ) : Prop := t + 1 ≤ last (!d)

abbrev half : PosShare TreeShare := fullShare.right
abbrev keep : PosShare TreeShare := fullShare.left

/-- What the landing of transfer `t` hands device `e` beside the slot it lands in and the half of its source. -/
def rideRest (d : Dir) (k : Kd) (e : Dev nD) (t : ℕ) : sProp 𝕄 :=
  iprop((if 1 ≤ t then hold B (!d) k e (t - 1) half else emp)
    ∗ (if 2 ≤ t ∧ cont d t then free (!d) k (prv d e) (t + 1) else emp))

/-- What the landing of transfer `t` hands device `e`. -/
def landPay (d : Dir) (k : Kd) (e : Dev nD) (t : ℕ) : sProp 𝕄 :=
  iprop(hold B d k e (t + 1) fullShare ∗ (if cont d t then hold B d k (prv d e) t half else emp) ∗ rideRest B d k e t)

/-- What the leaving of transfer `t` hands its sender `c`. -/
def sentPay (d : Dir) (k : Kd) (c : Dev nD) (t : ℕ) : sProp 𝕄 :=
  if cont d t then iprop(emp) else hold B d k c t half

/-- What the neighbour that `c` sends to in direction `d` hands `c` when they meet: its slots for the first three transfers. -/
def meetKd (d : Dir) (k : Kd) (e : Dev nD) : sProp 𝕄 := iprop(free d k e 0 ∗ free d k e 1 ∗ free d k e 2)
def meetPay (d : Dir) (c : Dev nD) : sProp 𝕄 := iprop(meetKd d false (nxt d c) ∗ meetKd d true (nxt d c))

/-! ## The schedule -/

def ringDuties (g : GSem nD τ sig) (r : ℕ) : Finset Bool :=
  if g.1.2 = .tc then
    match g.2 with
    | .reg s => if s = barS ∧ r = 0 then Finset.univ else ∅
    | .dma i => match dec i with
      | none => ∅
      | some (d, _, b, s) => if tr (if b then s + 3 else s) r ≤ last d then {false} else ∅
  else ∅

def ringAmount (g : GSem nD τ sig) : ℕ := match g.2 with | .reg _ => 1 | .dma _ => NN

def ringPayload (g : GSem nD τ sig) (r : ℕ) (u : Bool) : sProp 𝕄 :=
  match g.2 with
  | .reg _ => meetPay u g.1.1
  | .dma i => match dec i with
    | none => iprop(emp)
    | some (d, k, false, s) => sentPay B d k g.1.1 (tr s r)
    | some (d, k, true, s) => landPay B d k g.1.1 (tr (s + 3) r)

def Rd : Rounds.Schedule (GSem nD τ sig) Bool 𝕄 where
  duties := ringDuties
  unitless _ := False
  amount g _ _ := ringAmount g
  payload := ringPayload B
  amount_pos g _ _ _ := by
    unfold ringAmount
    split
    · exact Nat.one_pos
    · exact NN_pos

instance slotAt_storable (d : Dir) (k : Kd) (c : Dev nD) (s : Fin 4) (q : PosShare TreeShare) (w : (shp k).Idx → F .f32) :
    BI.Storable (upEmb : UEmb _ 𝕄) (slotAt d k c s q w) := by unfold slotAt; infer_instance
instance slotAny_storable (d : Dir) (k : Kd) (c : Dev nD) (s : Fin 4) :
    BI.Storable (upEmb : UEmb _ 𝕄) (slotAny (F := F) d k c s) := by unfold slotAny; infer_instance
instance free_storable (d : Dir) (k : Kd) (c : Dev nD) (t : ℕ) :
    BI.Storable (upEmb : UEmb _ 𝕄) (free (F := F) d k c t) := by unfold free; infer_instance
instance hold_storable (d : Dir) (k : Kd) (c : Dev nD) (t : ℕ) (q : PosShare TreeShare) :
    BI.Storable (upEmb : UEmb _ 𝕄) (hold B d k c t q) := by unfold hold; infer_instance
instance meetPay_storable (d : Dir) (c : Dev nD) : BI.Storable (upEmb : UEmb _ 𝕄) (meetPay (F := F) d c) := by
  unfold meetPay meetKd; infer_instance
instance sentPay_storable (d : Dir) (k : Kd) (c : Dev nD) (t : ℕ) : BI.Storable (upEmb : UEmb _ 𝕄) (sentPay B d k c t) := by
  unfold sentPay; split <;> infer_instance
instance landPay_storable (d : Dir) (k : Kd) (c : Dev nD) (t : ℕ) : BI.Storable (upEmb : UEmb _ 𝕄) (landPay B d k c t) := by
  unfold landPay rideRest; (repeat' split) <;> infer_instance

instance Rd_payload_storable (g : GSem nD τ sig) (r : ℕ) (u : Bool) : BI.Storable (upEmb : UEmb _ 𝕄) ((Rd B).payload g r u) := by
  show BI.Storable upEmb (ringPayload B g r u)
  unfold ringPayload
  (repeat' split) <;> infer_instance

/-! ### Read at the cells -/

theorem slot_back (p : Fin 4) : p + 1 + 3 = p := by revert p; decide

section At
variable (d : Dir) (k : Kd) (c : Dev nD) (t : ℕ)

theorem slotOf_back : slotOf t + 1 + 3 = slotOf t := by
  apply Fin.ext; show ((t % 4 + 1) % 4 + 3) % 4 = t % 4; omega

theorem duties_s (h : t ≤ last d) : (Rd B).duties (sCell d k c (slotOf t)) (t / 4) = {false} := by
  show ringDuties (sCell d k c (slotOf t)) (t / 4) = _
  unfold ringDuties
  rw [if_pos rfl]
  simp only [sCell, sSem, dec_sm]
  exact if_pos (by rw [if_neg (by decide), tr_slot]; exact h)
theorem duties_r (h : t ≤ last d) : (Rd B).duties (rCell d k c (slotOf t)) (t / 4) = {false} := by
  show ringDuties (rCell d k c (slotOf t)) (t / 4) = _
  unfold ringDuties
  rw [if_pos rfl]
  simp only [rCell, rSem, dec_sm]
  exact if_pos (by rw [if_pos trivial, slotOf_back, tr_slot]; exact h)
theorem duties_b : (Rd B).duties (bCell c) 0 = Finset.univ := by
  show ringDuties (bCell c) 0 = _
  unfold ringDuties
  rw [if_pos rfl]
  exact if_pos ⟨rfl, rfl⟩

theorem amount_s (r : ℕ) (u : Bool) (p : Fin 4) : (Rd B).amount (sCell d k c p) r u = NN := rfl
theorem amount_r (r : ℕ) (u : Bool) (p : Fin 4) : (Rd B).amount (rCell d k c p) r u = NN := rfl
theorem amount_b (u : Bool) : (Rd B).amount (bCell c) 0 u = 1 := rfl

theorem expect_s (h : t ≤ last d) : (Rd B).expect (sCell d k c (slotOf t)) (t / 4) = NN := by
  unfold Schedule.expect Schedule.amountOf; rw [duties_s B d k c t h, Finset.sum_singleton, amount_s]
theorem expect_r (h : t ≤ last d) : (Rd B).expect (rCell d k c (slotOf t)) (t / 4) = NN := by
  unfold Schedule.expect Schedule.amountOf; rw [duties_r B d k c t h, Finset.sum_singleton, amount_r]
theorem expect_b : (Rd B).expect (bCell c) 0 = 2 := by
  unfold Schedule.expect Schedule.amountOf; rw [duties_b]; rfl

theorem payload_s (u : Bool) : (Rd B).payload (sCell d k c (slotOf t)) (t / 4) u = sentPay B d k c t := by
  show ringPayload B (sCell d k c (slotOf t)) (t / 4) u = _
  unfold ringPayload
  simp only [sCell, sSem, dec_sm, tr_slot]
theorem payload_r (u : Bool) : (Rd B).payload (rCell d k c (slotOf t)) (t / 4) u = landPay B d k c t := by
  show ringPayload B (rCell d k c (slotOf t)) (t / 4) u = _
  unfold ringPayload
  simp only [rCell, rSem, dec_sm, slotOf_back, tr_slot]
theorem payload_b (u : Bool) : (Rd B).payload (bCell c) 0 u = meetPay u c := rfl

theorem rest_s (h : t ≤ last d) : bigSep ((Rd B).duties (sCell d k c (slotOf t)) (t / 4) \ ∅)
    (fun u => (Rd B).payload (sCell d k c (slotOf t)) (t / 4) u) = sentPay B d k c t := by
  rw [Finset.sdiff_empty, duties_s B d k c t h, bigSep_singleton, payload_s]
theorem rest_r (h : t ≤ last d) : bigSep ((Rd B).duties (rCell d k c (slotOf t)) (t / 4) \ ∅)
    (fun u => (Rd B).payload (rCell d k c (slotOf t)) (t / 4) u) = landPay B d k c t := by
  rw [Finset.sdiff_empty, duties_r B d k c t h, bigSep_singleton, payload_r]
theorem rest_b : bigSep ((Rd B).duties (bCell c) 0 \ ∅) (fun u => (Rd B).payload (bCell c) 0 u)
    = iprop(meetPay false c ∗ meetPay true c) := by
  rw [Finset.sdiff_empty, duties_b, show (Finset.univ : Finset Bool) = {false, true} from by decide,
    bigSep_insert (by decide), bigSep_singleton, payload_b, payload_b]
  rfl

/-- No duty after the last transfer. -/
theorem duties_s_later (p : Fin 4) (r : ℕ) (h : last d < tr p r) : (Rd B).duties (sCell d k c p) r = ∅ := by
  show ringDuties (sCell d k c p) r = _
  unfold ringDuties
  rw [if_pos rfl]
  simp only [sCell, sSem, dec_sm]
  exact if_neg (by rw [if_neg (by decide)]; omega)
theorem duties_r_later (p : Fin 4) (r : ℕ) (h : last d < tr p r) : (Rd B).duties (rCell d k c p) r = ∅ := by
  show ringDuties (rCell d k c p) r = _
  unfold ringDuties
  rw [if_pos rfl]
  simp only [rCell, rSem, dec_sm]
  refine if_neg ?_
  rw [if_pos trivial, slot_back]; omega
theorem duties_b_later (r : ℕ) (h : 1 ≤ r) : (Rd B).duties (bCell c) r = ∅ := by
  show ringDuties (bCell c) r = _
  unfold ringDuties
  rw [if_pos rfl]
  exact if_neg (fun e => by have := e.2; omega)
end At

/-! ## What is owed, and the levels -/

/-- What device `c` owes in direction `d` for kind `k` before its transfer `n`: the landing of every transfer from `n` on. -/
def due (d : Dir) (k : Kd) (c : Dev nD) (n : ℕ) : CellTallies nD τ sig ℕ :=
  ∑ t ∈ Finset.Ico n (last d + 1), tallyAt (rCell d k (nxt d c) (slotOf t)) t NN

theorem Ico_pop {n m : ℕ} (h : n < m) : Finset.Ico n m = insert n (Finset.Ico (n + 1) m) := by
  ext i; simp only [Finset.mem_Ico, Finset.mem_insert]; omega
theorem Ico_push {n m : ℕ} (h : n ≤ m) : Finset.Ico n (m + 1) = insert m (Finset.Ico n m) := by
  ext i; simp only [Finset.mem_Ico, Finset.mem_insert]; omega

theorem due_succ (d : Dir) (k : Kd) (c : Dev nD) (n : ℕ) (h : n ≤ last d) :
    due d k c n = due d k c (n + 1) + tallyAt (rCell d k (nxt d c) (slotOf n)) n NN := by
  unfold due
  rw [Ico_pop (by omega), Finset.sum_insert (by simp), add_comm]
theorem due_end (d : Dir) (k : Kd) (c : Dev nD) (n : ℕ) (h : last d < n) : due d k c n = 0 := by
  unfold due
  rw [Finset.Ico_eq_empty (by omega), Finset.sum_empty]

/-- What device `c` owes before the transfers `n d` of each direction. -/
def owing (c : Dev nD) (a b e f : ℕ) : CellTallies nD τ sig ℕ :=
  due false false c a + due false true c b + due true false c e + due true true c f

/-- What device `c` owes at the start: the landing of every transfer, a unit on each neighbour's barrier. -/
def O₀ (c : Dev nD) : CellTallies nD τ sig ℕ :=
  owing c 0 0 0 0 + tallyAt (bCell (nxt false c)) 0 1 + tallyAt (bCell (nxt true c)) 0 1

def L (g : GSem nD τ sig) : Finset ℕ := if g.1.2 = .tc then Finset.range 16 else ∅
/-- Landings at two above their number, the barrier at 1, the rest at 0. -/
def lv (g : GSem nD τ sig) (i : ℕ) : ℕ :=
  match g.2 with
  | .reg _ => 1
  | .dma j => match dec j with
    | some (_, _, true, _) => i + 2
    | _ => 0

theorem L_of_ne (g : GSem nD τ sig) (h : g.1.2 ≠ .tc) : L g = ∅ := if_neg h
theorem L_tc (c : Dev nD) (s : SemLoc sig) : L ((c : Thread nD τ), s) = Finset.range 16 := if_pos rfl
theorem lv_r (d : Dir) (k : Kd) (c : Dev nD) (p : Fin 4) (i : ℕ) : lv (rCell d k c p) i = i + 2 := by
  simp only [lv, rCell, rSem, dec_sm]
theorem lv_s (d : Dir) (k : Kd) (c : Dev nD) (p : Fin 4) (i : ℕ) : lv (sCell d k c p) i = 0 := by
  simp only [lv, sCell, sSem, dec_sm]
theorem lv_b (c : Dev nD) (i : ℕ) : lv (bCell c) i = 1 := rfl

/-- Every unit in the tally is at an index of its cell and above level `b`. -/
def Above (b : ℕ) (O : CellTallies nD τ sig ℕ) : Prop := ∀ g u, 0 < O g u → u ∈ L g ∧ b < lv g u

theorem Above.zero (b : ℕ) : Above b 0 := fun g u h => absurd h (Nat.lt_irrefl 0)
theorem Above.add {b : ℕ} {O O' : CellTallies nD τ sig ℕ} (h : Above b O) (h' : Above b O') : Above b (O + O') := by
  intro g u hg
  have : 0 < O g u + O' g u := hg
  rcases Nat.eq_zero_or_pos (O g u) with h0 | h0
  · exact h' g u (by omega)
  · exact h g u h0
theorem Above.tally {b : ℕ} {g : GSem nD τ sig} {i n : ℕ} (hi : i ∈ L g) (hb : b < lv g i) : Above b (tallyAt g i n) := by
  intro g' u hg
  rw [tallyAt_apply] at hg
  by_cases h : g' = g ∧ u = i
  · rw [h.1, h.2]; exact ⟨hi, hb⟩
  · rw [if_neg h] at hg; exact absurd hg (Nat.lt_irrefl 0)
theorem Above.sum {b : ℕ} {ι : Type} (s : Finset ι) (O : ι → CellTallies nD τ sig ℕ) (h : ∀ i ∈ s, Above b (O i)) :
    Above b (∑ i ∈ s, O i) :=
  Finset.sum_induction _ (Above b) (fun _ _ => Above.add) (Above.zero b) h

theorem last_lt (d : Dir) : last d < 16 := by cases d <;> decide

theorem Above.due {b : ℕ} (d : Dir) (k : Kd) (c : Dev nD) (n : ℕ) (h : b < n + 2) : Above b (due d k c n) := by
  refine Above.sum _ _ fun t ht => Above.tally ?_ ?_
  · rw [L_tc]; rw [Finset.mem_Ico] at ht; rw [Finset.mem_range]; have := last_lt d; omega
  · rw [lv_r]; rw [Finset.mem_Ico] at ht; omega
theorem Above.owing {b : ℕ} (c : Dev nD) (x y z w : ℕ) (hx : b < x + 2) (hy : b < y + 2) (hz : b < z + 2) (hw : b < w + 2) :
    Above b (owing c x y z w) :=
  (((Above.due _ _ _ _ hx).add (Above.due _ _ _ _ hy)).add (Above.due _ _ _ _ hz)).add (Above.due _ _ _ _ hw)
theorem Above.start (c : Dev nD) : Above 0 (O₀ c) :=
  ((Above.owing c 0 0 0 0 (by decide) (by decide) (by decide) (by decide)).add
    (Above.tally (by rw [L_tc]; decide) (by rw [lv_b]; decide))).add (Above.tally (by rw [L_tc]; decide) (by rw [lv_b]; decide))

theorem mayWait (c : Dev nD) (s : SemLoc sig) (i : ℕ) (hi : i < 16) (O : CellTallies nD τ sig ℕ)
    (h : Above (lv ((c : Thread nD τ), s) i) O) : (levAts L lv : sProp 𝕄) ⊢ MayWait (c : Thread nD τ) s i O :=
  MayOwe.of_cut (L := L) (lev := lv) (lv ((c : Thread nD τ), s) i)
    (fun p hp => by rw [Finset.mem_singleton.mp hp, L_tc, Finset.mem_range]; exact hi)
    (fun g u hg => (h g u hg).1)
    (fun p hp => by rw [Finset.mem_singleton.mp hp])
    (fun g u hg => (h g u hg).2)

end Cert.KernelIdeal.Ring

end
-- ==== Proof.Ops.lean ====
/- The three transfer operations at a symbolic transfer number: what each takes from and returns to a device's ledger. -/
module

public import proofs.«01_k».proof.Proof.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

theorem bigSep_put {I : Type} [DecidableEq I] {i : I} {s : Finset I} (h : i ∉ s) {Φ : I → sProp 𝕄} :
    bigSep (insert i s) Φ = iprop(Φ i ∗ bigSep s Φ) := bigSep_insert h
theorem bigSep_pick {I : Type} [DecidableEq I] {i : I} {s : Finset I} (h : i ∈ s) {Φ : I → sProp 𝕄} :
    bigSep s Φ = iprop(Φ i ∗ bigSep (s.erase i) Φ) := bigSep_erase h

abbrev 𝒱₀ : Variants := Variants.none

/-! ## The operations, for either direction and kind -/

theorem exact_sl (d : Dir) (k : Kd) (s : Fin 4) : (sl d k s).view.WordExact := by
  cases d <;> cases k <;> exact (View.wordExact_bits rfl).reshape _ _

/-- Start transfer `t`. -/
def sendG (d : Dir) (k : Kd) (dev : Dev nD) (t : ℕ) : BProg F PUnit :=
  Prog.lift (.enqueueDma (sl d k (slotOf t)) (.remote (Dev.tc dev) (sl d k (slotOf (t + 1))) (sSem d k (slotOf t))
    (by cases d <;> cases k <;> rfl)) (rSem d k (slotOf t)) (exact_sl d k _) (exact_sl d k _) ⟨⟨rfl, Or.inl rfl⟩, trivial⟩)
/-- Wait for the landing of transfer `t`. -/
def recvG (d : Dir) (k : Kd) (t : ℕ) : BProg F PUnit :=
  Prog.lift (.waitDma2 (sm d k true (slotOf t + 1)) (sl d k (slotOf t)) (sl d k (slotOf (t + 1))) (exact_sl d k _) (exact_sl d k _))
/-- Wait for the leaving of transfer `t`. -/
def sentG (d : Dir) (k : Kd) (t : ℕ) : BProg F PUnit :=
  Prog.lift (.waitDma2 (sm d k false (slotOf t)) (sl d k (slotOf (t + 1))) (sl d k (slotOf t)) (exact_sl d k _) (exact_sl d k _))

/-! ## A device's ledger -/

/-- The cells a device opens. -/
def cellAt (x : Dev nD × Dir × Kd × Bool × Fin 4) : GSem nD τ sig := ((x.1 : Thread nD τ), .dma (sm x.2.1 x.2.2.1 x.2.2.2.1 x.2.2.2.2))
theorem cellAt_inj : Function.Injective cellAt := by
  rintro ⟨c, d, k, b, s⟩ ⟨c', d', k', b', s'⟩ h
  have h1 : c = c' := congrArg (fun g : GSem nD τ sig => g.1.1) h
  have h2 : sm d k b s = sm d' k' b' s' := by
    have : (SemLoc.dma (sm d k b s) : SemLoc sig) = .dma (sm d' k' b' s') := congrArg (fun g : GSem nD τ sig => g.2) h
    injection this
  obtain ⟨rfl, rfl, rfl, rfl⟩ := sm_inj h2
  rw [h1]
def bCellEmb : Dev nD ↪ GSem nD τ sig := ⟨bCell, fun c c' h => congrArg (fun g : GSem nD τ sig => g.1.1) h⟩
def barCells : Finset (GSem nD τ sig) := Finset.univ.map bCellEmb
def scCells : Finset (GSem nD τ sig) := Finset.univ.map ⟨cellAt, cellAt_inj⟩
def cells : Finset (GSem nD τ sig) := barCells ∪ scCells

theorem sCell_mem (d : Dir) (k : Kd) (c : Dev nD) (p : Fin 4) : sCell d k c p ∈ cells :=
  Finset.mem_union_right _ (Finset.mem_map.mpr ⟨(c, d, k, false, p), Finset.mem_univ _, rfl⟩)
theorem rCell_mem (d : Dir) (k : Kd) (c : Dev nD) (p : Fin 4) : rCell d k c p ∈ cells :=
  Finset.mem_union_right _ (Finset.mem_map.mpr ⟨(c, d, k, true, p + 1), Finset.mem_univ _, rfl⟩)
theorem bCell_mem (c : Dev nD) : bCell c ∈ cells :=
  Finset.mem_union_left _ (Finset.mem_map.mpr ⟨c, Finset.mem_univ _, rfl⟩)

variable (B : Blocks F)

/-- The levels. -/
def levs : sProp 𝕄 := levAts L lv
instance levs_persistent : BI.Persistent (levs (F := F)) := by unfold levs; infer_instance
theorem levs_mayWait (c : Dev nD) (s : SemLoc sig) (i : ℕ) (hi : i < 16) (O : CellTallies nD τ sig ℕ)
    (h : Above (lv ((c : Thread nD τ), s) i) O) : (levs : sProp 𝕄) ⊢ MayWait (c : Thread nD τ) s i O := mayWait c s i hi O h

/-- Every cell's invariant, at the names `K`; the levels. -/
def ctx (K : GSem nD τ sig → ℕ) : sProp 𝕄 := iprop(bigSep cells (fun g => cellInv ER (Rd B) (K g) g) ∗ levs)
instance ctx_persistent (K : GSem nD τ sig → ℕ) : BI.Persistent (ctx B K) := by unfold ctx; infer_instance
theorem ctx_inv {K : GSem nD τ sig → ℕ} {g : GSem nD τ sig} (h : g ∈ cells) : ctx B K ⊢ cellInv ER (Rd B) (K g) g :=
  sep_elim_left.trans (bigSep_elim h)
theorem ctx_mayWait {K : GSem nD τ sig → ℕ} (c : Dev nD) (s : SemLoc sig) (i : ℕ) (hi : i < 16) (O : CellTallies nD τ sig ℕ)
    (h : Above (lv ((c : Thread nD τ), s) i) O) : ctx B K ⊢ MayWait (c : Thread nD τ) s i O :=
  sep_elim_right.trans (levs_mayWait c s i hi O h)

/-- Where a device stands on the four cells of an array, when the transfers below `n` have been waited for. -/
def stand (cell : Fin 4 → GSem nD τ sig) (n : ℕ) : sProp 𝕄 :=
  bigSep Finset.univ fun p => iprop(atPos ER (cell p) (cnt p n) ∅ 0 ∗ reached ER (cell p) (cnt p n))

theorem stand_take (cell : Fin 4 → GSem nD τ sig) (t : ℕ) :
    (stand cell t : sProp 𝕄) ⊢ iprop(atPos ER (cell (slotOf t)) (t / 4) ∅ 0
      ∗ ((atPos ER (cell (slotOf t)) (t / 4 + 1) ∅ 0 ∗ reached ER (cell (slotOf t)) (t / 4 + 1)) -∗ stand cell (t + 1))) := by
  unfold stand
  rw [bigSep_pick (Finset.mem_univ (slotOf t)), cnt_self, bigSep_pick (Finset.mem_univ (slotOf t)) (Φ := fun p => iprop(atPos ER (cell p) (cnt p (t + 1)) ∅ 0 ∗ reached ER (cell p) (cnt p (t + 1)))),
    cnt_self_succ]
  iintro ⟨⟨Ha, -⟩, Hr⟩
  isplitl [Ha]; · iexact Ha
  iintro H
  isplitl [H]; · iexact H
  iapply (Entails.of_eq (bigSep_congr (s := Finset.univ.erase (slotOf t)) (Φ := fun p => iprop(atPos ER (cell p) (cnt p t) ∅ 0 ∗ reached ER (cell p) (cnt p t)))
    (Ψ := fun p => iprop(atPos ER (cell p) (cnt p (t + 1)) ∅ 0 ∗ reached ER (cell p) (cnt p (t + 1)))) fun p hp => by
      rw [cnt_other t p (Finset.ne_of_mem_erase hp)])) $$ Hr

theorem stand_reached (cell : Fin 4 → GSem nD τ sig) (t n : ℕ) (h : n ≤ t) (h' : t < n + 4) :
    (stand cell n : sProp 𝕄) ⊢ iprop(reached ER (cell (slotOf t)) (t / 4) ∗ stand cell n) := by
  unfold stand
  rw [bigSep_pick (F := F) (Finset.mem_univ (slotOf t)), cnt_near t n h h']
  iintro ⟨⟨Ha, #Hr⟩, H⟩
  isplitr; · iexact Hr
  isplitl [Ha]
  · isplitl [Ha]; · iexact Ha
    iexact Hr
  iexact H

/-- One direction and kind of a device: the tokens of the transfers from `ns` on, the transfers `nw ≤ t < ns` under way, the
    landings from `nr` on still to come. -/
def led (d : Dir) (k : Kd) (c : Dev nD) (ns nw nr : ℕ) : sProp 𝕄 :=
  iprop((bigSep (Finset.Ico ns (last d + 1)) fun t => iprop(dutyTok ER (sCell d k c (slotOf t)) (t / 4) false
      ∗ dutyTok ER (rCell d k (nxt d c) (slotOf t)) (t / 4) false))
    ∗ (bigSep (Finset.Ico nw ns) fun t => (cred (tallyAt (sCell d k c (slotOf t)) 0 NN) : sProp 𝕄))
    ∗ (bigSep (Finset.Ico nr (last d + 1)) fun t => (cred (tallyAt (rCell d k c (slotOf t)) t NN) : sProp 𝕄))
    ∗ stand (sCell d k c) nw ∗ stand (rCell d k c) nr)

/-- A device owing `O`. -/
def owesAny (c : Dev nD) (O : CellTallies nD τ sig ℕ) : sProp 𝕄 := iprop(∃ W, owes (c : Thread nD τ) O W)

theorem wp_recvG (K : GSem nD τ sig → ℕ) (d : Dir) (k : Kd) (c : Dev nD) (ns nw t : ℕ) (ht : t ≤ last d)
    {O : CellTallies nD τ sig ℕ} (hO : Above (t + 2) O) {α : Type} (kk : PUnit → BProg F α) (Φ : α → sProp 𝕄) :
    iprop(ctx B K ∗ led d k c ns nw t ∗ owesAny c O)
      ⊢ iprop(((led d k c ns nw (t + 1) ∗ landPay B d k c t ∗ owesAny c O)
          -∗ wp frame (wpE (defs₀ (F := F)) 𝒱₀ c none) Set.univ (kk ⟨⟩) Φ)
        -∗ wp frame (wpE (defs₀ (F := F)) 𝒱₀ c none) Set.univ ((recvG d k t).bind kk) Φ) := by
  unfold recvG led owesAny
  simp only [Prog.lift, Prog.bind_op, Prog.bind_ret]
  rw [Ico_pop (n := t) (by omega), bigSep_put (by simp)]
  have hw : ∀ K' : PUnit → sProp 𝕄, wpE (defs₀ (F := F)) 𝒱₀ (c : Thread nD τ) none Set.univ
      (.waitDma2 (sm d k true (slotOf t + 1)) (sl d k (slotOf t)) (sl d k (slotOf (t + 1))) (exact_sl d k _) (exact_sl d k _)) K'
        = waitSpec (c : Thread nD τ) Set.univ (rSem d k (slotOf t)) NN K' := fun K' => by
    rw [wpE_waitDma2_eq, credit_sl d k]
  have hm : ctx B K ⊢ MayWait (c : Thread nD τ) (rSem d k (slotOf t)) t O :=
    ctx_mayWait B c (rSem d k (slotOf t)) t (by have := last_lt d; omega) O (by rw [lv_r]; exact hO)
  iintro ⟨#Hctx, ⟨Htk, Hfl, ⟨Hc, Hla⟩, HsS, HsR⟩, ⟨%W, HO⟩⟩ Hk
  ihave #Hmw := hm $$ Hctx
  ihave HsR' := (stand_take (rCell d k c) t) $$ HsR
  icases HsR' with ⟨Hat, Hback⟩
  iapply (Rounds.wp_wait_rest_token 𝒱₀ ER (Rd B) (c : Thread nD τ) none (κ := K (rCell d k c (slotOf t))) (k' := NN)
      (sm := rSem d k (slotOf t))
      hw (Set.mem_univ _) t (O := O) (W := W) (R := t / 4) (m := 0) (T := ∅)
      ((Nat.zero_add _).trans (expect_r B d k c t ht).symm)) $$ [Hc HO Hat]
  · isplitr; · iapply (ctx_inv B (rCell_mem d k c (slotOf t))); iexact Hctx
    isplitl [Hc]; · iexact Hc
    isplitl [HO]; · iexact HO
    isplitr
    · iexact Hmw
    iexact Hat
  iintro ⟨HO, Hat, Hr, Hpay⟩
  ihave Hp := (Entails.of_eq (rest_r B d k c t ht)) $$ Hpay
  iapply Hk
  isplitl [Htk Hfl Hla HsS Hback Hat Hr]
  · isplitl [Htk]; · iexact Htk
    isplitl [Hfl]; · iexact Hfl
    isplitl [Hla]; · iexact Hla
    isplitl [HsS]; · iexact HsS
    iapply Hback
    isplitl [Hat]; · iexact Hat
    iexact Hr
  isplitl [Hp]; · iexact Hp
  iexists _; iexact HO

theorem wp_sentG (K : GSem nD τ sig → ℕ) (d : Dir) (k : Kd) (c : Dev nD) (ns t nr : ℕ) (ht : t < ns) (ht' : t ≤ last d)
    {O : CellTallies nD τ sig ℕ} (hO : Above 0 O) {α : Type} (kk : PUnit → BProg F α) (Φ : α → sProp 𝕄) :
    iprop(ctx B K ∗ led d k c ns t nr ∗ owesAny c O)
      ⊢ iprop(((led d k c ns (t + 1) nr ∗ sentPay B d k c t ∗ owesAny c O)
          -∗ wp frame (wpE (defs₀ (F := F)) 𝒱₀ c none) Set.univ (kk ⟨⟩) Φ)
        -∗ wp frame (wpE (defs₀ (F := F)) 𝒱₀ c none) Set.univ ((sentG d k t).bind kk) Φ) := by
  unfold sentG led owesAny
  simp only [Prog.lift, Prog.bind_op, Prog.bind_ret]
  rw [Ico_pop (n := t) ht, bigSep_put (by simp)]
  have hw : ∀ K' : PUnit → sProp 𝕄, wpE (defs₀ (F := F)) 𝒱₀ (c : Thread nD τ) none Set.univ
      (.waitDma2 (sm d k false (slotOf t)) (sl d k (slotOf (t + 1))) (sl d k (slotOf t)) (exact_sl d k _) (exact_sl d k _)) K'
        = waitSpec (c : Thread nD τ) Set.univ (sSem d k (slotOf t)) NN K' := fun K' => by
    rw [wpE_waitDma2_eq, credit_sl d k]
  have hm : ctx B K ⊢ MayWait (c : Thread nD τ) (sSem d k (slotOf t)) 0 O :=
    ctx_mayWait B c (sSem d k (slotOf t)) 0 (by decide) O (by rw [lv_s]; exact hO)
  iintro ⟨#Hctx, ⟨Htk, ⟨Hc, Hfl⟩, Hla, HsS, HsR⟩, ⟨%W, HO⟩⟩ Hk
  ihave #Hmw := hm $$ Hctx
  ihave HsS' := (stand_take (sCell d k c) t) $$ HsS
  icases HsS' with ⟨Hat, Hback⟩
  iapply (Rounds.wp_wait_rest_token 𝒱₀ ER (Rd B) (c : Thread nD τ) none (κ := K (sCell d k c (slotOf t))) (k' := NN)
      (sm := sSem d k (slotOf t))
      hw (Set.mem_univ _) 0 (O := O) (W := W) (R := t / 4) (m := 0) (T := ∅)
      ((Nat.zero_add _).trans (expect_s B d k c t ht').symm)) $$ [Hc HO Hat]
  · isplitr; · iapply (ctx_inv B (sCell_mem d k c (slotOf t))); iexact Hctx
    isplitl [Hc]; · iexact Hc
    isplitl [HO]; · iexact HO
    isplitr
    · iexact Hmw
    iexact Hat
  iintro ⟨HO, Hat, Hr, Hpay⟩
  ihave Hp := (Entails.of_eq (rest_s B d k c t ht')) $$ Hpay
  iapply Hk
  isplitl [Htk Hfl Hla HsR Hback Hat Hr]
  · isplitl [Htk]; · iexact Htk
    isplitl [Hfl]; · iexact Hfl
    isplitl [Hla]; · iexact Hla
    isplitl [Hback Hat Hr]
    · iapply Hback
      isplitl [Hat]; · iexact Hat
      iexact Hr
    iexact HsR
  isplitl [Hp]; · iexact Hp
  iexists _; iexact HO

/-- A slot a copy has written holds what was read. -/
theorem landed (d : Dir) (k : Kd) (c : Dev nD) (s s' : Fin 4) (w : (shp k).Idx → F .f32)
    (f : Buf (Elt F) ((sl d k s').view.loc (c : Thread nD τ))) :
    ((sl d k s').view.loc (c : Thread nD τ) ↦[(sl d k s').view.set]{fullShare}
        ((sl d k s').view.write (Elt F) f ((sl d k s).view.read (Elt F) ((sl d k s).view.rep w)) Finset.univ) : sProp 𝕄)
      = slotAt d k c s' fullShare w := by
  unfold slotAt
  rw [pointsTo_rep (c : Thread nD τ) (sl d k s'), View.read_write_univ, View.read_rep]

theorem wp_sendG (K : GSem nD τ sig → ℕ) (d : Dir) (k : Kd) (c dev : Dev nD) (hdev : dev = nxt d c) (t nw nr : ℕ) (ht : t ≤ last d)
    (h : nw ≤ t) (h' : t < nw + 4)
    {Oin O : CellTallies nD τ sig ℕ} (hO : Oin = O + tallyAt (rCell d k (nxt d c) (slotOf t)) t NN)
    {α : Type} (kk : PUnit → BProg F α) (Φ : α → sProp 𝕄) :
    iprop(ctx B K ∗ led d k c t nw nr ∗ owesAny c Oin ∗ hold B d k c t half ∗ free d k (nxt d c) t ∗ rideRest B d k (nxt d c) t)
      ⊢ iprop(((led d k c (t + 1) nw nr ∗ owesAny c O)
          -∗ wp frame (wpE (defs₀ (F := F)) 𝒱₀ c none) Set.univ (kk ⟨⟩) Φ)
        -∗ wp frame (wpE (defs₀ (F := F)) 𝒱₀ c none) Set.univ ((sendG d k dev t).bind kk) Φ) := by
  subst hdev
  unfold sendG led owesAny free slotAny
  simp only [Prog.lift, Prog.bind_op, Prog.bind_ret]
  rw [Ico_pop (n := t) (by omega), bigSep_put (by simp), Ico_push (m := t) h, bigSep_put (by simp)]
  iintro ⟨#Hctx, ⟨⟨⟨HtS, HtR⟩, Htk⟩, Hfl, Hla, HsS, HsR⟩, ⟨%W, HO⟩, Hsrc, ⟨⟨%fd, Hdst⟩, #HrR⟩, Hride⟩ Hk
  ihave HsS' := (stand_reached (sCell d k c) t nw h h') $$ HsS
  icases HsS' with ⟨#HrS, HsS⟩
  have hold_nxt : hold B d k (nxt d c) (t + 1) fullShare = slotAt d k (nxt d c) (slotOf (t + 1)) fullShare (B k (org d t c)) := by
    unfold hold; rw [org_nxt]
  by_cases hc : cont d t
  · iapply (Rounds.wp_send_landing_pointsTo_with 𝒱₀ ER (Rd B) (c : Thread nD τ) none (c' := ((nxt d c : Dev nD) : Thread nD τ))
        (src := sl d k (slotOf t)) (dst := sl d k (slotOf (t + 1))) (sS := sSem d k (slotOf t)) (sem := rSem d k (slotOf t))
        (q := half) (fs := (sl d k (slotOf t)).view.rep (Val := Elt F) (B k (org d t c)))
        (κ₁ := K (sCell d k c (slotOf t))) (κ₂ := K (rCell d k (nxt d c) (slotOf t)))
        (r₁ := t / 4) (r₂ := t / 4) (d₁ := false) (d₂ := false) (fd := fd) (F := rideRest B d k (nxt d c) t)
        (by rw [duties_s B d k c t ht]; exact Finset.mem_singleton_self _)
        (by rw [duties_r B d k (nxt d c) t ht]; exact Finset.mem_singleton_self _)
        t 0 NN (credit_sl d k _) (amount_s B d k c _ _ _) (amount_r B d k (nxt d c) _ _ _) O hO (W := W)
        (by rw [payload_s]; unfold sentPay; rw [if_pos hc])
        (by
          rw [payload_r, landed]; unfold landPay
          rw [if_pos hc, hold_nxt, prv_nxt]; unfold hold slotAt
          iintro ⟨⟨H1, H2⟩, H3⟩
          isplitl [H1]; · iexact H1
          isplitl [H3]; · iexact H3
          iexact H2)) $$ [Hsrc Hdst Hride HO HtS HtR]
    · isplitr; · iapply (ctx_inv B (sCell_mem d k c (slotOf t))); iexact Hctx
      isplitr; · iapply (ctx_inv B (rCell_mem d k (nxt d c) (slotOf t))); iexact Hctx
      isplitl [Hsrc]; · unfold hold slotAt; iexact Hsrc
      isplitl [Hdst Hride]
      · isplitl [Hdst]; · iexact Hdst
        iexact Hride
      isplitl [HO]; · iexact HO
      isplitl [HtS]; · iexact HtS
      isplitr; · iexact HrS
      isplitl [HtR]; · iexact HtR
      iexact HrR
    iintro ⟨Hc, HO⟩
    iapply Hk
    isplitr [HO]
    · isplitl [Htk]; · iexact Htk
      isplitl [Hc Hfl]
      · isplitl [Hc]; · iexact Hc
        iexact Hfl
      isplitl [Hla]; · iexact Hla
      isplitl [HsS]; · iexact HsS
      iexact HsR
    iexists _; iexact HO
  · iapply (Rounds.wp_send_pointsTo_with 𝒱₀ ER (Rd B) (c : Thread nD τ) none (c' := ((nxt d c : Dev nD) : Thread nD τ))
        (src := sl d k (slotOf t)) (dst := sl d k (slotOf (t + 1))) (sS := sSem d k (slotOf t)) (sem := rSem d k (slotOf t))
        (q := half) (fs := (sl d k (slotOf t)).view.rep (Val := Elt F) (B k (org d t c)))
        (κ₁ := K (sCell d k c (slotOf t))) (κ₂ := K (rCell d k (nxt d c) (slotOf t)))
        (r₁ := t / 4) (r₂ := t / 4) (d₁ := false) (d₂ := false) (fd := fd) (F := rideRest B d k (nxt d c) t)
        (by rw [duties_s B d k c t ht]; exact Finset.mem_singleton_self _)
        (by rw [duties_r B d k (nxt d c) t ht]; exact Finset.mem_singleton_self _)
        t 0 NN (credit_sl d k _) (amount_s B d k c _ _ _) (amount_r B d k (nxt d c) _ _ _) O hO (W := W)
        (by rw [payload_s]; unfold sentPay; rw [if_neg hc]; unfold hold slotAt; exact .rfl)
        (by
          rw [payload_r, landed]; unfold landPay
          rw [if_neg hc, hold_nxt]
          iintro ⟨H1, H2⟩
          isplitl [H1]; · iexact H1
          isplitr; · iempintro
          iexact H2)) $$ [Hsrc Hdst Hride HO HtS HtR]
    · isplitr; · iapply (ctx_inv B (sCell_mem d k c (slotOf t))); iexact Hctx
      isplitr; · iapply (ctx_inv B (rCell_mem d k (nxt d c) (slotOf t))); iexact Hctx
      isplitl [Hsrc]; · unfold hold slotAt; iexact Hsrc
      isplitl [Hdst Hride]
      · isplitl [Hdst]; · iexact Hdst
        iexact Hride
      isplitl [HO]; · iexact HO
      isplitl [HtS]; · iexact HtS
      isplitr; · iexact HrS
      isplitl [HtR]; · iexact HtR
      iexact HrR
    iintro ⟨Hc, HO⟩
    iapply Hk
    isplitr [HO]
    · isplitl [Htk]; · iexact Htk
      isplitl [Hc Hfl]
      · isplitl [Hc]; · iexact Hc
        iexact Hfl
      isplitl [Hla]; · iexact Hla
      isplitl [HsS]; · iexact HsS
      iexact HsR
    iexists _; iexact HO

end Cert.KernelIdeal.Ring

end
-- ==== Proof.Mem.lean ====
/- Loads and stores of the body: a slot read at any share, a slot written, the output's two rows, one contribution to a row. -/
module

public import proofs.«01_k».proof.Proof.Ops
public import Idealize.ShloMosaic.Lib.ValueLayout

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx (ix2 ix3)

variable {F : FTy → Type} [FloatOps F]

local notation "𝕄" => MT nD τ sig ℕ (Elt F) ℕ UU ℕ
local notation "WP" => wp frame (wpE (defs₀ (F := F)) 𝒱₀ _ none) Set.univ

/-! ## A memref held whole, and a squeezed slice of one -/

/-- The elements of `m` on device `c` hold `v`, at share `q`. -/
def at' {s : Shape} (m : Memref sig .tc .vmem s .f32) (c : Dev nD) (q : PosShare TreeShare) (v : Vec F s .f32) : sProp 𝕄 :=
  m.view.loc (c : Thread nD τ) ↦[m.view.set]{q} m.view.rep (Val := Elt F) v

theorem at'_of {s : Shape} (m : Memref sig .tc .vmem s .f32) (c : Dev nD) (q : PosShare TreeShare) (f : Buf (Elt F) (m.view.loc (c : Thread nD τ)))
    (v : Vec F s .f32) (h : m.view.read (Elt F) f = v) :
    (m.view.loc (c : Thread nD τ) ↦[m.view.set]{q} f : sProp 𝕄) = at' m c q v := by
  unfold at'; rw [pointsTo_rep (c : Thread nD τ) m, h]

/-- A load of a box of a memref held. -/
theorem wp_box {s : Shape} (m : Memref sig .tc .vmem s .f32) (c : Dev nD) (q : PosShare TreeShare) (v : Vec F s .f32)
    {off off' size : Fin s.rank → ℕ} (inb : ∀ a, off a + size a ≤ s.size a) (h : off = off') (inb' : ∀ a, off' a + size a ≤ s.size a)
    (hl : m.view.LoadsAt (Rect.unit off size inb).toLoadRect) {α : Type}
    (kk : Vec F (Rect.unit off size inb).shape .f32 → BProg F α) (Φ : α → sProp 𝕄) :
    at' m c q v ⊢ iprop((at' m c q v -∗ wp frame (wpE (defs₀ (F := F)) 𝒱₀ c none) Set.univ (kk (VecWindow.window v off' size inb')) Φ)
      -∗ wp frame (wpE (defs₀ (F := F)) 𝒱₀ c none) Set.univ (.op (.load m (Rect.unit off size inb).toLoadRect hl) kk) Φ) := by
  unfold at'
  have e : m.view.readAt (Elt F) (Rect.unit off size inb).toLoadRect (m.view.rep v) = VecWindow.window v off' size inb' :=
    View.readAt_rep_unit m.view v inb h inb'
  rw [← e]
  exact wp_load 𝒱₀ (c : Thread nD τ) none Set.univ (View.setOn_subset_set _ _)

/-- A store of a box of a memref held. -/
theorem wp_box_store {s : Shape} (m : Memref sig .tc .vmem s .f32) (c : Dev nD) (v : Vec F s .f32)
    {off size : Fin s.rank → ℕ} (inb : ∀ a, off a + size a ≤ s.size a) (w : Vec F (Rect.unit off size inb).shape .f32)
    (hx : (m.access (Rect.unit off size inb)).Stores Finset.univ) (hm) {α : Type} (kk : PUnit → BProg F α) (Φ : α → sProp 𝕄) :
    at' m c fullShare v ⊢ iprop((at' m c fullShare (VecWindow.put v off size w) -∗ wp frame (wpE (defs₀ (F := F)) 𝒱₀ c none) Set.univ (kk ⟨⟩) Φ)
      -∗ wp frame (wpE (defs₀ (F := F)) 𝒱₀ c none) Set.univ (.op (.store m (Rect.unit off size inb) w Finset.univ hx hm) kk) Φ) := by
  have e : (m.view.loc (c : Thread nD τ) ↦[m.view.set]{fullShare}
      ((m.access (Rect.unit off size inb)).write (Elt F) (m.view.rep (Val := Elt F) v) w Finset.univ) : sProp 𝕄)
        = at' m c fullShare (VecWindow.put v off size w) :=
    at'_of m c fullShare _ _ (View.read_writes_rep_unit m.view v inb w rfl)
  unfold at' at e ⊢
  iintro H Hk
  iapply (wp_store 𝒱₀ (c : Thread nD τ) none Set.univ (m := m) (r := Rect.unit off size inb) (w := w) (Mk := Finset.univ)
    (View.set_slice_subset m.view (Rect.unit off size inb))) $$ [H]
  · iexact H
  iintro H
  iapply Hk
  iapply (Entails.of_eq e) $$ H

/-- A slot's slice reads the slot's values, laid out in the slice's shape. -/
theorem read_reshape_rep {κ : Kind} {sp : Space} {s s' : Shape} (v : View sig κ sp s .f32) (h : s'.numel = s.numel) (w : Vec F s' .f32)
    (h' : s'.ShapeCasts s) : v.read (Elt F) ((v.reshape s' h).rep (Val := Elt F) w) = shapeCast s w h' := by
  funext z
  have := congrFun (View.read_rep (Val := Elt F) (v.reshape s' h) w) (Shape.reshapeEquiv h' z)
  rw [show shapeCast s w h' z = w (Shape.reshapeEquiv h' z) from rfl, ← this]
  show v.read (Elt F) _ z = v.read (Elt F) _ (Shape.reshapeEquiv h (Shape.reshapeEquiv h' z))
  rw [Shape.reshapeEquiv_reshapeEquiv, Shape.reshapeEquiv_self]

/-- A load of a slot through the ring's memref, at any share. -/
theorem wp_slot {s s' : Shape} (M : Memref sig .tc .vmem s .f32) (r : Rect s) (h1 : ∀ a, r.stride a = 1) (hq : r.shape.Squeezes s')
    (h' : s'.ShapeCasts r.shape) (c : Dev nD) (q : PosShare TreeShare) (w : Vec F s' .f32) (hl : M.view.LoadsAt r.toLoadRect)
    {α : Type} (kk : Vec F r.shape .f32 → BProg F α) (Φ : α → sProp 𝕄) :
    at' ((M.slice r h1).squeeze s' hq) c q w
      ⊢ iprop((at' ((M.slice r h1).squeeze s' hq) c q w -∗ wp frame (wpE (defs₀ (F := F)) 𝒱₀ c none) Set.univ (kk (shapeCast r.shape w h')) Φ)
        -∗ wp frame (wpE (defs₀ (F := F)) 𝒱₀ c none) Set.univ (.op (.load M r.toLoadRect hl) kk) Φ) := by
  unfold at'
  have e : (M.access r).read (Elt F) (((M.slice r h1).squeeze s' hq).view.rep w) = shapeCast r.shape w h' :=
    read_reshape_rep (M.access r) hq.numel_eq w h'
  rw [← e]
  exact wp_load_rect 𝒱₀ (c : Thread nD τ) none Set.univ (subset_of_eq (View.set_reshape (v := M.access r) hq.numel_eq).symm)

/-- A store over a slot whose contents are not named, after the load of it that the store replaces. -/
theorem wp_slot_store {s s' : Shape} (M : Memref sig .tc .vmem s .f32) (r : Rect s) (h1 : ∀ a, r.stride a = 1) (hq : r.shape.Squeezes s')
    (h' : r.shape.ShapeCasts s') (c : Dev nD) (f : Buf (Elt F) (((M.slice r h1).squeeze s' hq).view.loc (c : Thread nD τ)))
    (w : Vec F r.shape .f32) (hl : M.view.LoadsAt r.toLoadRect)
    (hx : (M.access r).Stores Finset.univ) (hm) {α : Type} (kk : PUnit → BProg F α) (Φ : α → sProp 𝕄) :
    (((M.slice r h1).squeeze s' hq).view.loc (c : Thread nD τ) ↦[((M.slice r h1).squeeze s' hq).view.set]{fullShare} f : sProp 𝕄)
      ⊢ iprop((at' ((M.slice r h1).squeeze s' hq) c fullShare (shapeCast s' w h')
          -∗ wp frame (wpE (defs₀ (F := F)) 𝒱₀ c none) Set.univ (kk ⟨⟩) Φ)
        -∗ wp frame (wpE (defs₀ (F := F)) 𝒱₀ c none) Set.univ (.op (.load M r.toLoadRect hl) fun _ => .op (.store M r w Finset.univ hx hm) kk) Φ) := by
  have e : (((M.slice r h1).squeeze s' hq).view.loc (c : Thread nD τ) ↦[((M.slice r h1).squeeze s' hq).view.set]{fullShare}
      ((M.access r).write (Elt F) f w Finset.univ) : sProp 𝕄) = at' ((M.slice r h1).squeeze s' hq) c fullShare (shapeCast s' w h') :=
    at'_of _ c fullShare _ _ (by
      funext y
      exact congrFun (View.read_write_univ (v := M.access r) (Val := Elt F) f w) (Shape.reshapeEquiv hq.numel_eq y))
  have hS : (M.access r).set ⊆ ((M.slice r h1).squeeze s' hq).view.set := subset_of_eq (View.set_reshape (v := M.access r) hq.numel_eq).symm
  rw [← e]
  iintro H Hk
  iapply (wp_load_rect 𝒱₀ (c : Thread nD τ) none Set.univ (m := M) (r := r) (f := f) hS) $$ [H]
  · iexact H
  iintro H
  iapply (wp_store 𝒱₀ (c : Thread nD τ) none Set.univ (m := M) (r := r) (f := f) (w := w) (Mk := Finset.univ) hS) $$ [H]
  · iexact H
  iexact Hk

/-! ## The output's two rows -/

/-- Two batch rows, each in the shape a store of one row has. -/
def rows (r : Fin 2 → FVec F S1x128x512 .f32) : S2x128x512.Idx → F .f32 := fun i => r (i 0) (ix3 (0 : Fin 1) (i 1) (i 2))

theorem rows_window (r : Fin 2 → FVec F S1x128x512 .f32) (b : Fin 2) :
    VecWindow.window (rows r) ![b.val, 0, 0] S1x128x512.size (inbX b) = r b := by
  funext y
  show r _ _ = r b y
  have h0 : (y 0).val = 0 := by have : (y 0).val < 1 := (y 0).isLt; omega
  congr 1
  · apply Fin.ext; show b.val + 1 * (y 0).val = b.val; omega
  · funext a
    fin_cases a
    · exact Fin.ext h0.symm
    · apply Fin.ext; show 0 + 1 * (y 1).val = (y 1).val; omega
    · apply Fin.ext; show 0 + 1 * (y 2).val = (y 2).val; omega

theorem put_row (o : S2x128x512.Idx → F .f32) (b : Fin 2) (w : FVec F S1x128x512 .f32) (i : S2x128x512.Idx) :
    VecWindow.put o ![b.val, 0, 0] S1x128x512.size w i = if (i 0).val = b.val then w (ix3 (0 : Fin 1) (i 1) (i 2)) else o i := by
  have h1 : (i 1).val < 128 := (i 1).isLt
  have h2 : (i 2).val < 512 := (i 2).isLt
  unfold VecWindow.put
  by_cases h : (i 0).val = b.val
  · rw [if_pos h, dif_pos (by
      intro a; fin_cases a
      · show b.val ≤ (i 0).val ∧ (i 0).val < b.val + 1; rw [h]; omega
      · show 0 ≤ (i 1).val ∧ (i 1).val < 0 + 128; omega
      · show 0 ≤ (i 2).val ∧ (i 2).val < 0 + 512; omega)]
    congr 1
    funext a; apply Fin.ext
    fin_cases a
    · show (i 0).val - b.val = 0; rw [h]; omega
    · show (i 1).val - 0 = (i 1).val; omega
    · show (i 2).val - 0 = (i 2).val; omega
  · rw [if_neg h, dif_neg]
    intro hh
    have := hh 0
    have hb : b.val ≤ (i 0).val ∧ (i 0).val < b.val + 1 := this
    exact h (by omega)

theorem put_rows (r : Fin 2 → FVec F S1x128x512 .f32) (b : Fin 2) (w : FVec F S1x128x512 .f32) :
    VecWindow.put (rows r) ![b.val, 0, 0] S1x128x512.size w = rows (Function.update r b w) := by
  funext i
  rw [put_row]; unfold rows
  by_cases h : (i 0).val = b.val
  · rw [if_pos h]
    have e (j : Fin 2) (hj : j.val = b.val) : w = Function.update r b w j := by rw [Fin.ext hj, Function.update_self]
    exact congrFun (e (i 0) h) _
  · rw [if_neg h]
    have e (j : Fin 2) (hj : ¬ j.val = b.val) : r j = Function.update r b w j := by
      rw [Function.update_of_ne (fun e => hj (congrArg Fin.val e))]
    exact congrFun (e (i 0) h) _

theorem put_put_rows (o : S2x128x512.Idx → F .f32) (w : Fin 2 → FVec F S1x128x512 .f32) :
    VecWindow.put (VecWindow.put o ![(0 : Fin 2).val, 0, 0] S1x128x512.size (w 0)) ![(1 : Fin 2).val, 0, 0] S1x128x512.size (w 1) = rows w := by
  funext i
  rw [put_row, put_row]; unfold rows
  have e0 (j : Fin 2) (hj : j.val = 0) : w 0 = w j := congrArg w (Fin.ext hj.symm)
  have e1 (j : Fin 2) (hj : j.val = 1) : w 1 = w j := congrArg w (Fin.ext hj.symm)
  have hlt : (i 0).val < 2 := (i 0).isLt
  by_cases h : (i 0).val = 1
  · exact (if_pos h).trans (congrFun (e1 (i 0) h) _)
  · have h' : (i 0).val = 0 := by omega
    exact (if_neg h).trans ((if_pos h').trans (congrFun (e0 (i 0) h') _))

/-! ## One contribution -/

theorem inbKV (b : Fin 2) (e : Dev nD) : ∀ a, (![128 * b.val + 4 * e.val, 0, 0] : Fin 3 → ℕ) a + S4x128x64.size a ≤ S256x128x64.size a := by
  intro a
  have := b.isLt
  have : e.val < 32 := e.isLt
  fin_cases a
  · show 128 * b.val + 4 * e.val + 4 ≤ 256; omega
  · show 0 + 128 ≤ 128; omega
  · show 0 + 64 ≤ 64; omega

/-- The arrays every contribution reads: the rows of `x`, the keys, the values. -/
structure Ins (F : FTy → Type) where
  x : S2x128x512.Idx → F .f32
  k : S256x128x64.Idx → F .f32
  v : S256x128x64.Idx → F .f32

/-- The contribution of device `e`'s blocks to batch row `b`. -/
def con (I : Ins F) (b : Fin 2) (e : Dev nD) (wq : FVec F S512x256 .f32) (wo : FVec F S256x512 .f32) : FVec F S128x512 .f32 :=
  attn (VecWindow.window I.x ![b.val, 0, 0] S1x128x512.size (inbX b)) wq
    (blockDiag (VecWindow.window I.k ![128 * b.val + 4 * e.val, 0, 0] S4x128x64.size (inbKV b e)))
    (blockDiag (VecWindow.window I.v ![128 * b.val + 4 * e.val, 0, 0] S4x128x64.size (inbKV b e))) wo

/-- A row with a contribution added. -/
def plus (r : FVec F S1x128x512 .f32) (w : FVec F S128x512 .f32) : FVec F S1x128x512 .f32 :=
  shapeCast S1x128x512 (addf (shapeCast S128x512 r shapeCasts_S1x128x512_S128x512) w) shapeCasts_S128x512_S1x128x512

/-- What a contribution reads, held. -/
def ins (A : Refs) (c : Dev nD) (I : Ins F) : sProp 𝕄 :=
  iprop(at' A.x c fullShare I.x ∗ at' A.k c fullShare I.k ∗ at' A.v c fullShare I.v)

theorem wp_first (A : Refs) (c : Dev nD) (I : Ins F) (o : S2x128x512.Idx → F .f32) (b : Fin 2) (e : Dev nD) (off : Fin 3 → ℕ)
    (h : ∀ a, off a + S4x128x64.size a ≤ S256x128x64.size a) (he : off = ![128 * b.val + 4 * e.val, 0, 0])
    (wq : FVec F S512x256 .f32) (wo : FVec F S256x512 .f32) {α : Type} (kk : PUnit → BProg F α) (Φ : α → sProp 𝕄) :
    iprop(ins A c I ∗ at' A.out c fullShare o)
      ⊢ iprop(((ins A c I ∗ at' A.out c fullShare (VecWindow.put o ![b.val, 0, 0] S1x128x512.size
            (shapeCast S1x128x512 (con I b e wq wo) shapeCasts_S128x512_S1x128x512)))
          -∗ wp frame (wpE (defs₀ (F := F)) 𝒱₀ c none) Set.univ (kk ⟨⟩) Φ)
        -∗ wp frame (wpE (defs₀ (F := F)) 𝒱₀ c none) Set.univ ((first A b off h wq wo).bind kk) Φ) := by
  unfold first getKV getX putX ins con
  simp only [Prog.lift, Prog.bind_op, Prog.bind_ret, Prog.pure_eq_ret, Prog.bind_assoc]
  iintro ⟨⟨Hx, Hkk, Hv⟩, Ho⟩ Hk
  iapply (wp_box A.k c fullShare I.k h he (inbKV b e) _ _ _) $$ [Hkk]
  · iexact Hkk
  iintro Hkk
  iapply (wp_box A.v c fullShare I.v h he (inbKV b e) _ _ _) $$ [Hv]
  · iexact Hv
  iintro Hv
  iapply (wp_box A.x c fullShare I.x (inbX b) rfl (inbX b) _ _ _) $$ [Hx]
  · iexact Hx
  iintro Hx
  iapply (wp_box A.out c fullShare o (inbX b) rfl (inbX b) _ _ _) $$ [Ho]
  · iexact Ho
  iintro Ho
  iapply (wp_box_store A.out c o (inbX b) _ _ _ _ _) $$ [Ho]
  · iexact Ho
  iintro Ho
  iapply Hk
  isplitr [Ho]
  · isplitl [Hx]; · iexact Hx
    isplitl [Hkk]; · iexact Hkk
    iexact Hv
  iexact Ho

theorem wp_more (A : Refs) (c : Dev nD) (I : Ins F) (r : Fin 2 → FVec F S1x128x512 .f32) (b : Fin 2) (e : Dev nD) (off : Fin 3 → ℕ)
    (h : ∀ a, off a + S4x128x64.size a ≤ S256x128x64.size a) (he : off = ![128 * b.val + 4 * e.val, 0, 0])
    (wq : FVec F S512x256 .f32) (wo : FVec F S256x512 .f32) {α : Type} (kk : PUnit → BProg F α) (Φ : α → sProp 𝕄) :
    iprop(ins A c I ∗ at' A.out c fullShare (rows r))
      ⊢ iprop(((ins A c I ∗ at' A.out c fullShare (rows (Function.update r b (plus (r b) (con I b e wq wo)))))
          -∗ wp frame (wpE (defs₀ (F := F)) 𝒱₀ c none) Set.univ (kk ⟨⟩) Φ)
        -∗ wp frame (wpE (defs₀ (F := F)) 𝒱₀ c none) Set.univ ((more A b off h wq wo).bind kk) Φ) := by
  rw [← put_rows]
  unfold more getKV getX putX ins plus con
  simp only [Prog.lift, Prog.bind_op, Prog.bind_ret, Prog.pure_eq_ret, Prog.bind_assoc]
  iintro ⟨⟨Hx, Hkk, Hv⟩, Ho⟩ Hk
  iapply (wp_box A.k c fullShare I.k h he (inbKV b e) _ _ _) $$ [Hkk]
  · iexact Hkk
  iintro Hkk
  iapply (wp_box A.v c fullShare I.v h he (inbKV b e) _ _ _) $$ [Hv]
  · iexact Hv
  iintro Hv
  iapply (wp_box A.x c fullShare I.x (inbX b) rfl (inbX b) _ _ _) $$ [Hx]
  · iexact Hx
  iintro Hx
  iapply (wp_box A.out c fullShare (rows r) (inbX b) rfl (inbX b) _ _ _) $$ [Ho]
  · iexact Ho
  iintro Ho
  iapply (wp_box A.out c fullShare (rows r) (inbX b) rfl (inbX b) _ _ _) $$ [Ho]
  · iexact Ho
  iintro Ho
  rw [rows_window]
  iapply (wp_box_store A.out c (rows r) (inbX b) _ _ _ _ _) $$ [Ho]
  · iexact Ho
  iintro Ho
  iapply Hk
  isplitr [Ho]
  · isplitl [Hx]; · iexact Hx
    isplitl [Hkk]; · iexact Hkk
    iexact Hv
  iexact Ho

end Cert.KernelIdeal.Ring

end
-- ==== Proof.Packs.lean ====
/- The body's transfer operations are the generic ones at its rings; the four waits for landings, the four waits for leavings,
   the two sends of one direction, each as one rule. -/
module

public import proofs.«01_k».proof.Proof.Mem

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- The body's arguments at its rings. -/
abbrev atRings (x : Memref sig .tc .vmem S2x128x512 .f32) (wq : Memref sig .tc .vmem S512x256 .f32)
    (k v : Memref sig .tc .vmem S256x128x64 .f32) (wo : Memref sig .tc .vmem S256x512 .f32)
    (out : Memref sig .tc .vmem S2x128x512 .f32) : Refs :=
  ⟨x, wq, k, v, wo, out, Memref.whole cc0_scratch0, Memref.whole cc0_scratch1, Memref.whole cc0_scratch2, Memref.whole cc0_scratch3,
    cc0_scratch4, cc0_scratch5, cc0_scratch6, cc0_scratch7, cc0_scratch8, cc0_scratch9, cc0_scratch10, cc0_scratch11⟩

theorem bind_bind {α β γ : Type} (p : BProg F α) (q : α → BProg F β) (r : β → BProg F γ) :
    (p.bind q).bind r = p.bind fun x => (q x).bind r := Prog.bind_assoc ..

/-! ## The operations are the generic ones -/

/-- Both kinds' sends of transfer `t`. -/
def send2 (d : Dir) (dev : Dev nD) (t : ℕ) : BProg F PUnit := (sendG d false dev t).bind fun _ => sendG d true dev t
def recv2 (d : Dir) (t : ℕ) : BProg F PUnit := (recvG d false t).bind fun _ => recvG d true t
def sent2 (d : Dir) (t : ℕ) : BProg F PUnit := (sentG d false t).bind fun _ => sentG d true t

section Eq
variable (x : Memref sig .tc .vmem S2x128x512 .f32) (wq : Memref sig .tc .vmem S512x256 .f32)
    (k v : Memref sig .tc .vmem S256x128x64 .f32) (wo : Memref sig .tc .vmem S256x512 .f32)
    (out : Memref sig .tc .vmem S2x128x512 .f32) (c : Dev nD) (t : ℕ)

theorem sendR_eq : sendR (F := F) (atRings x wq k v wo out) c t = send2 false (nxt false c) t := by
  unfold sendR sendQ sendO
  rw [right_eq]
  simp only [sem4, sem5, sem6, sem7, ← slotOf_succ]
  unfold send2 sendG
  simp only [← slotOf_succ]
  rfl
theorem sendL_eq : sendL (F := F) (atRings x wq k v wo out) c t = send2 true (nxt true c) t := by
  unfold sendL sendQ sendO
  rw [left_eq]
  simp only [sem8, sem9, sem10, sem11, ← slotOf_succ]
  unfold send2 sendG
  simp only [← slotOf_succ]
  rfl
theorem recvR_eq : recvR (F := F) (atRings x wq k v wo out) t = recv2 false t := by
  unfold recvR recvQ recvO
  simp only [sem5, sem7, ← slotOf_succ]
  unfold recv2 recvG
  simp only [← slotOf_succ]
  rfl
theorem recvL_eq : recvL (F := F) (atRings x wq k v wo out) t = recv2 true t := by
  unfold recvL recvQ recvO
  simp only [sem9, sem11, ← slotOf_succ]
  unfold recv2 recvG
  simp only [← slotOf_succ]
  rfl
theorem sentR_eq : sentR (F := F) (atRings x wq k v wo out) t = sent2 false t := by
  unfold sentR sentQ sentO
  simp only [sem4, sem6]
  rfl
theorem sentL_eq : sentL (F := F) (atRings x wq k v wo out) t = sent2 true t := by
  unfold sentL sentQ sentO
  simp only [sem8, sem10]
  rfl
end Eq

/-! ## Both kinds at once -/

variable (B : Blocks F) (K : GSem nD τ sig → ℕ)

/-- The ledgers of both kinds of a direction. -/
def led2 (d : Dir) (c : Dev nD) (ns nw nr : ℕ) : sProp 𝕄 := iprop(led d false c ns nw nr ∗ led d true c ns nw nr)
def land2 (d : Dir) (c : Dev nD) (t : ℕ) : sProp 𝕄 := iprop(landPay B d false c t ∗ landPay B d true c t)
def hold2 (d : Dir) (c : Dev nD) (t : ℕ) (q : PosShare TreeShare) : sProp 𝕄 := iprop(hold B d false c t q ∗ hold B d true c t q)
def free2 (d : Dir) (c : Dev nD) (t : ℕ) : sProp 𝕄 := iprop(free d false c t ∗ free d true c t)

theorem wp_recv2 (d : Dir) (c : Dev nD) (ns nw t : ℕ) (ht : t ≤ last d)
    {O : CellTallies nD τ sig ℕ} (hO : Above (t + 2) O) {α : Type} (kk : PUnit → BProg F α) (Φ : α → sProp 𝕄) :
    iprop(ctx B K ∗ led2 d c ns nw t ∗ owesAny c O)
      ⊢ iprop(((led2 d c ns nw (t + 1) ∗ land2 B d c t ∗ owesAny c O)
          -∗ wp frame (wpE (defs₀ (F := F)) 𝒱₀ c none) Set.univ (kk ⟨⟩) Φ)
        -∗ wp frame (wpE (defs₀ (F := F)) 𝒱₀ c none) Set.univ ((recv2 d t).bind kk) Φ) := by
  unfold led2 land2 recv2
  rw [bind_bind]
  iintro ⟨#Hctx, ⟨Hq, Ho⟩, HO⟩ Hk
  iapply (wp_recvG B K d false c ns nw t ht hO) $$ [Hq HO]
  · isplitr; · iexact Hctx
    isplitl [Hq]; · iexact Hq
    iexact HO
  iintro ⟨Hq, Lq, HO⟩
  iapply (wp_recvG B K d true c ns nw t ht hO) $$ [Ho HO]
  · isplitr; · iexact Hctx
    isplitl [Ho]; · iexact Ho
    iexact HO
  iintro ⟨Ho, Lo, HO⟩
  iapply Hk
  isplitl [Hq Ho]
  · isplitl [Hq]; · iexact Hq
    iexact Ho
  isplitl [Lq Lo]
  · isplitl [Lq]; · iexact Lq
    iexact Lo
  iexact HO

def sentPay2 (d : Dir) (c : Dev nD) (t : ℕ) : sProp 𝕄 := if cont d t then iprop(emp) else hold2 B d c t half

theorem sentPay2_eq (d : Dir) (c : Dev nD) (t : ℕ) : iprop(sentPay B d false c t ∗ sentPay B d true c t) ⊢ sentPay2 B d c t := by
  unfold sentPay sentPay2 hold2
  split
  · iintro -; iempintro
  · exact .rfl

theorem wp_sent2 (d : Dir) (c : Dev nD) (ns t nr : ℕ) (ht : t < ns) (ht' : t ≤ last d)
    {O : CellTallies nD τ sig ℕ} (hO : Above 0 O) {α : Type} (kk : PUnit → BProg F α) (Φ : α → sProp 𝕄) :
    iprop(ctx B K ∗ led2 d c ns t nr ∗ owesAny c O)
      ⊢ iprop(((led2 d c ns (t + 1) nr ∗ sentPay2 B d c t ∗ owesAny c O)
          -∗ wp frame (wpE (defs₀ (F := F)) 𝒱₀ c none) Set.univ (kk ⟨⟩) Φ)
        -∗ wp frame (wpE (defs₀ (F := F)) 𝒱₀ c none) Set.univ ((sent2 d t).bind kk) Φ) := by
  unfold led2 sent2
  rw [bind_bind]
  iintro ⟨#Hctx, ⟨Hq, Ho⟩, HO⟩ Hk
  iapply (wp_sentG B K d false c ns t nr ht ht' hO) $$ [Hq HO]
  · isplitr; · iexact Hctx
    isplitl [Hq]; · iexact Hq
    iexact HO
  iintro ⟨Hq, Lq, HO⟩
  iapply (wp_sentG B K d true c ns t nr ht ht' hO) $$ [Ho HO]
  · isplitr; · iexact Hctx
    isplitl [Ho]; · iexact Ho
    iexact HO
  iintro ⟨Ho, Lo, HO⟩
  iapply Hk
  isplitl [Hq Ho]
  · isplitl [Hq]; · iexact Hq
    iexact Ho
  isplitl [Lq Lo]
  · iapply (sentPay2_eq B d c t)
    isplitl [Lq]; · iexact Lq
    iexact Lo
  iexact HO

/-- What both kinds owe in a direction. -/
def due2 (d : Dir) (c : Dev nD) (n : ℕ) : CellTallies nD τ sig ℕ := due d false c n + due d true c n

theorem wp_send2 (d : Dir) (c : Dev nD) (t nw nr : ℕ) (ht : t ≤ last d) (h : nw ≤ t) (h' : t < nw + 4) (R : CellTallies nD τ sig ℕ)
    {α : Type} (kk : PUnit → BProg F α) (Φ : α → sProp 𝕄) :
    iprop(ctx B K ∗ led2 d c t nw nr ∗ owesAny c (R + due2 d c t) ∗ hold2 B d c t half ∗ free2 d (nxt d c) t
        ∗ rideRest B d false (nxt d c) t ∗ rideRest B d true (nxt d c) t)
      ⊢ iprop(((led2 d c (t + 1) nw nr ∗ owesAny c (R + due2 d c (t + 1)))
          -∗ wp frame (wpE (defs₀ (F := F)) 𝒱₀ c none) Set.univ (kk ⟨⟩) Φ)
        -∗ wp frame (wpE (defs₀ (F := F)) 𝒱₀ c none) Set.univ ((send2 d (nxt d c) t).bind kk) Φ) := by
  unfold led2 send2 hold2 free2
  rw [bind_bind]
  iintro ⟨#Hctx, ⟨Hq, Ho⟩, HO, ⟨Hhq, Hho⟩, ⟨Hfq, Hfo⟩, Hrq, Hro⟩ Hk
  iapply (wp_sendG B K d false c (nxt d c) rfl t nw nr ht h h' (Oin := R + due2 d c t) (O := R + (due d false c (t + 1) + due d true c t))
    (by unfold due2; rw [due_succ d false c t ht]; ac_rfl)) $$ [Hq HO Hhq Hfq Hrq]
  · isplitr; · iexact Hctx
    isplitl [Hq]; · iexact Hq
    isplitl [HO]; · iexact HO
    isplitl [Hhq]; · iexact Hhq
    isplitl [Hfq]; · iexact Hfq
    iexact Hrq
  iintro ⟨Hq, HO⟩
  iapply (wp_sendG B K d true c (nxt d c) rfl t nw nr ht h h' (Oin := R + (due d false c (t + 1) + due d true c t)) (O := R + due2 d c (t + 1))
    (by unfold due2; rw [due_succ d true c t ht]; ac_rfl)) $$ [Ho HO Hho Hfo Hro]
  · isplitr; · iexact Hctx
    isplitl [Ho]; · iexact Ho
    isplitl [HO]; · iexact HO
    isplitl [Hho]; · iexact Hho
    isplitl [Hfo]; · iexact Hfo
    iexact Hro
  iintro ⟨Ho, HO⟩
  iapply Hk
  isplitl [Hq Ho]
  · isplitl [Hq]; · iexact Hq
    iexact Ho
  iexact HO

end Cert.KernelIdeal.Ring

end
-- ==== Proof.Use.lean ====
/- The contributions: the blocks in a pair of slots used on both batch rows; the own blocks put in the rings' first slots. -/
module

public import proofs.«01_k».proof.Proof.Packs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- The rows of keys and values the block that `t + 1` hops to the right brought goes with. -/
theorem offR (c : Dev nD) (b : Fin 2) (t : Fin 16) : k0_off2 c (BitVec.ofNat 32 (128 * b.val)) (BitVec.ofNat 32 t.val)
    = ![128 * b.val + 4 * (org false (t.val + 1) c).val, 0, 0] := by revert c b t; decide +kernel
theorem offL (c : Dev nD) (b : Fin 2) (t : Fin 15) : k0_off3 c (BitVec.ofNat 32 (128 * b.val)) (BitVec.ofNat 32 t.val)
    = ![128 * b.val + 4 * (org true (t.val + 1) c).val, 0, 0] := by revert c b t; decide +kernel

variable (B : Blocks F)

theorem castQ (s : Fin 4) (w : FVec F S512x256 .f32) : shapeCast (s := S1x512x256) S512x256 (shapeCast (rectQ s).shape w shapeCasts_S512x256_S1x512x256)
    shapeCasts_S1x512x256_S512x256 = w := shapeCast_shapeCast _ _ _
theorem castO (s : Fin 4) (w : FVec F S256x512 .f32) : shapeCast (s := S1x256x512) S256x512 (shapeCast (rectO s).shape w shapeCasts_S256x512_S1x256x512)
    shapeCasts_S1x256x512_S256x512 = w := shapeCast_shapeCast _ _ _

/-- Device `e`'s block of `Wq` and of `Wo`. -/
def bq (e : Dev nD) : FVec F S512x256 .f32 := B false e
def bo (e : Dev nD) : FVec F S256x512 .f32 := B true e

theorem holdRq (c : Dev nD) (t : ℕ) (q : PosShare TreeShare) :
    hold B false false c t q = at' (slotQ (Memref.whole cc0_scratch0) (slotOf t)) c q (bq B (org false t c)) := rfl
theorem holdRo (c : Dev nD) (t : ℕ) (q : PosShare TreeShare) :
    hold B false true c t q = at' (slotO (Memref.whole cc0_scratch1) (slotOf t)) c q (bo B (org false t c)) := rfl
theorem holdLq (c : Dev nD) (t : ℕ) (q : PosShare TreeShare) :
    hold B true false c t q = at' (slotQ (Memref.whole cc0_scratch2) (slotOf t)) c q (bq B (org true t c)) := rfl
theorem holdLo (c : Dev nD) (t : ℕ) (q : PosShare TreeShare) :
    hold B true true c t q = at' (slotO (Memref.whole cc0_scratch3) (slotOf t)) c q (bo B (org true t c)) := rfl

/-- The contribution of device `e`'s blocks to row `b`. -/
def conB (I : Ins F) (b : Fin 2) (e : Dev nD) : FVec F S128x512 .f32 := con I b e (bq B e) (bo B e)

/-- Both rows with the contribution of device `e`'s blocks added. -/
def addB (I : Ins F) (e : Dev nD) (r : Fin 2 → FVec F S1x128x512 .f32) : Fin 2 → FVec F S1x128x512 .f32 :=
  fun b => plus (r b) (conB B I b e)

theorem addB_eq (I : Ins F) (e : Dev nD) (r : Fin 2 → FVec F S1x128x512 .f32) :
    Function.update (Function.update r 0 (plus (r 0) (con I 0 e (bq B e) (bo B e)))) 1
      (plus (Function.update r 0 (plus (r 0) (con I 0 e (bq B e) (bo B e))) 1) (con I 1 e (bq B e) (bo B e)))
        = addB B I e r := by
  funext b
  fin_cases b
  · show Function.update (Function.update r 0 _) 1 _ 0 = _
    rw [Function.update_of_ne (by decide), Function.update_self]; rfl
  · show Function.update (Function.update r 0 _) 1 _ 1 = _
    rw [Function.update_self, Function.update_of_ne (by decide)]; rfl

section Use
variable (x : Memref sig .tc .vmem S2x128x512 .f32) (wq : Memref sig .tc .vmem S512x256 .f32)
    (k v : Memref sig .tc .vmem S256x128x64 .f32) (wo : Memref sig .tc .vmem S256x512 .f32)
    (out : Memref sig .tc .vmem S2x128x512 .f32) (c : Dev nD) (I : Ins F)

theorem wp_useR (t : Fin 16) (q : PosShare TreeShare) (r : Fin 2 → FVec F S1x128x512 .f32) {α : Type} (kk : PUnit → BProg F α) (Φ : α → sProp 𝕄) :
    iprop(ins (atRings x wq k v wo out) c I ∗ at' out c fullShare (rows r) ∗ hold2 B false c (t.val + 1) q)
      ⊢ iprop(((ins (atRings x wq k v wo out) c I ∗ at' out c fullShare (rows (addB B I (org false (t.val + 1) c) r)) ∗ hold2 B false c (t.val + 1) q)
          -∗ wp frame (wpE (defs₀ (F := F)) 𝒱₀ c none) Set.univ (kk ⟨⟩) Φ)
        -∗ wp frame (wpE (defs₀ (F := F)) 𝒱₀ c none) Set.univ ((useR (atRings x wq k v wo out) c t).bind kk) Φ) := by
  unfold useR getQ getO hold2
  rw [holdRq, holdRo]
  simp only [Prog.lift, Prog.bind_op, Prog.bind_ret, Prog.pure_eq_ret, Prog.bind_assoc]
  iintro ⟨Hi, Ho, Hq, Hw⟩ Hk
  iapply (wp_slot (Memref.whole cc0_scratch0) (rectQ (slotOf (t.val + 1))) (fun _ => rfl) squeezes_S1x512x256_S512x256 shapeCasts_S512x256_S1x512x256
    c q (bq B (org false (t.val + 1) c)) _ _ _) $$ [Hq]
  · iexact Hq
  iintro Hq
  iapply (wp_slot (Memref.whole cc0_scratch1) (rectO (slotOf (t.val + 1))) (fun _ => rfl) squeezes_S1x256x512_S256x512 shapeCasts_S256x512_S1x256x512
    c q (bo B (org false (t.val + 1) c)) _ _ _) $$ [Hw]
  · iexact Hw
  iintro Hw
  simp only [bind_bind]
  rw [castQ]
  rw [castO]
  iapply (wp_more (atRings x wq k v wo out) c I r 0 (org false (t.val + 1) c) _ _ (offR c 0 t)) $$ [Hi Ho]
  · isplitl [Hi]; · iexact Hi
    iexact Ho
  iintro ⟨Hi, Ho⟩
  rw [castQ, castO]
  iapply (wp_more (atRings x wq k v wo out) c I _ 1 (org false (t.val + 1) c) _ _ (offR c 1 t)) $$ [Hi Ho]
  · isplitl [Hi]; · iexact Hi
    iexact Ho
  iintro ⟨Hi, Ho⟩
  iapply Hk
  isplitl [Hi]; · iexact Hi
  isplitl [Ho]
  · iapply (Entails.of_eq (congrArg (fun r => at' out c fullShare (rows r)) (addB_eq B I (org false (t.val + 1) c) r))) $$ Ho
  isplitl [Hq]; · iexact Hq
  iexact Hw

theorem wp_useL (t : Fin 15) (q : PosShare TreeShare) (r : Fin 2 → FVec F S1x128x512 .f32) {α : Type} (kk : PUnit → BProg F α) (Φ : α → sProp 𝕄) :
    iprop(ins (atRings x wq k v wo out) c I ∗ at' out c fullShare (rows r) ∗ hold2 B true c (t.val + 1) q)
      ⊢ iprop(((ins (atRings x wq k v wo out) c I ∗ at' out c fullShare (rows (addB B I (org true (t.val + 1) c) r)) ∗ hold2 B true c (t.val + 1) q)
          -∗ wp frame (wpE (defs₀ (F := F)) 𝒱₀ c none) Set.univ (kk ⟨⟩) Φ)
        -∗ wp frame (wpE (defs₀ (F := F)) 𝒱₀ c none) Set.univ ((useL (atRings x wq k v wo out) c t).bind kk) Φ) := by
  unfold useL getQ getO hold2
  rw [holdLq, holdLo]
  simp only [Prog.lift, Prog.bind_op, Prog.bind_ret, Prog.pure_eq_ret, Prog.bind_assoc]
  iintro ⟨Hi, Ho, Hq, Hw⟩ Hk
  iapply (wp_slot (Memref.whole cc0_scratch2) (rectQ (slotOf (t.val + 1))) (fun _ => rfl) squeezes_S1x512x256_S512x256 shapeCasts_S512x256_S1x512x256
    c q (bq B (org true (t.val + 1) c)) _ _ _) $$ [Hq]
  · iexact Hq
  iintro Hq
  iapply (wp_slot (Memref.whole cc0_scratch3) (rectO (slotOf (t.val + 1))) (fun _ => rfl) squeezes_S1x256x512_S256x512 shapeCasts_S256x512_S1x256x512
    c q (bo B (org true (t.val + 1) c)) _ _ _) $$ [Hw]
  · iexact Hw
  iintro Hw
  simp only [bind_bind]
  rw [castQ]
  rw [castO]
  iapply (wp_more (atRings x wq k v wo out) c I r 0 (org true (t.val + 1) c) _ _ (offL c 0 t)) $$ [Hi Ho]
  · isplitl [Hi]; · iexact Hi
    iexact Ho
  iintro ⟨Hi, Ho⟩
  rw [castQ, castO]
  iapply (wp_more (atRings x wq k v wo out) c I _ 1 (org true (t.val + 1) c) _ _ (offL c 1 t)) $$ [Hi Ho]
  · isplitl [Hi]; · iexact Hi
    iexact Ho
  iintro ⟨Hi, Ho⟩
  iapply Hk
  isplitl [Hi]; · iexact Hi
  isplitl [Ho]
  · iapply (Entails.of_eq (congrArg (fun r => at' out c fullShare (rows r)) (addB_eq B I (org true (t.val + 1) c) r))) $$ Ho
  isplitl [Hq]; · iexact Hq
  iexact Hw

end Use

end Cert.KernelIdeal.Ring

end
-- ==== Proof.Step.lean ====
/- One direction's sends of a round: what the two landings of the round and the state bring, what the send takes, what is left. -/
module

public import proofs.«01_k».proof.Proof.Packs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (B : Blocks F)

theorem hold_split (d : Dir) (k : Kd) (c : Dev nD) (t : ℕ) :
    hold B d k c t fullShare ⊢ iprop(hold B d k c t keep ∗ hold B d k c t half) := by
  unfold hold slotAt; exact (pointsTo_share (PosShare.mem_left_op_right fullShare)).1
theorem hold_join (d : Dir) (k : Kd) (c : Dev nD) (t : ℕ) :
    iprop(hold B d k c t keep ∗ hold B d k c t half) ⊢ hold B d k c t fullShare := by
  unfold hold slotAt; exact (pointsTo_share (PosShare.mem_left_op_right fullShare)).2

/-- A slot whole at known contents is a slot whole at contents not named. -/
theorem hold_any (d : Dir) (k : Kd) (c : Dev nD) (t : ℕ) : hold B d k c t fullShare ⊢ slotAny d k c (slotOf t) := by
  unfold hold slotAt slotAny
  iintro H; iexists _; iexact H

/-- What the landing of transfer `t` the other way brings for direction `d`: its source's half, the neighbour's slot for
    transfer `t + 1`. -/
def gift (d : Dir) (k : Kd) (c : Dev nD) (t : ℕ) : sProp 𝕄 :=
  iprop(hold B (!d) k (nxt d c) t half ∗ (if 2 ≤ t then free d k (nxt d c) (t + 1) else emp))

/-- The half of the slot of transfer `t - 1` that a landing brings back. -/
def back (d : Dir) (k : Kd) (c : Dev nD) (t : ℕ) : sProp 𝕄 := if 1 ≤ t then hold B d k c (t - 1) half else iprop(emp)
/-- The half of the slot of transfer `t - 1` that its sender kept. -/
def kept (d : Dir) (k : Kd) (c : Dev nD) (t : ℕ) : sProp 𝕄 := if 1 ≤ t then hold B d k c (t - 1) keep else iprop(emp)

theorem land_cont (d : Dir) (k : Kd) (c : Dev nD) (t : ℕ) (h : t + 1 ≤ last d) :
    landPay B (!d) k c t ⊢ iprop(hold B (!d) k c (t + 1) fullShare ∗ gift B d k c t ∗ back B d k c t) := by
  have hc : cont (!d) t := by unfold cont; rw [Bool.not_not]; exact h
  have e : (2 ≤ t ∧ cont (!d) t) = (2 ≤ t) := by rw [eq_true hc, and_true]
  unfold landPay rideRest gift back prv
  rw [if_pos hc]
  simp only [e, Bool.not_not]
  iintro ⟨H1, H2, H3, H4⟩
  isplitl [H1]; · iexact H1
  isplitl [H2 H4]
  · isplitl [H2]; · iexact H2
    iexact H4
  iexact H3

theorem land_end (d : Dir) (k : Kd) (c : Dev nD) (t : ℕ) (h : ¬ cont (!d) t) :
    landPay B (!d) k c t ⊢ iprop(hold B (!d) k c (t + 1) fullShare ∗ back B d k c t) := by
  unfold landPay rideRest back
  rw [if_neg h]
  simp only [Bool.not_not]
  iintro ⟨H1, -, H3, -⟩
  isplitl [H1]; · iexact H1
  iexact H3

/-- The neighbour's slots for the first transfers, not used yet before round `t`. -/
def stash (d : Dir) (k : Kd) (c : Dev nD) (t : ℕ) : sProp 𝕄 :=
  if t = 0 then iprop(free d k (nxt d c) 1 ∗ free d k (nxt d c) 2) else if t = 1 then free d k (nxt d c) 2 else iprop(emp)

theorem stash_next (d : Dir) (k : Kd) (c : Dev nD) (t : ℕ) :
    iprop(stash (F := F) d k c t ∗ (if 2 ≤ t then free d k (nxt d c) (t + 1) else emp)) ⊢ iprop(free d k (nxt d c) (t + 1) ∗ stash d k c (t + 1)) := by
  unfold stash
  rcases t with _ | _ | t
  · rw [if_pos rfl, if_neg (by omega), if_neg (by omega), if_pos rfl]
    iintro ⟨⟨H1, H2⟩, -⟩
    isplitl [H1]; · iexact H1
    iexact H2
  · rw [if_neg (by omega), if_pos rfl, if_neg (by omega), if_neg (by omega), if_neg (by omega)]
  · rw [if_neg (by omega), if_neg (by omega), if_pos (by omega), if_neg (by omega), if_neg (by omega)]
    iintro ⟨-, H1⟩
    isplitl [H1]; · iexact H1
    iempintro

/-- What a transfer that nothing rides on any more leaves whole: the other ring's slot of transfer `t - 1`. -/
def left (d : Dir) (k : Kd) (c : Dev nD) (t : ℕ) : sProp 𝕄 :=
  if 1 ≤ t ∧ ¬ cont d (t + 1) then hold B (!d) k c (t - 1) fullShare else iprop(emp)

/-- The other ring's cell is at the round in which transfer `t + 2` will land. -/
def ready (d : Dir) (k : Kd) (c : Dev nD) (t : ℕ) : sProp 𝕄 := reached ER (rCell (!d) k c (slotOf (t + 2))) ((t + 2) / 4)
instance ready_persistent (d : Dir) (k : Kd) (c : Dev nD) (t : ℕ) : BI.Persistent (ready (F := F) d k c t) := by
  unfold ready; infer_instance

/-- What rides on transfer `t + 1`, and what does not. -/
theorem ride_next (d : Dir) (k : Kd) (c : Dev nD) (t : ℕ) :
    iprop(ready d k c t ∗ hold B (!d) k (nxt d c) t half ∗ kept B (!d) k c t ∗ back B (!d) k c t)
      ⊢ iprop(rideRest B d k (nxt d c) (t + 1) ∗ left B d k c t) := by
  unfold rideRest left kept back
  rw [if_pos (show 1 ≤ t + 1 by omega), Nat.add_sub_cancel, prv_nxt]
  by_cases h1 : 1 ≤ t
  · rw [if_pos h1, if_pos h1]
    by_cases hc : cont d (t + 1)
    · rw [if_pos ⟨by omega, hc⟩, if_neg (fun e => e.2 hc)]
      have es : slotOf (t - 1) = slotOf (t + 1 + 1 + 1) := by
        rw [show t + 1 + 1 + 1 = (t - 1) + 4 by omega, slotOf_add_four]
      unfold free ready
      rw [← es]
      iintro ⟨Hr, Hh, Hk, Hb⟩
      isplitl [Hr Hh Hk Hb]
      · isplitl [Hh]; · iexact Hh
        isplitl [Hk Hb]
        · iapply (hold_any B (!d) k c (t - 1))
          iapply (hold_join B (!d) k c (t - 1))
          isplitl [Hk]; · iexact Hk
          iexact Hb
        iexact Hr
      iempintro
    · rw [if_neg (fun e => hc e.2), if_pos ⟨h1, hc⟩]
      iintro ⟨-, Hh, Hk, Hb⟩
      isplitl [Hh]
      · isplitl [Hh]; · iexact Hh
        iempintro
      iapply (hold_join B (!d) k c (t - 1))
      isplitl [Hk]; · iexact Hk
      iexact Hb
  · rw [if_neg h1, if_neg h1, if_neg (fun e => by have := e.1; omega), if_neg (fun e => h1 e.1)]
    iintro ⟨-, Hh, -, -⟩
    isplitl [Hh]
    · isplitl [Hh]; · iexact Hh
      iempintro
    iempintro

/-- What direction `d`'s send of transfer `t + 1` takes in, -/
def sendIn (d : Dir) (k : Kd) (c : Dev nD) (t : ℕ) : sProp 𝕄 :=
  iprop(ready d k c t ∗ hold B d k c (t + 1) fullShare ∗ gift B d k c t ∗ kept B (!d) k c t ∗ back B (!d) k c t ∗ stash d k c t)
/-- and what of it the device keeps. -/
def sendOut (d : Dir) (k : Kd) (c : Dev nD) (t : ℕ) : sProp 𝕄 :=
  iprop(hold B d k c (t + 1) keep ∗ stash d k c (t + 1) ∗ left B d k c t)

theorem send_sort (d : Dir) (k : Kd) (c : Dev nD) (t : ℕ) :
    sendIn B d k c t ⊢ iprop(sendOut B d k c t ∗ hold B d k c (t + 1) half ∗ free d k (nxt d c) (t + 1) ∗ rideRest B d k (nxt d c) (t + 1)) := by
  unfold sendIn sendOut gift
  iintro ⟨Hr, Hh, ⟨Hg, Hf⟩, Hk, Hb, Hs⟩
  ihave Hh := (hold_split B d k c (t + 1)) $$ Hh
  icases Hh with ⟨Hh1, Hh2⟩
  ihave Hs := (stash_next d k c t) $$ [Hs Hf]
  · isplitl [Hs]; · iexact Hs
    iexact Hf
  icases Hs with ⟨Hf, Hs⟩
  ihave Hr := (ride_next B d k c t) $$ [Hr Hg Hk Hb]
  · isplitl [Hr]; · iexact Hr
    isplitl [Hg]; · iexact Hg
    isplitl [Hk]; · iexact Hk
    iexact Hb
  icases Hr with ⟨Hr, Hl⟩
  isplitl [Hh1 Hs Hl]
  · isplitl [Hh1]; · iexact Hh1
    isplitl [Hs]; · iexact Hs
    iexact Hl
  isplitl [Hh2]; · iexact Hh2
  isplitl [Hf]; · iexact Hf
  iexact Hr

variable (K : GSem nD τ sig → ℕ)

theorem wp_step (d : Dir) (c : Dev nD) (t nw nr : ℕ) (ht : t + 1 ≤ last d) (h : nw ≤ t + 1) (h' : t + 1 < nw + 4) (R : CellTallies nD τ sig ℕ)
    {α : Type} (kk : PUnit → BProg F α) (Φ : α → sProp 𝕄) :
    iprop(ctx B K ∗ led2 d c (t + 1) nw nr ∗ owesAny c (R + due2 d c (t + 1)) ∗ sendIn B d false c t ∗ sendIn B d true c t)
      ⊢ iprop(((led2 d c (t + 2) nw nr ∗ owesAny c (R + due2 d c (t + 2)) ∗ sendOut B d false c t ∗ sendOut B d true c t)
          -∗ wp frame (wpE (defs₀ (F := F)) 𝒱₀ c none) Set.univ (kk ⟨⟩) Φ)
        -∗ wp frame (wpE (defs₀ (F := F)) 𝒱₀ c none) Set.univ ((send2 d (nxt d c) (t + 1)).bind kk) Φ) := by
  iintro ⟨#Hctx, Hl, HO, Hq, Ho⟩ Hk
  ihave Hq := (send_sort B d false c t) $$ Hq
  icases Hq with ⟨Oq, Hhq, Hfq, Hrq⟩
  ihave Ho := (send_sort B d true c t) $$ Ho
  icases Ho with ⟨Oo, Hho, Hfo, Hro⟩
  iapply (wp_send2 B K d c (t + 1) nw nr ht h h' R) $$ [Hl HO Hhq Hfq Hrq Hho Hfo Hro]
  · unfold hold2 free2
    isplitr; · iexact Hctx
    isplitl [Hl]; · iexact Hl
    isplitl [HO]; · iexact HO
    isplitl [Hhq Hho]
    · isplitl [Hhq]; · iexact Hhq
      iexact Hho
    isplitl [Hfq Hfo]
    · isplitl [Hfq]; · iexact Hfq
      iexact Hfo
    isplitl [Hrq]; · iexact Hrq
    iexact Hro
  iintro ⟨Hl, HO⟩
  iapply Hk
  isplitl [Hl]; · iexact Hl
  isplitl [HO]; · iexact HO
  isplitl [Oq]; · iexact Oq
  iexact Oo

/-- A ledger says which round its landing cells are at. -/
theorem led_ready (d : Dir) (k : Kd) (c : Dev nD) (ns nw t : ℕ) :
    (led (!d) k c ns nw (t + 1) : sProp 𝕄) ⊢ iprop(ready d k c t ∗ led (!d) k c ns nw (t + 1)) := by
  unfold led ready
  iintro ⟨H1, H2, H3, H4, H5⟩
  ihave H5 := (stand_reached (rCell (!d) k c) (t + 2) (t + 1) (by omega) (by omega)) $$ H5
  icases H5 with ⟨Hr, H5⟩
  isplitl [Hr]; · iexact Hr
  isplitl [H1]; · iexact H1
  isplitl [H2]; · iexact H2
  isplitl [H3]; · iexact H3
  isplitl [H4]; · iexact H4
  iexact H5

end Cert.KernelIdeal.Ring

end
-- ==== Proof.Own.lean ====
/- The first part of the body: the own blocks put in the rings' first slots, the first sends, the own contribution. -/
module

public import proofs.«01_k».proof.Proof.Use
public import proofs.«01_k».proof.Proof.Step

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

theorem op_bind {α β X : Type} (e : TpuEff nD τ sig (Elt F) Λ₀ .tc X) (p : X → BProg F α) (kk : α → BProg F β) :
    (Prog.op e p).bind kk = .op e fun x => (p x).bind kk := rfl
theorem bind_eq {α β : Type} (p : BProg F α) (q : α → BProg F β) : p >>= q = p.bind q := rfl
theorem ret_bind {α β : Type} (a : α) (kk : α → BProg F β) : (Prog.ret a : BProg F α).bind kk = kk a := rfl

theorem window_all {s : Shape} (v : Vec F s .f32) (off : Fin s.rank → ℕ) (h0 : ∀ a, off a = 0) (h) :
    VecWindow.window v off s.size h = v := by
  funext y
  show v _ = v y
  congr 1
  funext a
  apply Fin.ext
  show off a + 1 * (y a).val = (y a).val
  rw [h0]; omega

theorem wp_putQ (M : Memref sig .tc .vmem S4x512x256 .f32) (c : Dev nD) (f : Buf (Elt F) ((slotQ M 0).view.loc (c : Thread nD τ)))
    (w : FVec F S512x256 .f32) {α : Type} (kk : PUnit → BProg F α) (Φ : α → sProp 𝕄) :
    ((slotQ M 0).view.loc (c : Thread nD τ) ↦[(slotQ M 0).view.set]{fullShare} f : sProp 𝕄)
      ⊢ iprop((at' (slotQ M 0) c fullShare w -∗ wp frame (wpE (defs₀ (F := F)) 𝒱₀ c none) Set.univ (kk ⟨⟩) Φ)
        -∗ wp frame (wpE (defs₀ (F := F)) 𝒱₀ c none) Set.univ ((putQ M (shapeCast S1x512x256 w shapeCasts_S512x256_S1x512x256)).bind kk) Φ) := by
  unfold putQ getQ
  simp only [Prog.lift, Prog.bind_op, Prog.bind_ret, op_bind, ret_bind]
  have h := wp_slot_store M (rectQ 0) (fun _ => rfl) squeezes_S1x512x256_S512x256 shapeCasts_S1x512x256_S512x256 c f
    (shapeCast S1x512x256 w shapeCasts_S512x256_S1x512x256) (View.loadsAt_vmem h_S1x512x256) (View.stores_vmem_bits_univ h_S1x512x256 rfl) (.inl rfl) kk Φ
  have e : shapeCast (s := (rectQ 0).shape) S512x256 (shapeCast S1x512x256 w shapeCasts_S512x256_S1x512x256) shapeCasts_S1x512x256_S512x256 = w :=
    shapeCast_shapeCast _ _ _
  rw [e] at h
  exact h

theorem wp_putO (M : Memref sig .tc .vmem S4x256x512 .f32) (c : Dev nD) (f : Buf (Elt F) ((slotO M 0).view.loc (c : Thread nD τ)))
    (w : FVec F S256x512 .f32) {α : Type} (kk : PUnit → BProg F α) (Φ : α → sProp 𝕄) :
    ((slotO M 0).view.loc (c : Thread nD τ) ↦[(slotO M 0).view.set]{fullShare} f : sProp 𝕄)
      ⊢ iprop((at' (slotO M 0) c fullShare w -∗ wp frame (wpE (defs₀ (F := F)) 𝒱₀ c none) Set.univ (kk ⟨⟩) Φ)
        -∗ wp frame (wpE (defs₀ (F := F)) 𝒱₀ c none) Set.univ ((putO M (shapeCast S1x256x512 w shapeCasts_S256x512_S1x256x512)).bind kk) Φ) := by
  unfold putO getO
  simp only [Prog.lift, Prog.bind_op, Prog.bind_ret, op_bind, ret_bind]
  have h := wp_slot_store M (rectO 0) (fun _ => rfl) squeezes_S1x256x512_S256x512 shapeCasts_S1x256x512_S256x512 c f
    (shapeCast S1x256x512 w shapeCasts_S256x512_S1x256x512) (View.loadsAt_vmem h_S1x256x512) (View.stores_vmem_bits_univ h_S1x256x512 rfl) (.inl rfl) kk Φ
  have e : shapeCast (s := (rectO 0).shape) S256x512 (shapeCast S1x256x512 w shapeCasts_S256x512_S1x256x512) shapeCasts_S1x256x512_S256x512 = w :=
    shapeCast_shapeCast _ _ _
  rw [e] at h
  exact h

variable (B : Blocks F) (K : GSem nD τ sig → ℕ)

/-- The slots of a direction that the own blocks go to. -/
def first2 (d : Dir) (c : Dev nD) : sProp 𝕄 := iprop(slotAny d false c 0 ∗ slotAny d true c 0)

theorem hold_zeroRq (c : Dev nD) : at' (slotQ (Memref.whole cc0_scratch0) 0) c fullShare (bq B c) = hold B false false c 0 fullShare := rfl
theorem hold_zeroRo (c : Dev nD) : at' (slotO (Memref.whole cc0_scratch1) 0) c fullShare (bo B c) = hold B false true c 0 fullShare := rfl
theorem hold_zeroLq (c : Dev nD) : at' (slotQ (Memref.whole cc0_scratch2) 0) c fullShare (bq B c) = hold B true false c 0 fullShare := rfl
theorem hold_zeroLo (c : Dev nD) : at' (slotO (Memref.whole cc0_scratch3) 0) c fullShare (bo B c) = hold B true true c 0 fullShare := rfl
theorem anyRq (c : Dev nD) : slotAny (F := F) false false c 0 = iprop(∃ f, (slotQ (Memref.whole cc0_scratch0) 0).view.loc (c : Thread nD τ) ↦[(slotQ (Memref.whole cc0_scratch0) 0).view.set]{fullShare} f) := rfl
theorem anyRo (c : Dev nD) : slotAny (F := F) false true c 0 = iprop(∃ f, (slotO (Memref.whole cc0_scratch1) 0).view.loc (c : Thread nD τ) ↦[(slotO (Memref.whole cc0_scratch1) 0).view.set]{fullShare} f) := rfl
theorem anyLq (c : Dev nD) : slotAny (F := F) true false c 0 = iprop(∃ f, (slotQ (Memref.whole cc0_scratch2) 0).view.loc (c : Thread nD τ) ↦[(slotQ (Memref.whole cc0_scratch2) 0).view.set]{fullShare} f) := rfl
theorem anyLo (c : Dev nD) : slotAny (F := F) true true c 0 = iprop(∃ f, (slotO (Memref.whole cc0_scratch3) 0).view.loc (c : Thread nD τ) ↦[(slotO (Memref.whole cc0_scratch3) 0).view.set]{fullShare} f) := rfl

/-- What a direction's ring carries at the start of round `t`, beside the ledgers. -/
def carry (d : Dir) (k : Kd) (c : Dev nD) (t : ℕ) : sProp 𝕄 :=
  iprop(hold B d k c t keep ∗ kept B d k c t ∗ stash d k c t)

/-- A direction's first send: from the slot whole and the neighbour's three slots. -/
theorem wp_send_first (d : Dir) (c : Dev nD) (R : CellTallies nD τ sig ℕ) {α : Type} (kk : PUnit → BProg F α) (Φ : α → sProp 𝕄) :
    iprop(ctx B K ∗ led2 d c 0 0 0 ∗ owesAny c (R + due2 d c 0) ∗ hold2 B d c 0 fullShare ∗ meetPay d c)
      ⊢ iprop(((led2 d c 1 0 0 ∗ owesAny c (R + due2 d c 1) ∗ carry B d false c 0 ∗ carry B d true c 0)
          -∗ wp frame (wpE (defs₀ (F := F)) 𝒱₀ c none) Set.univ (kk ⟨⟩) Φ)
        -∗ wp frame (wpE (defs₀ (F := F)) 𝒱₀ c none) Set.univ ((send2 d (nxt d c) 0).bind kk) Φ) := by
  have hr : ∀ k, (iprop(emp) : sProp 𝕄) ⊢ rideRest B d k (nxt d c) 0 := fun k => by
    unfold rideRest
    rw [if_neg (by omega), if_neg (fun e => by have := e.1; omega)]
    iintro -; isplitl [] <;> iempintro
  unfold hold2 meetPay meetKd
  iintro ⟨#Hctx, Hl, HO, ⟨Hq, Ho⟩, ⟨Fq0, Fq1, Fq2⟩, ⟨Fo0, Fo1, Fo2⟩⟩ Hk
  ihave Hq := (hold_split B d false c 0) $$ Hq
  icases Hq with ⟨Hq1, Hq2⟩
  ihave Ho := (hold_split B d true c 0) $$ Ho
  icases Ho with ⟨Ho1, Ho2⟩
  iapply (wp_send2 B K d c 0 0 0 (by omega) (by omega) (by omega) R) $$ [Hl HO Hq2 Ho2 Fq0 Fo0]
  · unfold hold2 free2
    isplitr; · iexact Hctx
    isplitl [Hl]; · iexact Hl
    isplitl [HO]; · iexact HO
    isplitl [Hq2 Ho2]
    · isplitl [Hq2]; · iexact Hq2
      iexact Ho2
    isplitl [Fq0 Fo0]
    · isplitl [Fq0]; · iexact Fq0
      iexact Fo0
    isplitl []
    · iapply (hr false); iempintro
    iapply (hr true); iempintro
  iintro ⟨Hl, HO⟩
  iapply Hk
  isplitl [Hl]; · iexact Hl
  isplitl [HO]; · iexact HO
  unfold carry kept stash
  rw [if_neg (by omega), if_pos rfl, if_pos rfl, if_neg (by omega)]
  isplitl [Hq1 Fq1 Fq2]
  · isplitl [Hq1]; · iexact Hq1
    isplitr; · iempintro
    isplitl [Fq1]; · iexact Fq1
    iexact Fq2
  isplitl [Ho1]; · iexact Ho1
  isplitr; · iempintro
  isplitl [Fo1]; · iexact Fo1
  iexact Fo2

section Body
variable (x : Memref sig .tc .vmem S2x128x512 .f32) (wq : Memref sig .tc .vmem S512x256 .f32)
    (k v : Memref sig .tc .vmem S256x128x64 .f32) (wo : Memref sig .tc .vmem S256x512 .f32)
    (out : Memref sig .tc .vmem S2x128x512 .f32) (c : Dev nD) (I : Ins F)

/-- The rows after the own contribution. -/
def start (e : Dev nD) : Fin 2 → FVec F S1x128x512 .f32 :=
  fun b => shapeCast S1x128x512 (conB B I b e) shapeCasts_S128x512_S1x128x512

/-- The own blocks, held in the windows' buffers. -/
def wins : sProp 𝕄 := iprop(ins (atRings x wq k v wo out) c I ∗ at' wq c fullShare (bq B c) ∗ at' wo c fullShare (bo B c))

/-- What a device owes before the transfers `a` to the right and `b` to the left. -/
def ow (a b : ℕ) : CellTallies nD τ sig ℕ := due2 true c b + due2 false c a
theorem ow_comm (a b : ℕ) : ow c a b = due2 false c a + due2 true c b := add_comm _ _

theorem wp_own (o : S2x128x512.Idx → F .f32) {α : Type} (kk : PUnit → BProg F α) (Φ : α → sProp 𝕄) :
    iprop(ctx B K ∗ led2 false c 0 0 0 ∗ led2 true c 0 0 0 ∗ owesAny c (ow c 0 0) ∗ first2 false c ∗ first2 true c
        ∗ meetPay false c ∗ meetPay true c ∗ wins B x wq k v wo out c I ∗ at' out c fullShare o)
      ⊢ iprop(((led2 false c 1 0 0 ∗ led2 true c 1 0 0 ∗ owesAny c (ow c 1 1)
            ∗ carry B false false c 0 ∗ carry B false true c 0 ∗ carry B true false c 0 ∗ carry B true true c 0
            ∗ wins B x wq k v wo out c I ∗ at' out c fullShare (rows (start B I c)))
          -∗ wp frame (wpE (defs₀ (F := F)) 𝒱₀ c none) Set.univ (kk ⟨⟩) Φ)
        -∗ wp frame (wpE (defs₀ (F := F)) 𝒱₀ c none) Set.univ ((own (atRings x wq k v wo out) c).bind kk) Φ) := by
  unfold own wins first2
  rw [sendR_eq, sendL_eq, anyRq, anyRo, anyLq, anyLo]
  simp only [Prog.lift, bind_eq, op_bind, ret_bind, bind_bind]
  iintro ⟨#Hctx, LR, LL, HO, ⟨⟨%f1, Sqr⟩, ⟨%f2, Sor⟩⟩, ⟨⟨%f3, Sql⟩, ⟨%f4, Sol⟩⟩, MR, ML, ⟨Hi, Hwq, Hwo⟩, Hout⟩ Hk
  iapply (wp_box wq c fullShare (bq B c) inb_S512x256_S512x256_0_0 rfl inb_S512x256_S512x256_0_0 _ _ _) $$ [Hwq]
  · iexact Hwq
  iintro Hwq
  iapply (wp_box wo c fullShare (bo B c) inb_S256x512_S256x512_0_0 rfl inb_S256x512_S256x512_0_0 _ _ _) $$ [Hwo]
  · iexact Hwo
  iintro Hwo
  rw [window_all (bq B c) ![0, 0] (fun a => by fin_cases a <;> rfl), window_all (bo B c) ![0, 0] (fun a => by fin_cases a <;> rfl)]
  simp only [shapeCast_self, bind_bind]
  iapply (wp_putQ (Memref.whole cc0_scratch0) c f1 (bq B c)) $$ [Sqr]
  · iexact Sqr
  iintro Sqr
  iapply (wp_putO (Memref.whole cc0_scratch1) c f2 (bo B c)) $$ [Sor]
  · iexact Sor
  iintro Sor
  iapply (wp_putQ (Memref.whole cc0_scratch2) c f3 (bq B c)) $$ [Sql]
  · iexact Sql
  iintro Sql
  iapply (wp_putO (Memref.whole cc0_scratch3) c f4 (bo B c)) $$ [Sol]
  · iexact Sol
  iintro Sol
  ihave Sqr := (Entails.of_eq (hold_zeroRq B c)) $$ Sqr
  ihave Sor := (Entails.of_eq (hold_zeroRo B c)) $$ Sor
  ihave Sql := (Entails.of_eq (hold_zeroLq B c)) $$ Sql
  ihave Sol := (Entails.of_eq (hold_zeroLo B c)) $$ Sol
  iapply (wp_send_first B K false c (due2 true c 0)) $$ [LR HO Sqr Sor MR]
  · isplitr; · iexact Hctx
    isplitl [LR]; · iexact LR
    isplitl [HO]; · iexact HO
    isplitl [Sqr Sor]
    · unfold hold2
      isplitl [Sqr]; · iexact Sqr
      iexact Sor
    iexact MR
  iintro ⟨LR, HO, CRq, CRo⟩
  ihave HO := (Entails.of_eq (congrArg (owesAny c) (add_comm (due2 true c 0) (due2 false c 1)))) $$ HO
  iapply (wp_send_first B K true c (due2 false c 1)) $$ [LL HO Sql Sol ML]
  · isplitr; · iexact Hctx
    isplitl [LL]; · iexact LL
    isplitl [HO]; · iexact HO
    isplitl [Sql Sol]
    · unfold hold2
      isplitl [Sql]; · iexact Sql
      iexact Sol
    iexact ML
  iintro ⟨LL, HO, CLq, CLo⟩
  ihave HO := (Entails.of_eq (congrArg (owesAny c) (ow_comm c 1 1).symm)) $$ HO
  iapply (wp_first (atRings x wq k v wo out) c I o 0 c _ _ (k0_off1_eq c 0)) $$ [Hi Hout]
  · isplitl [Hi]; · iexact Hi
    iexact Hout
  iintro ⟨Hi, Hout⟩
  iapply (wp_first (atRings x wq k v wo out) c I _ 1 c _ _ (k0_off1_eq c 1)) $$ [Hi Hout]
  · isplitl [Hi]; · iexact Hi
    iexact Hout
  iintro ⟨Hi, Hout⟩
  iapply Hk
  isplitl [LR]; · iexact LR
  isplitl [LL]; · iexact LL
  isplitl [HO]; · iexact HO
  isplitl [CRq]; · iexact CRq
  isplitl [CRo]; · iexact CRo
  isplitl [CLq]; · iexact CLq
  isplitl [CLo]; · iexact CLo
  isplitl [Hi Hwq Hwo]
  · isplitl [Hi]; · iexact Hi
    isplitl [Hwq]; · iexact Hwq
    iexact Hwo
  have e : VecWindow.put (VecWindow.put o ![(0 : Fin 2).val, 0, 0] S1x128x512.size
      (shapeCast S1x128x512 (con I 0 c (bq B c) (bo B c)) shapeCasts_S128x512_S1x128x512)) ![(1 : Fin 2).val, 0, 0] S1x128x512.size
      (shapeCast S1x128x512 (con I 1 c (bq B c) (bo B c)) shapeCasts_S128x512_S1x128x512) = rows (start B I c) :=
    put_put_rows o (start B I c)
  iapply (Entails.of_eq (congrArg (at' out c fullShare) e)) $$ Hout

end Body

end Cert.KernelIdeal.Ring

end
-- ==== Proof.Round.lean ====
/- One round of both rings; the rounds. -/
module

public import proofs.«01_k».proof.Proof.Own

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (B : Blocks F) (K : GSem nD τ sig → ℕ)

/-! ## From two landings to two sends -/

theorem landL (k : Kd) (c : Dev nD) (t : ℕ) (h : t + 1 ≤ 15) :
    landPay B true k c t ⊢ iprop(hold B true k c (t + 1) fullShare ∗ gift B false k c t ∗ back B false k c t) := land_cont B false k c t h
theorem landR (k : Kd) (c : Dev nD) (t : ℕ) (h : t + 1 ≤ 14) :
    landPay B false k c t ⊢ iprop(hold B false k c (t + 1) fullShare ∗ gift B true k c t ∗ back B true k c t) := land_cont B true k c t h
theorem landR_end (k : Kd) (c : Dev nD) (t : ℕ) (h : ¬ t + 1 ≤ 14) :
    landPay B false k c t ⊢ iprop(hold B false k c (t + 1) fullShare ∗ back B true k c t) := land_end B true k c t h

theorem sendIn_R (k : Kd) (c : Dev nD) (t : ℕ) :
    iprop(ready false k c t ∗ hold B false k c (t + 1) fullShare ∗ gift B false k c t ∗ kept B true k c t ∗ back B true k c t ∗ stash false k c t)
      ⊢ sendIn B false k c t := .rfl
theorem sendIn_L (k : Kd) (c : Dev nD) (t : ℕ) :
    iprop(ready true k c t ∗ hold B true k c (t + 1) fullShare ∗ gift B true k c t ∗ kept B false k c t ∗ back B false k c t ∗ stash true k c t)
      ⊢ sendIn B true k c t := .rfl

theorem kept_next (d : Dir) (k : Kd) (c : Dev nD) (t : ℕ) : hold B d k c t keep ⊢ kept B d k c (t + 1) := by
  unfold kept; rw [if_pos (by omega), Nat.add_sub_cancel]

theorem sort (k : Kd) (c : Dev nD) (t : ℕ) (h : t + 1 ≤ 14) :
    iprop((ready false k c t ∗ ready true k c t) ∗ (landPay B false k c t ∗ landPay B true k c t) ∗ carry B false k c t ∗ carry B true k c t)
      ⊢ iprop(sendIn B false k c t ∗ sendIn B true k c t ∗ kept B false k c (t + 1) ∗ kept B true k c (t + 1)) := by
  unfold carry
  iintro ⟨⟨R1, R2⟩, ⟨L1, L2⟩, ⟨A1, A2, A3⟩, ⟨B1, B2, B3⟩⟩
  ihave L1 := (landR B k c t h) $$ L1
  icases L1 with ⟨L11, L12, L13⟩
  ihave L2 := (landL B k c t (by omega)) $$ L2
  icases L2 with ⟨L21, L22, L23⟩
  isplitl [R1 L11 L22 B2 L13 A3]
  · iapply (sendIn_R B k c t)
    isplitl [R1]; · iexact R1
    isplitl [L11]; · iexact L11
    isplitl [L22]; · iexact L22
    isplitl [B2]; · iexact B2
    isplitl [L13]; · iexact L13
    iexact A3
  isplitl [R2 L21 L12 A2 L23 B3]
  · iapply (sendIn_L B k c t)
    isplitl [R2]; · iexact R2
    isplitl [L21]; · iexact L21
    isplitl [L12]; · iexact L12
    isplitl [A2]; · iexact A2
    isplitl [L23]; · iexact L23
    iexact B3
  isplitl [A1]
  · iapply (kept_next B false k c t); iexact A1
  iapply (kept_next B true k c t); iexact B1

theorem ready_R (k : Kd) (c : Dev nD) (ns nw t : ℕ) :
    (led true k c ns nw (t + 1) : sProp 𝕄) ⊢ iprop(ready false k c t ∗ led true k c ns nw (t + 1)) := led_ready false k c ns nw t
theorem ready_L (k : Kd) (c : Dev nD) (ns nw t : ℕ) :
    (led false k c ns nw (t + 1) : sProp 𝕄) ⊢ iprop(ready true k c t ∗ led false k c ns nw (t + 1)) := led_ready true k c ns nw t

theorem ready2_R (c : Dev nD) (ns nw t : ℕ) :
    (led2 true c ns nw (t + 1) : sProp 𝕄) ⊢ iprop((ready false false c t ∗ ready false true c t) ∗ led2 true c ns nw (t + 1)) := by
  unfold led2
  iintro ⟨H1, H2⟩
  ihave H1 := (ready_R false c ns nw t) $$ H1
  icases H1 with ⟨R1, H1⟩
  ihave H2 := (ready_R true c ns nw t) $$ H2
  icases H2 with ⟨R2, H2⟩
  isplitl [R1 R2]
  · isplitl [R1]; · iexact R1
    iexact R2
  isplitl [H1]; · iexact H1
  iexact H2
theorem ready2_L (c : Dev nD) (ns nw t : ℕ) :
    (led2 false c ns nw (t + 1) : sProp 𝕄) ⊢ iprop((ready true false c t ∗ ready true true c t) ∗ led2 false c ns nw (t + 1)) := by
  unfold led2
  iintro ⟨H1, H2⟩
  ihave H1 := (ready_L false c ns nw t) $$ H1
  icases H1 with ⟨R1, H1⟩
  ihave H2 := (ready_L true c ns nw t) $$ H2
  icases H2 with ⟨R2, H2⟩
  isplitl [R1 R2]
  · isplitl [R1]; · iexact R1
    iexact R2
  isplitl [H1]; · iexact H1
  iexact H2

section Body
variable (x : Memref sig .tc .vmem S2x128x512 .f32) (wq : Memref sig .tc .vmem S512x256 .f32)
    (k v : Memref sig .tc .vmem S256x128x64 .f32) (wo : Memref sig .tc .vmem S256x512 .f32)
    (out : Memref sig .tc .vmem S2x128x512 .f32) (c : Dev nD) (I : Ins F)

/-- The waits for the transfers of four rounds ago, where there are any. -/
def old (A : Refs) (t : ℕ) : BProg F PUnit :=
  if 3 ≤ t then (do
    sentR A (t - 3)
    sentL A (t - 3)) else pure ⟨⟩

theorem wp_old (t nr : ℕ) (ht : t ≤ 14) (O : CellTallies nD τ sig ℕ) (hO : Above 0 O) {α : Type} (kk : PUnit → BProg F α) (Φ : α → sProp 𝕄) :
    iprop(ctx B K ∗ led2 false c (t + 1) (t - 3) nr ∗ led2 true c (t + 1) (t - 3) nr ∗ owesAny c O)
      ⊢ iprop(((led2 false c (t + 1) (t + 1 - 3) nr ∗ led2 true c (t + 1) (t + 1 - 3) nr ∗ owesAny c O)
          -∗ wp frame (wpE (defs₀ (F := F)) 𝒱₀ c none) Set.univ (kk ⟨⟩) Φ)
        -∗ wp frame (wpE (defs₀ (F := F)) 𝒱₀ c none) Set.univ ((old (atRings x wq k v wo out) t).bind kk) Φ) := by
  unfold old
  rw [sentR_eq, sentL_eq]
  by_cases h : 3 ≤ t
  · rw [if_pos h, bind_eq, bind_bind]
    iintro ⟨#Hctx, LR, LL, HO⟩ Hk
    iapply (wp_sent2 B K false c (t + 1) (t - 3) nr (by omega) (by show t - 3 ≤ 15; omega) hO) $$ [LR HO]
    · isplitr; · iexact Hctx
      isplitl [LR]; · iexact LR
      iexact HO
    iintro ⟨LR, -, HO⟩
    iapply (wp_sent2 B K true c (t + 1) (t - 3) nr (by omega) (by show t - 3 ≤ 14; omega) hO) $$ [LL HO]
    · isplitr; · iexact Hctx
      isplitl [LL]; · iexact LL
      iexact HO
    iintro ⟨LL, -, HO⟩
    have e : t - 3 + 1 = t + 1 - 3 := by omega
    ihave LR := (Entails.of_eq (congrArg (fun n => led2 false c (t + 1) n nr) e)) $$ LR
    ihave LL := (Entails.of_eq (congrArg (fun n => led2 true c (t + 1) n nr) e)) $$ LL
    iapply Hk
    isplitl [LR]; · iexact LR
    isplitl [LL]; · iexact LL
    iexact HO
  · rw [if_neg h, show t - 3 = t + 1 - 3 by omega]
    iintro ⟨-, LR, LL, HO⟩ Hk
    iapply Hk
    isplitl [LR]; · iexact LR
    isplitl [LL]; · iexact LL
    iexact HO

/-- The rows after `n` rounds. -/
def outs (e : Dev nD) : ℕ → Fin 2 → FVec F S1x128x512 .f32
  | 0 => start B I e
  | n + 1 => addB B I (org true (n + 1) e) (addB B I (org false (n + 1) e) (outs e n))

/-- The state at the start of round `t`. -/
def St (t : ℕ) : sProp 𝕄 :=
  iprop(led2 false c (t + 1) (t - 3) t ∗ led2 true c (t + 1) (t - 3) t ∗ owesAny c (ow c (t + 1) (t + 1))
    ∗ (carry B false false c t ∗ carry B true false c t) ∗ (carry B false true c t ∗ carry B true true c t)
    ∗ wins B x wq k v wo out c I ∗ at' out c fullShare (rows (outs B I c t)))

/-- The two waits for the landings of round `t`. -/
theorem wp_recvs (t : ℕ) (ht : t ≤ 14) (O : CellTallies nD τ sig ℕ) (hO : Above (t + 2) O) {α : Type} (kk : PUnit → BProg F α) (Φ : α → sProp 𝕄) :
    iprop(ctx B K ∗ led2 false c (t + 1) (t - 3) t ∗ led2 true c (t + 1) (t - 3) t ∗ owesAny c O)
      ⊢ iprop(((led2 false c (t + 1) (t - 3) (t + 1) ∗ led2 true c (t + 1) (t - 3) (t + 1) ∗ owesAny c O
            ∗ (landPay B false false c t ∗ landPay B true false c t) ∗ (landPay B false true c t ∗ landPay B true true c t))
          -∗ wp frame (wpE (defs₀ (F := F)) 𝒱₀ c none) Set.univ (kk ⟨⟩) Φ)
        -∗ wp frame (wpE (defs₀ (F := F)) 𝒱₀ c none) Set.univ ((recv2 false t).bind fun _ => (recv2 true t).bind kk) Φ) := by
  iintro ⟨#Hctx, LR, LL, HO⟩ Hk
  iapply (wp_recv2 B K false c (t + 1) (t - 3) t (by show t ≤ 15; omega) hO) $$ [LR HO]
  · isplitr; · iexact Hctx
    isplitl [LR]; · iexact LR
    iexact HO
  unfold land2
  iintro ⟨LR, ⟨P1, P2⟩, HO⟩
  iapply (wp_recv2 B K true c (t + 1) (t - 3) t ht hO) $$ [LL HO]
  · isplitr; · iexact Hctx
    isplitl [LL]; · iexact LL
    iexact HO
  unfold land2
  iintro ⟨LL, ⟨P3, P4⟩, HO⟩
  iapply Hk
  isplitl [LR]; · iexact LR
  isplitl [LL]; · iexact LL
  isplitl [HO]; · iexact HO
  isplitl [P1 P3]
  · isplitl [P1]; · iexact P1
    iexact P3
  isplitl [P2]; · iexact P2
  iexact P4

theorem ow_above (b a a' : ℕ) (h : b < a + 2) (h' : b < a' + 2) : Above b (ow c a a') :=
  ((Above.due _ _ _ _ h').add (Above.due _ _ _ _ h')).add ((Above.due _ _ _ _ h).add (Above.due _ _ _ _ h))

theorem carry_next (d : Dir) (kd : Kd) (t : ℕ) : iprop(sendOut B d kd c t ∗ kept B d kd c (t + 1)) ⊢ iprop(carry B d kd c (t + 1) ∗ left B d kd c t) := by
  unfold sendOut carry
  iintro ⟨⟨H1, H2, H3⟩, H4⟩
  isplitr [H3]
  · isplitl [H1]; · iexact H1
    isplitl [H4]; · iexact H4
    iexact H2
  iexact H3

/-- The uses of a round's blocks of one direction, from what the sends left. -/
theorem wp_useR' (t : Fin 15) (r : Fin 2 → FVec F S1x128x512 .f32) {α : Type} (kk : PUnit → BProg F α) (Φ : α → sProp 𝕄) :
    iprop(wins B x wq k v wo out c I ∗ at' out c fullShare (rows r) ∗ sendOut B false false c t.val ∗ sendOut B false true c t.val)
      ⊢ iprop(((wins B x wq k v wo out c I ∗ at' out c fullShare (rows (addB B I (org false (t.val + 1) c) r))
            ∗ sendOut B false false c t.val ∗ sendOut B false true c t.val)
          -∗ wp frame (wpE (defs₀ (F := F)) 𝒱₀ c none) Set.univ (kk ⟨⟩) Φ)
        -∗ wp frame (wpE (defs₀ (F := F)) 𝒱₀ c none) Set.univ ((useR (atRings x wq k v wo out) c ⟨t.val, by omega⟩).bind kk) Φ) := by
  unfold wins sendOut
  iintro ⟨⟨Hi, Hw⟩, Ho, ⟨H1, H2⟩, H3, H4⟩ Hk
  iapply (wp_useR B x wq k v wo out c I _ keep r) $$ [Hi Ho H1 H3]
  · unfold hold2
    isplitl [Hi]; · iexact Hi
    isplitl [Ho]; · iexact Ho
    isplitl [H1]; · iexact H1
    iexact H3
  unfold hold2
  iintro ⟨Hi, Ho, H1, H3⟩
  iapply Hk
  isplitl [Hi Hw]
  · isplitl [Hi]; · iexact Hi
    iexact Hw
  isplitl [Ho]; · iexact Ho
  isplitl [H1 H2]
  · isplitl [H1]; · iexact H1
    iexact H2
  isplitl [H3]; · iexact H3
  iexact H4
theorem wp_useL' (t : Fin 15) (r : Fin 2 → FVec F S1x128x512 .f32) {α : Type} (kk : PUnit → BProg F α) (Φ : α → sProp 𝕄) :
    iprop(wins B x wq k v wo out c I ∗ at' out c fullShare (rows r) ∗ sendOut B true false c t.val ∗ sendOut B true true c t.val)
      ⊢ iprop(((wins B x wq k v wo out c I ∗ at' out c fullShare (rows (addB B I (org true (t.val + 1) c) r))
            ∗ sendOut B true false c t.val ∗ sendOut B true true c t.val)
          -∗ wp frame (wpE (defs₀ (F := F)) 𝒱₀ c none) Set.univ (kk ⟨⟩) Φ)
        -∗ wp frame (wpE (defs₀ (F := F)) 𝒱₀ c none) Set.univ ((useL (atRings x wq k v wo out) c t).bind kk) Φ) := by
  unfold wins sendOut
  iintro ⟨⟨Hi, Hw⟩, Ho, ⟨H1, H2⟩, H3, H4⟩ Hk
  iapply (wp_useL B x wq k v wo out c I t keep r) $$ [Hi Ho H1 H3]
  · unfold hold2
    isplitl [Hi]; · iexact Hi
    isplitl [Ho]; · iexact Ho
    isplitl [H1]; · iexact H1
    iexact H3
  unfold hold2
  iintro ⟨Hi, Ho, H1, H3⟩
  iapply Hk
  isplitl [Hi Hw]
  · isplitl [Hi]; · iexact Hi
    iexact Hw
  isplitl [Ho]; · iexact Ho
  isplitl [H1 H2]
  · isplitl [H1]; · iexact H1
    iexact H2
  isplitl [H3]; · iexact H3
  iexact H4

theorem round_eq (t : Fin 15) {α : Type} (kk : PUnit → BProg F α) :
    (round (atRings x wq k v wo out) c t).bind kk = (recv2 false t.val).bind fun _ => (recv2 true t.val).bind fun _ =>
      (old (atRings x wq k v wo out) t.val).bind fun _ => (send2 false (nxt false c) (t.val + 1)).bind fun _ =>
      (if t.val + 1 < 15 then send2 true (nxt true c) (t.val + 1) else pure ⟨⟩).bind fun _ =>
      (useR (atRings x wq k v wo out) c ⟨t.val, by omega⟩).bind fun _ => (useL (atRings x wq k v wo out) c t).bind kk := by
  unfold round old
  rw [recvR_eq, recvL_eq, sendR_eq, sendL_eq]
  by_cases h : 3 ≤ t.val <;> by_cases h' : t.val + 1 < 15 <;>
    simp only [h, h', if_true, if_false, bind_eq, bind_bind, Prog.pure_eq_ret, ret_bind]

/-- A round in which both rings send. -/
theorem wp_round (t : Fin 15) (ht : t.val < 14) {α : Type} (kk : PUnit → BProg F α) (Φ : α → sProp 𝕄) :
    iprop(ctx B K ∗ St B x wq k v wo out c I t.val)
      ⊢ iprop(((St B x wq k v wo out c I (t.val + 1) ∗ left B false false c t.val ∗ left B false true c t.val)
          -∗ wp frame (wpE (defs₀ (F := F)) 𝒱₀ c none) Set.univ (kk ⟨⟩) Φ)
        -∗ wp frame (wpE (defs₀ (F := F)) 𝒱₀ c none) Set.univ ((round (atRings x wq k v wo out) c t).bind kk) Φ) := by
  rw [round_eq, if_pos (by omega)]
  unfold St
  iintro ⟨#Hctx, LR, LL, HO, ⟨C1, C2⟩, ⟨C3, C4⟩, Hw, Hout⟩ Hk
  iapply (wp_recvs B K c t.val (by omega) _ (ow_above c _ (t.val + 1) (t.val + 1) (by omega) (by omega))) $$ [LR LL HO]
  · isplitr; · iexact Hctx
    isplitl [LR]; · iexact LR
    isplitl [LL]; · iexact LL
    iexact HO
  iintro ⟨LR, LL, HO, PQ, PO⟩
  iapply (wp_old B K x wq k v wo out c t.val _ (by omega) _ (ow_above c _ (t.val + 1) (t.val + 1) (by omega) (by omega))) $$ [LR LL HO]
  · isplitr; · iexact Hctx
    isplitl [LR]; · iexact LR
    isplitl [LL]; · iexact LL
    iexact HO
  iintro ⟨LR, LL, HO⟩
  ihave LL := (ready2_R c _ _ _) $$ LL
  icases LL with ⟨⟨R1, R2⟩, LL⟩
  ihave LR := (ready2_L c _ _ _) $$ LR
  icases LR with ⟨⟨R3, R4⟩, LR⟩
  ihave SQ := (sort B false c t.val (by omega)) $$ [R1 R3 PQ C1 C2]
  · isplitl [R1 R3]
    · isplitl [R1]; · iexact R1
      iexact R3
    isplitl [PQ]; · iexact PQ
    isplitl [C1]; · iexact C1
    iexact C2
  icases SQ with ⟨SQ1, SQ2, KQ1, KQ2⟩
  ihave SO := (sort B true c t.val (by omega)) $$ [R2 R4 PO C3 C4]
  · isplitl [R2 R4]
    · isplitl [R2]; · iexact R2
      iexact R4
    isplitl [PO]; · iexact PO
    isplitl [C3]; · iexact C3
    iexact C4
  icases SO with ⟨SO1, SO2, KO1, KO2⟩
  iapply (wp_step B K false c t.val (t.val + 1 - 3) (t.val + 1) (by show t.val + 1 ≤ 15; omega) (by omega) (by omega) (due2 true c (t.val + 1))) $$ [LR HO SQ1 SO1]
  · isplitr; · iexact Hctx
    isplitl [LR]; · iexact LR
    isplitl [HO]; · iexact HO
    isplitl [SQ1]; · iexact SQ1
    iexact SO1
  iintro ⟨LR, HO, SQ1, SO1⟩
  ihave HO := (Entails.of_eq (congrArg (owesAny c) (add_comm (due2 true c (t.val + 1)) (due2 false c (t.val + 2))))) $$ HO
  iapply (wp_step B K true c t.val (t.val + 1 - 3) (t.val + 1) (by show t.val + 1 ≤ 14; omega) (by omega) (by omega) (due2 false c (t.val + 2))) $$ [LL HO SQ2 SO2]
  · isplitr; · iexact Hctx
    isplitl [LL]; · iexact LL
    isplitl [HO]; · iexact HO
    isplitl [SQ2]; · iexact SQ2
    iexact SO2
  iintro ⟨LL, HO, SQ2, SO2⟩
  ihave HO := (Entails.of_eq (congrArg (owesAny c) (ow_comm c (t.val + 2) (t.val + 2)).symm)) $$ HO
  iapply (wp_useR' B x wq k v wo out c I t _) $$ [Hw Hout SQ1 SO1]
  · isplitl [Hw]; · iexact Hw
    isplitl [Hout]; · iexact Hout
    isplitl [SQ1]; · iexact SQ1
    iexact SO1
  iintro ⟨Hw, Hout, SQ1, SO1⟩
  iapply (wp_useL' B x wq k v wo out c I t _) $$ [Hw Hout SQ2 SO2]
  · isplitl [Hw]; · iexact Hw
    isplitl [Hout]; · iexact Hout
    isplitl [SQ2]; · iexact SQ2
    iexact SO2
  iintro ⟨Hw, Hout, SQ2, SO2⟩
  ihave C1 := (carry_next B c false false t.val) $$ [SQ1 KQ1]
  · isplitl [SQ1]; · iexact SQ1
    iexact KQ1
  icases C1 with ⟨C1, X1⟩
  ihave C2 := (carry_next B c true false t.val) $$ [SQ2 KQ2]
  · isplitl [SQ2]; · iexact SQ2
    iexact KQ2
  icases C2 with ⟨C2, -⟩
  ihave C3 := (carry_next B c false true t.val) $$ [SO1 KO1]
  · isplitl [SO1]; · iexact SO1
    iexact KO1
  icases C3 with ⟨C3, X3⟩
  ihave C4 := (carry_next B c true true t.val) $$ [SO2 KO2]
  · isplitl [SO2]; · iexact SO2
    iexact KO2
  icases C4 with ⟨C4, -⟩
  iapply Hk
  isplitr [X1 X3]
  · isplitl [LR]; · iexact LR
    isplitl [LL]; · iexact LL
    isplitl [HO]; · iexact HO
    isplitl [C1 C2]
    · isplitl [C1]; · iexact C1
      iexact C2
    isplitl [C3 C4]
    · isplitl [C3]; · iexact C3
      iexact C4
    isplitl [Hw]; · iexact Hw
    iexact Hout
  isplitl [X1]; · iexact X1
  iexact X3

end Body

end Cert.KernelIdeal.Ring

end
-- ==== Proof.Finish.lean ====
/- The rounds in a row, the last round, the epilogue. -/
module

public import proofs.«01_k».proof.Proof.Round

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (B : Blocks F) (K : GSem nD τ sig → ℕ)

/-- Both kinds' slots of a transfer's source, whole from the half kept and the half that came back. -/
theorem whole (d : Dir) (k : Kd) (c : Dev nD) (t : ℕ) : iprop(kept B d k c (t + 1) ∗ back B d k c (t + 1)) ⊢ hold B d k c t fullShare := by
  unfold kept back
  rw [if_pos (by omega), if_pos (by omega), Nat.add_sub_cancel]
  exact hold_join B d k c t

/-- The four slots of a ring. -/
def slots (d : Dir) (k : Kd) (c : Dev nD) : sProp 𝕄 :=
  iprop(slotAny d k c 0 ∗ slotAny d k c 1 ∗ slotAny d k c 2 ∗ slotAny d k c 3)

theorem slots_R (k : Kd) (c : Dev nD) :
    iprop(hold B false k c 16 fullShare ∗ hold B false k c 13 fullShare ∗ hold B false k c 14 fullShare ∗ hold B false k c 15 fullShare)
      ⊢ slots false k c :=
  BIClass.sep_mono (hold_any B false k c 16) (BIClass.sep_mono (hold_any B false k c 13) (BIClass.sep_mono (hold_any B false k c 14) (hold_any B false k c 15)))
theorem slots_L (k : Kd) (c : Dev nD) :
    iprop(hold B true k c 12 fullShare ∗ hold B true k c 13 fullShare ∗ hold B true k c 14 fullShare ∗ hold B true k c 15 fullShare)
      ⊢ slots true k c :=
  BIClass.sep_mono (hold_any B true k c 12) (BIClass.sep_mono (hold_any B true k c 13) (BIClass.sep_mono (hold_any B true k c 14) (hold_any B true k c 15)))

/-! ## The last round, per kind -/

/-- What the last round's landings and the state before it are, sorted: what the send takes, and what waits. -/
theorem sort_last (k : Kd) (c : Dev nD) :
    iprop(ready false k c 14 ∗ (landPay B false k c 14 ∗ landPay B true k c 14) ∗ carry B false k c 14 ∗ carry B true k c 14)
      ⊢ iprop(sendIn B false k c 14 ∗ hold B true k c 15 fullShare ∗ hold B false k c 13 fullShare
          ∗ hold B false k c 14 keep ∗ hold B true k c 14 keep) := by
  unfold carry
  iintro ⟨R1, ⟨L1, L2⟩, ⟨A1, A2, A3⟩, ⟨B1, B2, -⟩⟩
  ihave L1 := (landR_end B k c 14 (by decide)) $$ L1
  icases L1 with ⟨L11, L13⟩
  ihave L2 := (landL B k c 14 (by decide)) $$ L2
  icases L2 with ⟨L21, L22, L23⟩
  isplitl [R1 L11 L22 B2 L13 A3]
  · iapply (sendIn_R B k c 14)
    isplitl [R1]; · iexact R1
    isplitl [L11]; · iexact L11
    isplitl [L22]; · iexact L22
    isplitl [B2]; · iexact B2
    isplitl [L13]; · iexact L13
    iexact A3
  isplitl [L21]; · iexact L21
  isplitl [A2 L23]
  · iapply (whole B false k c 13)
    isplitl [A2]; · iexact A2
    iexact L23
  isplitl [A1]; · iexact A1
  iexact B1

theorem left_R13 (k : Kd) (c : Dev nD) : left B false k c 13 ⊢ hold B true k c 12 fullShare := by
  unfold left; rw [if_pos ⟨by decide, by decide⟩]; exact .rfl
theorem left_R14 (k : Kd) (c : Dev nD) : left B false k c 14 ⊢ hold B true k c 13 fullShare := by
  unfold left; rw [if_pos ⟨by decide, by decide⟩]; exact .rfl

/-- A ring's slots before the epilogue. -/
def rest (k : Kd) (c : Dev nD) : sProp 𝕄 :=
  iprop(hold B true k c 12 fullShare ∗ hold B true k c 13 fullShare ∗ hold B true k c 14 keep ∗ hold B true k c 15 fullShare
    ∗ hold B false k c 13 fullShare ∗ hold B false k c 14 keep ∗ hold B false k c 15 keep)

theorem rest_of (k : Kd) (c : Dev nD) :
    iprop(left B false k c 13 ∗ sendOut B false k c 14 ∗ hold B true k c 15 fullShare ∗ hold B false k c 13 fullShare
          ∗ hold B false k c 14 keep ∗ hold B true k c 14 keep) ⊢ rest B k c := by
  unfold sendOut rest
  iintro ⟨H1, ⟨H2, -, H3⟩, H4, H5, H6, H7⟩
  ihave H1 := (left_R13 B k c) $$ H1
  ihave H3 := (left_R14 B k c) $$ H3
  isplitl [H1]; · iexact H1
  isplitl [H3]; · iexact H3
  isplitl [H7]; · iexact H7
  isplitl [H4]; · iexact H4
  isplitl [H5]; · iexact H5
  isplitl [H6]; · iexact H6
  iexact H2

/-- All eight slots of a kind, at the end. -/
theorem slots_end (k : Kd) (c : Dev nD) :
    iprop(rest B k c ∗ hold B false k c 16 fullShare ∗ back B true k c 15 ∗ hold B false k c 14 half ∗ hold B false k c 15 half)
      ⊢ iprop(slots false k c ∗ slots true k c) := by
  unfold rest
  iintro ⟨⟨H1, H2, H3, H4, H5, H6, H7⟩, H8, H9, H10, H11⟩
  ihave H3 := (kept_next B true k c 14) $$ H3
  isplitl [H8 H5 H6 H10 H7 H11]
  · iapply (slots_R B k c)
    isplitl [H8]; · iexact H8
    isplitl [H5]; · iexact H5
    isplitl [H6 H10]
    · iapply (hold_join B false k c 14)
      isplitl [H6]; · iexact H6
      iexact H10
    iapply (hold_join B false k c 15)
    isplitl [H7]; · iexact H7
    iexact H11
  iapply (slots_L B k c)
  isplitl [H1]; · iexact H1
  isplitl [H2]; · iexact H2
  isplitl [H3 H9]
  · iapply (whole B true k c 14)
    isplitl [H3]; · iexact H3
    iexact H9
  iexact H4

section Body
variable (x : Memref sig .tc .vmem S2x128x512 .f32) (wq : Memref sig .tc .vmem S512x256 .f32)
    (k v : Memref sig .tc .vmem S256x128x64 .f32) (wo : Memref sig .tc .vmem S256x512 .f32)
    (out : Memref sig .tc .vmem S2x128x512 .f32) (c : Dev nD) (I : Ins F)

theorem rounds_succ (n t : ℕ) (h : t < 15) {α : Type} (kk : PUnit → BProg F α) :
    (rounds (F := F) (atRings x wq k v wo out) c (n + 1) t).bind kk
      = (round (atRings x wq k v wo out) c ⟨t, h⟩).bind fun _ => (rounds (atRings x wq k v wo out) c n (t + 1)).bind kk := by
  show Prog.bind (if h : t < 15 then _ else _) kk = _
  rw [dif_pos h]; exact bind_bind _ _ _

theorem wp_rounds (m n t : ℕ) (h : t + n ≤ 13) {α : Type} (kk : PUnit → BProg F α) (Φ : α → sProp 𝕄) :
    iprop(ctx B K ∗ St B x wq k v wo out c I t)
      ⊢ iprop((St B x wq k v wo out c I (t + n)
          -∗ wp frame (wpE (defs₀ (F := F)) 𝒱₀ c none) Set.univ ((rounds (atRings x wq k v wo out) c m (t + n)).bind kk) Φ)
        -∗ wp frame (wpE (defs₀ (F := F)) 𝒱₀ c none) Set.univ ((rounds (atRings x wq k v wo out) c (n + m) t).bind kk) Φ) := by
  induction n generalizing t with
  | zero =>
    rw [Nat.zero_add]
    iintro ⟨-, H⟩ Hk
    iapply Hk; iexact H
  | succ n ih =>
    rw [show n + 1 + m = n + m + 1 by omega, rounds_succ x wq k v wo out c (n + m) t (by omega),
      show t + (n + 1) = t + 1 + n by omega]
    iintro ⟨#Hctx, H⟩ Hk
    iapply (wp_round B K x wq k v wo out c I ⟨t, _⟩ (by show t < 14; omega)) $$ [H]
    · isplitr; · iexact Hctx
      iexact H
    iintro ⟨H, -⟩
    iapply (ih (t + 1) (by omega)) $$ [H]
    · isplitr; · iexact Hctx
      iexact H
    iexact Hk

/-- What a device holds before the epilogue. -/
def Pre : sProp 𝕄 :=
  iprop(led2 false c 16 12 15 ∗ led2 true c 15 12 15 ∗ owesAny c (0 : CellTallies nD τ sig ℕ) ∗ rest B false c ∗ rest B true c
    ∗ wins B x wq k v wo out c I ∗ at' out c fullShare (rows (outs B I c 15)))

theorem ow_end : ow c 16 15 = 0 := by
  unfold ow due2
  rw [due_end false _ c 16 (by decide), due_end false _ c 16 (by decide), due_end true _ c 15 (by decide), due_end true _ c 15 (by decide)]
  simp only [add_zero]

theorem owes_end : owesAny (F := F) c (due2 true c 15 + due2 false c (14 + 2)) ⊢ owesAny c 0 := Entails.of_eq (congrArg (owesAny c) (ow_end c))

/-- The round in which only the right ring sends. -/
theorem wp_round_last {α : Type} (kk : PUnit → BProg F α) (Φ : α → sProp 𝕄) :
    iprop(ctx B K ∗ St B x wq k v wo out c I 14 ∗ left B false false c 13 ∗ left B false true c 13)
      ⊢ iprop((Pre B x wq k v wo out c I -∗ wp frame (wpE (defs₀ (F := F)) 𝒱₀ c none) Set.univ (kk ⟨⟩) Φ)
        -∗ wp frame (wpE (defs₀ (F := F)) 𝒱₀ c none) Set.univ ((round (atRings x wq k v wo out) c ⟨14, by decide⟩).bind kk) Φ) := by
  rw [round_eq, if_neg (by decide)]
  unfold St
  iintro ⟨#Hctx, ⟨LR, LL, HO, ⟨C1, C2⟩, ⟨C3, C4⟩, Hw, Hout⟩, X1, X2⟩ Hk
  iapply (wp_recvs B K c 14 (by omega) _ (ow_above c _ 15 15 (by omega) (by omega))) $$ [LR LL HO]
  · isplitr; · iexact Hctx
    isplitl [LR]; · iexact LR
    isplitl [LL]; · iexact LL
    iexact HO
  iintro ⟨LR, LL, HO, PQ, PO⟩
  iapply (wp_old B K x wq k v wo out c 14 _ (by omega) _ (ow_above c _ 15 15 (by omega) (by omega))) $$ [LR LL HO]
  · isplitr; · iexact Hctx
    isplitl [LR]; · iexact LR
    isplitl [LL]; · iexact LL
    iexact HO
  iintro ⟨LR, LL, HO⟩
  ihave LL := (ready2_R c _ _ 14) $$ LL
  icases LL with ⟨⟨R1, R2⟩, LL⟩
  ihave SQ := (sort_last B false c) $$ [R1 PQ C1 C2]
  · isplitl [R1]; · iexact R1
    isplitl [PQ]; · iexact PQ
    isplitl [C1]; · iexact C1
    iexact C2
  icases SQ with ⟨SQ, Q1, Q2, Q3, Q4⟩
  ihave SO := (sort_last B true c) $$ [R2 PO C3 C4]
  · isplitl [R2]; · iexact R2
    isplitl [PO]; · iexact PO
    isplitl [C3]; · iexact C3
    iexact C4
  icases SO with ⟨SO, O1, O2, O3, O4⟩
  iapply (wp_step B K false c 14 12 15 (by decide) (by omega) (by omega) (due2 true c 15)) $$ [LR HO SQ SO]
  · isplitr; · iexact Hctx
    isplitl [LR]; · iexact LR
    isplitl [HO]; · iexact HO
    isplitl [SQ]; · iexact SQ
    iexact SO
  iintro ⟨LR, HO, SQ, SO⟩
  ihave HO := (owes_end c) $$ HO
  iapply (wp_useR' B x wq k v wo out c I ⟨14, by decide⟩ _) $$ [Hw Hout SQ SO]
  · isplitl [Hw]; · iexact Hw
    isplitl [Hout]; · iexact Hout
    isplitl [SQ]; · iexact SQ
    iexact SO
  unfold wins
  iintro ⟨⟨Hi, Hw⟩, Hout, SQ, SO⟩
  iapply (wp_useL B x wq k v wo out c I ⟨14, _⟩ fullShare _) $$ [Hi Hout Q1 O1]
  · unfold hold2
    isplitl [Hi]; · iexact Hi
    isplitl [Hout]; · iexact Hout
    isplitl [Q1]; · iexact Q1
    iexact O1
  unfold hold2
  iintro ⟨Hi, Hout, Q1, O1⟩
  iapply Hk
  unfold Pre wins
  isplitl [LR]; · iexact LR
  isplitl [LL]; · iexact LL
  isplitl [HO]; · iexact HO
  isplitl [X1 SQ Q1 Q2 Q3 Q4]
  · iapply (rest_of B false c)
    isplitl [X1]; · iexact X1
    isplitl [SQ]; · iexact SQ
    isplitl [Q1]; · iexact Q1
    isplitl [Q2]; · iexact Q2
    isplitl [Q3]; · iexact Q3
    iexact Q4
  isplitl [X2 SO O1 O2 O3 O4]
  · iapply (rest_of B true c)
    isplitl [X2]; · iexact X2
    isplitl [SO]; · iexact SO
    isplitl [O1]; · iexact O1
    isplitl [O2]; · iexact O2
    isplitl [O3]; · iexact O3
    iexact O4
  isplitl [Hi Hw]
  · isplitl [Hi]; · iexact Hi
    iexact Hw
  iexact Hout

/-- The output's rows. -/
def result (e : Dev nD) : Fin 2 → FVec F S1x128x512 .f32 := addB B I (org false 16 e) (outs B I e 15)

/-- What a device holds at the end of the body. -/
def Post : sProp 𝕄 :=
  iprop(led2 false c 16 16 16 ∗ led2 true c 15 15 15 ∗ owesAny c (0 : CellTallies nD τ sig ℕ)
    ∗ (slots false false c ∗ slots true false c) ∗ (slots false true c ∗ slots true true c)
    ∗ wins B x wq k v wo out c I ∗ at' out c fullShare (rows (result B I c)))

theorem sentPay2_last (t : ℕ) (h : ¬ cont false t) : sentPay2 B false c t ⊢ iprop(hold B false false c t half ∗ hold B false true c t half) := by
  unfold sentPay2 hold2; rw [if_neg h]

theorem finish_eq {α : Type} (kk : PUnit → BProg F α) :
    (finish (F := F) (atRings x wq k v wo out) c).bind kk = (recv2 false 15).bind fun _ => (useR (atRings x wq k v wo out) c 15).bind fun _ =>
      (sent2 false 12).bind fun _ => (sent2 true 12).bind fun _ => (sent2 false 13).bind fun _ => (sent2 true 13).bind fun _ =>
      (sent2 false 14).bind fun _ => (sent2 true 14).bind fun _ => (sent2 false 15).bind kk := by
  unfold finish
  simp only [recvR_eq, sentR_eq, sentL_eq, bind_eq, bind_bind]

theorem wp_finish {α : Type} (kk : PUnit → BProg F α) (Φ : α → sProp 𝕄) :
    iprop(ctx B K ∗ Pre B x wq k v wo out c I)
      ⊢ iprop((Post B x wq k v wo out c I -∗ wp frame (wpE (defs₀ (F := F)) 𝒱₀ c none) Set.univ (kk ⟨⟩) Φ)
        -∗ wp frame (wpE (defs₀ (F := F)) 𝒱₀ c none) Set.univ ((finish (atRings x wq k v wo out) c).bind kk) Φ) := by
  rw [finish_eq]
  unfold Pre
  iintro ⟨#Hctx, LR, LL, HO, TQ, TO, Hw, Hout⟩ Hk
  iapply (wp_recv2 B K false c 16 12 15 (by decide) (Above.zero _)) $$ [LR HO]
  · isplitr; · iexact Hctx
    isplitl [LR]; · iexact LR
    iexact HO
  unfold land2
  iintro ⟨LR, ⟨PQ, PO⟩, HO⟩
  ihave PQ := (landR_end B false c 15 (by decide)) $$ PQ
  icases PQ with ⟨PQ, BQ⟩
  ihave PO := (landR_end B true c 15 (by decide)) $$ PO
  icases PO with ⟨PO, BO⟩
  unfold wins
  icases Hw with ⟨Hi, Hw⟩
  iapply (wp_useR B x wq k v wo out c I 15 fullShare _) $$ [Hi Hout PQ PO]
  · unfold hold2
    isplitl [Hi]; · iexact Hi
    isplitl [Hout]; · iexact Hout
    isplitl [PQ]; · iexact PQ
    iexact PO
  unfold hold2
  iintro ⟨Hi, Hout, PQ, PO⟩
  iapply (wp_sent2 B K false c 16 12 16 (by decide) (by decide) (Above.zero _)) $$ [LR HO]
  · isplitr; · iexact Hctx
    isplitl [LR]; · iexact LR
    iexact HO
  iintro ⟨LR, -, HO⟩
  iapply (wp_sent2 B K true c 15 12 15 (by decide) (by decide) (Above.zero _)) $$ [LL HO]
  · isplitr; · iexact Hctx
    isplitl [LL]; · iexact LL
    iexact HO
  iintro ⟨LL, -, HO⟩
  iapply (wp_sent2 B K false c 16 13 16 (by decide) (by decide) (Above.zero _)) $$ [LR HO]
  · isplitr; · iexact Hctx
    isplitl [LR]; · iexact LR
    iexact HO
  iintro ⟨LR, -, HO⟩
  iapply (wp_sent2 B K true c 15 13 15 (by decide) (by decide) (Above.zero _)) $$ [LL HO]
  · isplitr; · iexact Hctx
    isplitl [LL]; · iexact LL
    iexact HO
  iintro ⟨LL, -, HO⟩
  iapply (wp_sent2 B K false c 16 14 16 (by decide) (by decide) (Above.zero _)) $$ [LR HO]
  · isplitr; · iexact Hctx
    isplitl [LR]; · iexact LR
    iexact HO
  iintro ⟨LR, S14, HO⟩
  ihave S14 := (sentPay2_last B c 14 (by decide)) $$ S14
  icases S14 with ⟨SQ14, SO14⟩
  iapply (wp_sent2 B K true c 15 14 15 (by decide) (by decide) (Above.zero _)) $$ [LL HO]
  · isplitr; · iexact Hctx
    isplitl [LL]; · iexact LL
    iexact HO
  iintro ⟨LL, -, HO⟩
  iapply (wp_sent2 B K false c 16 15 16 (by decide) (by decide) (Above.zero _)) $$ [LR HO]
  · isplitr; · iexact Hctx
    isplitl [LR]; · iexact LR
    iexact HO
  iintro ⟨LR, S15, HO⟩
  ihave S15 := (sentPay2_last B c 15 (by decide)) $$ S15
  icases S15 with ⟨SQ15, SO15⟩
  iapply Hk
  unfold Post wins
  isplitl [LR]; · iexact LR
  isplitl [LL]; · iexact LL
  isplitl [HO]; · iexact HO
  isplitl [TQ PQ BQ SQ14 SQ15]
  · iapply (slots_end B false c)
    isplitl [TQ]; · iexact TQ
    isplitl [PQ]; · iexact PQ
    isplitl [BQ]; · iexact BQ
    isplitl [SQ14]; · iexact SQ14
    iexact SQ15
  isplitl [TO PO BO SO14 SO15]
  · iapply (slots_end B true c)
    isplitl [TO]; · iexact TO
    isplitl [PO]; · iexact PO
    isplitl [BO]; · iexact BO
    isplitl [SO14]; · iexact SO14
    iexact SO15
  isplitl [Hi Hw]
  · isplitl [Hi]; · iexact Hi
    iexact Hw
  iexact Hout

end Body

end Cert.KernelIdeal.Ring

end
-- ==== Proof.BodyEq.lean ====
/- The printed body is the body as it is read (`ringBody`). -/
module

public import Idealize.ShloMosaic.Lib.Pipeline.Regions
public import proofs.«01_k».proof.Proof.Body

@[expose] public section

noncomputable section

namespace Cert.KernelIdeal.Ring

open Idealize.ShloMosaic Idealize.SL.Sem Idealize.ShloMosaic.Pipeline
open Cert.KernelIdeal Cert.KernelIdeal.Gen

variable {F : FTy → Type} [FloatOps F]

set_option maxRecDepth 65536 in
/-- The printed body is `ringBody`: by definitional unfolding. -/
theorem body_eq (arg0 : Memref sig .tc .vmem S2x128x512 .f32) (harg0 : arg0.IsWhole) (arg1 : Memref sig .tc .vmem S512x256 .f32) (harg1 : arg1.IsWhole) (arg2 : Memref sig .tc .vmem S256x128x64 .f32) (harg2 : arg2.IsWhole) (arg3 : Memref sig .tc .vmem S256x128x64 .f32) (harg3 : arg3.IsWhole) (arg4 : Memref sig .tc .vmem S256x512 .f32) (harg4 : arg4.IsWhole) (arg5 : Memref sig .tc .vmem S2x128x512 .f32) (harg5 : arg5.IsWhole) (arg6 : Memref sig .tc .vmem S4x512x256 .f32) (harg6 : arg6.IsWhole) (arg7 : Memref sig .tc .vmem S4x256x512 .f32) (harg7 : arg7.IsWhole) (arg8 : Memref sig .tc .vmem S4x512x256 .f32) (harg8 : arg8.IsWhole) (arg9 : Memref sig .tc .vmem S4x256x512 .f32) (harg9 : arg9.IsWhole) (arg10 : DmaSems sig S4) (arg11 : DmaSems sig S4) (arg12 : DmaSems sig S4) (arg13 : DmaSems sig S4) (arg14 : DmaSems sig S4) (arg15 : DmaSems sig S4) (arg16 : DmaSems sig S4) (arg17 : DmaSems sig S4) :
    cc0_body (F := F) arg0 harg0 arg1 harg1 arg2 harg2 arg3 harg3 arg4 harg4 arg5 harg5 arg6 harg6 arg7 harg7 arg8 harg8 arg9 harg9 arg10 arg11 arg12 arg13 arg14 arg15 arg16 arg17 = ringBody (F := F) ⟨arg0, arg1, arg2, arg3, arg4, arg5, arg6, arg7, arg8, arg9, arg10, arg11, arg12, arg13, arg14, arg15, arg16, arg17⟩ := by
  chain_rfl

end Cert.KernelIdeal.Ring

end
-- ==== Proof.Whole.lean ====
/- The meeting before the first send, the whole body, and the rings and counters handed back. -/
module

public import proofs.«01_k».proof.Proof.Finish
public import proofs.«01_k».proof.Proof.BodyEq
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Cert.KernelIdeal Cert.KernelIdeal.Gen

variable {F : FTy → Type} [FloatOps F]

local notation "𝕄" => MT nD τ sig ℕ (Elt F) ℕ UU ℕ

variable (B : Blocks F) (K : GSem nD τ sig → ℕ)

/-! ## A ring buffer is its four slots -/

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem slots_eq (d : Dir) (k : Kd) (c : Dev nD) : slots (F := F) d k c = bigSep Finset.univ fun p => slotAny d k c p := (fin4 _).symm

section Ring
variable (c : Dev nD) (b : Ref sig .tc) (I : Fin 4 → Finset (Idx ((c : Thread nD τ).loc b)))
  (hd : ∀ p p', p ≠ p' → Disjoint (I p) (I p')) (hc : Finset.univ.biUnion I = Finset.univ)

include hd hc in
theorem ring_split : iprop(∃ f : Buf (Elt F) ((c : Thread nD τ).loc b), (c : Thread nD τ).loc b ↦{fullShare} f)
    ⊢ (bigSep Finset.univ fun p => iprop(∃ f : Buf (Elt F) ((c : Thread nD τ).loc b), (c : Thread nD τ).loc b ↦[I p]{fullShare} f) : sProp 𝕄) := by
  have h' (p : Fin 4) (f : Buf (Elt F) ((c : Thread nD τ).loc b)) : ((c : Thread nD τ).loc b ↦[I p]{fullShare} f : sProp 𝕄)
      ⊢ iprop(∃ f : Buf (Elt F) ((c : Thread nD τ).loc b), (c : Thread nD τ).loc b ↦[I p]{fullShare} f) := by
    iintro H; iexists f; iexact H
  have h (f : Buf (Elt F) ((c : Thread nD τ).loc b)) : (bigSep Finset.univ fun p => ((c : Thread nD τ).loc b ↦[I p]{fullShare} f : sProp 𝕄))
      ⊢ (bigSep Finset.univ fun p => iprop(∃ f : Buf (Elt F) ((c : Thread nD τ).loc b), (c : Thread nD τ).loc b ↦[I p]{fullShare} f) : sProp 𝕄) :=
    bigSep_mono fun p _ => h' p f
  iintro ⟨%f, H⟩
  ihave H := (Entails.of_eq (pointsTo_blocks I hd hc f)) $$ H
  iapply (h f) $$ H

include hd hc in
theorem ring_join :
    (bigSep Finset.univ fun p => iprop(∃ f : Buf (Elt F) ((c : Thread nD τ).loc b), (c : Thread nD τ).loc b ↦[I p]{fullShare} f) : sProp 𝕄)
      ⊢ iprop(∃ f : Buf (Elt F) ((c : Thread nD τ).loc b), (c : Thread nD τ).loc b ↦{fullShare} f) :=
  pointsTo_blocks_join_exists I hd hc fun _ => Classical.arbitrary _
end Ring

theorem setRq (p : Fin 4) : (slotQ (Memref.whole cc0_scratch0) p).view.set = (rectQ p).set := (View.set_reshape _ _).trans (View.set_slice_whole _ _)
theorem setRo (p : Fin 4) : (slotO (Memref.whole cc0_scratch1) p).view.set = (rectO p).set := (View.set_reshape _ _).trans (View.set_slice_whole _ _)
theorem setLq (p : Fin 4) : (slotQ (Memref.whole cc0_scratch2) p).view.set = (rectQ p).set := (View.set_reshape _ _).trans (View.set_slice_whole _ _)
theorem setLo (p : Fin 4) : (slotO (Memref.whole cc0_scratch3) p).view.set = (rectO p).set := (View.set_reshape _ _).trans (View.set_slice_whole _ _)

theorem slotRq (c : Dev nD) (p : Fin 4) : slotAny (F := F) false false c p
    = iprop(∃ f : Buf (Elt F) ((c : Thread nD τ).loc cc0_scratch0), (c : Thread nD τ).loc cc0_scratch0 ↦[(rectQ p).set]{fullShare} f) := by
  rw [← setRq]; rfl
theorem slotRo (c : Dev nD) (p : Fin 4) : slotAny (F := F) false true c p
    = iprop(∃ f : Buf (Elt F) ((c : Thread nD τ).loc cc0_scratch1), (c : Thread nD τ).loc cc0_scratch1 ↦[(rectO p).set]{fullShare} f) := by
  rw [← setRo]; rfl
theorem slotLq (c : Dev nD) (p : Fin 4) : slotAny (F := F) true false c p
    = iprop(∃ f : Buf (Elt F) ((c : Thread nD τ).loc cc0_scratch2), (c : Thread nD τ).loc cc0_scratch2 ↦[(rectQ p).set]{fullShare} f) := by
  rw [← setLq]; rfl
theorem slotLo (c : Dev nD) (p : Fin 4) : slotAny (F := F) true true c p
    = iprop(∃ f : Buf (Elt F) ((c : Thread nD τ).loc cc0_scratch3), (c : Thread nD τ).loc cc0_scratch3 ↦[(rectO p).set]{fullShare} f) := by
  rw [← setLo]; rfl

theorem disjQ (p p' : Fin 4) (h : p ≠ p') : Disjoint (rectQ p).set (rectQ p').set :=
  lead_disjoint (s := S4x512x256) 0 1 (fun p : Fin 4 => ![p.val, 0, 0]) S1x512x256.size inbQ (fun b => (Nat.one_mul _).symm) rfl p p' h
theorem disjO (p p' : Fin 4) (h : p ≠ p') : Disjoint (rectO p).set (rectO p').set :=
  lead_disjoint (s := S4x256x512) 0 1 (fun p : Fin 4 => ![p.val, 0, 0]) S1x256x512.size inbO (fun b => (Nat.one_mul _).symm) rfl p p' h
theorem coverQ : Finset.univ.biUnion (fun p : Fin 4 => (rectQ p).set) = Finset.univ :=
  lead_cover (s := S4x512x256) 0 1 (fun p : Fin 4 => ![p.val, 0, 0]) S1x512x256.size inbQ (fun b => (Nat.one_mul _).symm)
    (by decide) rfl (by decide) rfl
theorem coverO : Finset.univ.biUnion (fun p : Fin 4 => (rectO p).set) = Finset.univ :=
  lead_cover (s := S4x256x512) 0 1 (fun p : Fin 4 => ![p.val, 0, 0]) S1x256x512.size inbO (fun b => (Nat.one_mul _).symm)
    (by decide) rfl (by decide) rfl

/-- The buffer of the ring of kind `k` in direction `d`. -/
def buf (d : Dir) (k : Kd) : Ref sig .tc := match d, k with
  | false, false => cc0_scratch0
  | false, true => cc0_scratch1
  | true, false => cc0_scratch2
  | true, true => cc0_scratch3

/-- A ring buffer whole, at contents not named. -/
def bufAny (d : Dir) (k : Kd) (c : Dev nD) : sProp 𝕄 :=
  iprop(∃ f : Buf (Elt F) ((c : Thread nD τ).loc (buf d k)), (c : Thread nD τ).loc (buf d k) ↦{fullShare} f)

theorem slots_of (d : Dir) (k : Kd) (c : Dev nD) : bufAny (F := F) d k c ⊢ slots d k c := by
  rw [slots_eq]
  cases d <;> cases k
  · exact (ring_split c cc0_scratch0 _ disjQ coverQ).trans (Entails.of_eq (bigSep_congr fun p _ => (slotRq c p).symm))
  · exact (ring_split c cc0_scratch1 _ disjO coverO).trans (Entails.of_eq (bigSep_congr fun p _ => (slotRo c p).symm))
  · exact (ring_split c cc0_scratch2 _ disjQ coverQ).trans (Entails.of_eq (bigSep_congr fun p _ => (slotLq c p).symm))
  · exact (ring_split c cc0_scratch3 _ disjO coverO).trans (Entails.of_eq (bigSep_congr fun p _ => (slotLo c p).symm))

theorem slots_back (d : Dir) (k : Kd) (c : Dev nD) : slots (F := F) d k c ⊢ bufAny d k c := by
  rw [slots_eq]
  cases d <;> cases k
  · exact (Entails.of_eq (bigSep_congr fun p _ => slotRq c p)).trans (ring_join c cc0_scratch0 _ disjQ coverQ)
  · exact (Entails.of_eq (bigSep_congr fun p _ => slotRo c p)).trans (ring_join c cc0_scratch1 _ disjO coverO)
  · exact (Entails.of_eq (bigSep_congr fun p _ => slotLq c p)).trans (ring_join c cc0_scratch2 _ disjQ coverQ)
  · exact (Entails.of_eq (bigSep_congr fun p _ => slotLo c p)).trans (ring_join c cc0_scratch3 _ disjO coverO)

/-! ## The counters, opened and closed -/

/-- The index of a device's transfer cells: direction, kind, landing or leaving, the slot the transfer leaves from. -/
abbrev Q : Type := Dir × Kd × Bool × Fin 4
def osem (x : Q) : SemLoc sig := .dma (sm x.1 x.2.1 x.2.2.1 (if x.2.2.1 then x.2.2.2 + 1 else x.2.2.2))

theorem univ_bool (Φ : Bool → sProp 𝕄) : bigSep Finset.univ Φ = iprop(Φ false ∗ Φ true) :=
  bigSep_univ_eq_bigSepL [false, true] (by decide) (by decide) Φ

/-- Over a device's transfer cells: the two directions, the two kinds, leaving and landing, the slots. -/
theorem over_Q (Φ : Q → sProp 𝕄) : bigSep Finset.univ Φ
    = iprop((((bigSep Finset.univ fun p => Φ (false, false, false, p)) ∗ bigSep Finset.univ fun p => Φ (false, false, true, p))
        ∗ ((bigSep Finset.univ fun p => Φ (false, true, false, p)) ∗ bigSep Finset.univ fun p => Φ (false, true, true, p)))
      ∗ (((bigSep Finset.univ fun p => Φ (true, false, false, p)) ∗ bigSep Finset.univ fun p => Φ (true, false, true, p))
        ∗ ((bigSep Finset.univ fun p => Φ (true, true, false, p)) ∗ bigSep Finset.univ fun p => Φ (true, true, true, p)))) := by
  rw [bigSep_univ_prod, univ_bool, bigSep_univ_prod, bigSep_univ_prod, univ_bool, univ_bool, bigSep_univ_prod, bigSep_univ_prod,
    bigSep_univ_prod, bigSep_univ_prod, univ_bool, univ_bool, univ_bool, univ_bool]

/-- Where a device stands on all its transfer cells at the start: on each of the eight arrays, before the first. -/
def stands (c : Dev nD) : sProp 𝕄 :=
  iprop(((stand (sCell false false c) 0 ∗ stand (rCell false false c) 0) ∗ (stand (sCell false true c) 0 ∗ stand (rCell false true c) 0))
    ∗ ((stand (sCell true false c) 0 ∗ stand (rCell true false c) 0) ∗ (stand (sCell true true c) 0 ∗ stand (rCell true true c) 0)))

theorem cellAt_mem (c : Dev nD) (x : Q) : (((c : Thread nD τ), osem x) : GSem nD τ sig) ∈ cells :=
  Finset.mem_union_right _ (Finset.mem_map_of_mem ⟨cellAt, cellAt_inj⟩ (Finset.mem_univ (c, x.1, x.2.1, x.2.2.1, if x.2.2.1 then x.2.2.2 + 1 else x.2.2.2)))

/-- The transfer cells opened. -/
theorem open_cells (c : Dev nD) :
    iprop(ctx B K ∗ (bigSep Finset.univ fun x : Q => (openTok ER ((c : Thread nD τ), osem x) : sProp 𝕄))
        ∗ bigSep Finset.univ fun x : Q => (semVal ((c : Thread nD τ), osem x) 0 : sProp 𝕄))
      ⊢ (|={Set.univ}=> stands c : sProp 𝕄) := by
  have h (x : Q) : iprop(ctx B K ∗ openTok ER ((c : Thread nD τ), osem x) ∗ semVal ((c : Thread nD τ), osem x) 0)
      ⊢ (|={Set.univ}=> iprop(atPos ER ((c : Thread nD τ), osem x) 0 ∅ 0 ∗ reached ER ((c : Thread nD τ), osem x) 0) : sProp 𝕄) := by
    iintro ⟨#Hctx, Ho, Hv⟩
    iapply (Rounds.cell_open ER (Rd B) (g := ((c : Thread nD τ), osem x)) (Set.mem_univ (K ((c : Thread nD τ), osem x))))
    isplitr; · iapply (ctx_inv B (cellAt_mem c x)); iexact Hctx
    isplitl [Ho]; · iexact Ho
    iexact Hv
  have hs : (bigSep Finset.univ fun x : Q => iprop(atPos ER ((c : Thread nD τ), osem x) 0 ∅ 0 ∗ reached ER ((c : Thread nD τ), osem x) 0))
      ⊢ (stands c : sProp 𝕄) := by
    have e (p : Fin 4) : cnt p 0 = 0 := by revert p; decide
    refine Entails.of_eq ?_
    rw [over_Q]
    unfold stands stand
    simp only [e]
    rfl
  iintro ⟨#Hctx, Ho, Hv⟩
  ihave H := (bigSep_with_persistent (R := ctx B K) (Φ := fun x : Q => iprop(openTok ER ((c : Thread nD τ), osem x) ∗ semVal ((c : Thread nD τ), osem x) 0))
    (Ψ := fun x => iprop(|={Set.univ}=> (atPos ER ((c : Thread nD τ), osem x) 0 ∅ 0 ∗ reached ER ((c : Thread nD τ), osem x) 0)))
    fun x _ => h x) $$ [Ho Hv]
  · isplitr; · iexact Hctx
    rw [bigSep_sep']
    isplitl [Ho]; · iexact Ho
    iexact Hv
  imod (bigSep_fupd Finset.univ fun x : Q => (iprop(atPos ER ((c : Thread nD τ), osem x) 0 ∅ 0 ∗ reached ER ((c : Thread nD τ), osem x) 0) : sProp 𝕄)) $$ H with H
  imodintro
  iapply hs; iexact H

theorem tr_cnt (p : Fin 4) (n r : ℕ) (h : cnt p n ≤ r) : n ≤ tr p r := by
  unfold cnt at h; unfold tr; omega

/-- The cells of an array, closed after the last transfer. -/
theorem close_s (d : Dir) (k : Kd) (c : Dev nD) :
    iprop(ctx B K ∗ stand (sCell d k c) (last d + 1)) ⊢ (|={Set.univ}=> bigSep Finset.univ fun p => (semVal (sCell d k c p) 0 : sProp 𝕄) : sProp 𝕄) := by
  have h (p : Fin 4) : iprop(ctx B K ∗ (atPos ER (sCell d k c p) (cnt p (last d + 1)) ∅ 0 ∗ reached ER (sCell d k c p) (cnt p (last d + 1))))
      ⊢ (|={Set.univ}=> semVal (sCell d k c p) 0 : sProp 𝕄) := by
    iintro ⟨#Hctx, Ha, -⟩
    iapply (Rounds.cell_close ER (Rd B) (Set.mem_univ (K (sCell d k c p))) id fun r hr => duties_s_later B d k c p r (tr_cnt p _ r hr))
    isplitr; · iapply (ctx_inv B (sCell_mem d k c p)); iexact Hctx
    iexact Ha
  unfold stand
  exact (bigSep_with_persistent (R := ctx B K) fun p _ => h p).trans (bigSep_fupd _ _)
theorem close_r (d : Dir) (k : Kd) (c : Dev nD) :
    iprop(ctx B K ∗ stand (rCell d k c) (last d + 1)) ⊢ (|={Set.univ}=> bigSep Finset.univ fun p => (semVal (rCell d k c p) 0 : sProp 𝕄) : sProp 𝕄) := by
  have h (p : Fin 4) : iprop(ctx B K ∗ (atPos ER (rCell d k c p) (cnt p (last d + 1)) ∅ 0 ∗ reached ER (rCell d k c p) (cnt p (last d + 1))))
      ⊢ (|={Set.univ}=> semVal (rCell d k c p) 0 : sProp 𝕄) := by
    iintro ⟨#Hctx, Ha, -⟩
    iapply (Rounds.cell_close ER (Rd B) (Set.mem_univ (K (rCell d k c p))) id fun r hr => duties_r_later B d k c p r (tr_cnt p _ r hr))
    isplitr; · iapply (ctx_inv B (rCell_mem d k c p)); iexact Hctx
    iexact Ha
  unfold stand
  exact (bigSep_with_persistent (R := ctx B K) fun p _ => h p).trans (bigSep_fupd _ _)

theorem close_led (d : Dir) (k : Kd) (c : Dev nD) :
    iprop(ctx B K ∗ led d k c (last d + 1) (last d + 1) (last d + 1))
      ⊢ (|={Set.univ}=> iprop((bigSep Finset.univ fun p => (semVal (sCell d k c p) 0 : sProp 𝕄)) ∗ bigSep Finset.univ fun p => (semVal (rCell d k c p) 0 : sProp 𝕄)) : sProp 𝕄) := by
  unfold led
  iintro ⟨#Hctx, -, -, -, Hs, Hr⟩
  imod (close_s B K d k c) $$ [Hs] with Hs
  · isplitr; · iexact Hctx
    iexact Hs
  imod (close_r B K d k c) $$ [Hr] with Hr
  · isplitr; · iexact Hctx
    iexact Hr
  imodintro
  isplitl [Hs]; · iexact Hs
  iexact Hr

theorem vals_Q (c : Dev nD) :
    iprop((((bigSep Finset.univ fun p => (semVal (sCell false false c p) 0 : sProp 𝕄)) ∗ bigSep Finset.univ fun p => (semVal (rCell false false c p) 0 : sProp 𝕄))
        ∗ ((bigSep Finset.univ fun p => (semVal (sCell false true c p) 0 : sProp 𝕄)) ∗ bigSep Finset.univ fun p => (semVal (rCell false true c p) 0 : sProp 𝕄)))
      ∗ (((bigSep Finset.univ fun p => (semVal (sCell true false c p) 0 : sProp 𝕄)) ∗ bigSep Finset.univ fun p => (semVal (rCell true false c p) 0 : sProp 𝕄))
        ∗ ((bigSep Finset.univ fun p => (semVal (sCell true true c p) 0 : sProp 𝕄)) ∗ bigSep Finset.univ fun p => (semVal (rCell true true c p) 0 : sProp 𝕄))))
      ⊢ (bigSep Finset.univ fun x : Q => (semVal ((c : Thread nD τ), osem x) 0 : sProp 𝕄) : sProp 𝕄) := by
  exact Entails.of_eq (by rw [over_Q]; rfl)

/-- All transfer cells closed. -/
theorem close_cells (c : Dev nD) :
    iprop(ctx B K ∗ led2 false c 16 16 16 ∗ led2 true c 15 15 15)
      ⊢ (|={Set.univ}=> bigSep Finset.univ fun x : Q => (semVal ((c : Thread nD τ), osem x) 0 : sProp 𝕄) : sProp 𝕄) := by
  unfold led2
  iintro ⟨#Hctx, ⟨H1, H2⟩, H3, H4⟩
  imod (close_led B K false false c) $$ [H1] with H1
  · isplitr; · iexact Hctx
    iexact H1
  imod (close_led B K false true c) $$ [H2] with H2
  · isplitr; · iexact Hctx
    iexact H2
  imod (close_led B K true false c) $$ [H3] with H3
  · isplitr; · iexact Hctx
    iexact H3
  imod (close_led B K true true c) $$ [H4] with H4
  · isplitr; · iexact Hctx
    iexact H4
  imodintro
  iapply (vals_Q c)
  isplitl [H1 H2]
  · isplitl [H1]; · iexact H1
    iexact H2
  isplitl [H3]; · iexact H3
  iexact H4

/-! ## The meeting -/

/-- What a device has at the barrier: its own cell and credit, its neighbours' tokens. -/
def bar (c : Dev nD) : sProp 𝕄 :=
  iprop(atPos ER (bCell c) 0 ∅ 0 ∗ cred (tallyAt (bCell c) 0 2) ∗ (dutyTok ER (bCell (nxt true c)) 0 false ∗ dutyTok ER (bCell (nxt false c)) 0 true)
    ∗ reached ER (bCell (nxt true c)) 0 ∗ reached ER (bCell (nxt false c)) 0)

theorem led_reached (d : Dir) (k : Kd) (c : Dev nD) (t : ℕ) (h : t < 4) :
    led d k c 0 0 0 ⊢ (iprop(reached ER (rCell d k c (slotOf t)) (t / 4) ∗ led d k c 0 0 0) : sProp 𝕄) := by
  unfold led
  iintro ⟨H1, H2, H3, H4, H5⟩
  ihave H5 := (stand_reached (rCell d k c) t 0 (Nat.zero_le _) (by omega)) $$ H5
  icases H5 with ⟨#Hr, H5⟩
  isplitr; · iexact Hr
  isplitl [H1]; · iexact H1
  isplitl [H2]; · iexact H2
  isplitl [H3]; · iexact H3
  isplitl [H4]; · iexact H4
  iexact H5

/-- A device's three slots for the first three transfers, and the fourth kept. -/
theorem offer_kd (d : Dir) (k : Kd) (c : Dev nD) :
    iprop(slots d k c ∗ led d k c 0 0 0) ⊢ (iprop(meetKd d k c ∗ slotAny d k c 0 ∗ led d k c 0 0 0) : sProp 𝕄) := by
  unfold slots meetKd free
  iintro ⟨⟨S0, S1, S2, S3⟩, HL⟩
  ihave HL := (led_reached d k c 0 (by decide)) $$ HL
  icases HL with ⟨R0, HL⟩
  ihave HL := (led_reached d k c 1 (by decide)) $$ HL
  icases HL with ⟨R1, HL⟩
  ihave HL := (led_reached d k c 2 (by decide)) $$ HL
  icases HL with ⟨R2, HL⟩
  isplitl [S1 S2 S3 R0 R1 R2]
  · isplitl [S1 R0]
    · isplitl [S1]; · iexact S1
      iexact R0
    isplitl [S2 R1]
    · isplitl [S2]; · iexact S2
      iexact R1
    isplitl [S3]; · iexact S3
    iexact R2
  isplitl [S0]; · iexact S0
  iexact HL

theorem offer (d : Dir) (c c' : Dev nD) (h : nxt d c' = c) :
    iprop((slots d false c ∗ slots d true c) ∗ led2 d c 0 0 0) ⊢ (iprop(meetPay d c' ∗ first2 d c ∗ led2 d c 0 0 0) : sProp 𝕄) := by
  unfold led2 meetPay first2
  rw [h]
  iintro ⟨⟨S1, S2⟩, L1, L2⟩
  ihave H1 := (offer_kd d false c) $$ [S1 L1]
  · isplitl [S1]; · iexact S1
    iexact L1
  icases H1 with ⟨M1, S1, L1⟩
  ihave H2 := (offer_kd d true c) $$ [S2 L2]
  · isplitl [S2]; · iexact S2
    iexact L2
  icases H2 with ⟨M2, S2, L2⟩
  isplitl [M1 M2]
  · isplitl [M1]; · iexact M1
    iexact M2
  isplitl [S1 S2]
  · isplitl [S1]; · iexact S1
    iexact S2
  isplitl [L1]; · iexact L1
  iexact L2

theorem ow_start (c : Dev nD) : owing c 0 0 0 0 = ow c 0 0 := by
  unfold owing ow due2; ac_rfl

theorem wp_meet (c : Dev nD) {α : Type} (kk : PUnit → BProg F α) (Φ : α → sProp 𝕄) :
    iprop(ctx B K ∗ bar c ∗ owesAny c (O₀ c) ∗ meetPay false (nxt true c) ∗ meetPay true (nxt false c))
      ⊢ iprop(((atPos ER (bCell c) 1 ∅ 0 ∗ owesAny c (ow c 0 0) ∗ meetPay false c ∗ meetPay true c)
          -∗ wp frame (wpE (defs₀ (F := F)) 𝒱₀ c none) Set.univ (kk ⟨⟩) Φ)
        -∗ wp frame (wpE (defs₀ (F := F)) 𝒱₀ c none) Set.univ ((meet c).bind kk) Φ) := by
  unfold meet
  rw [dev1_eq, dev2_eq]
  simp only [semSignalWord, semWaitWord, Prog.lift, bind_eq, op_bind, ret_bind, bind_bind]
  have hb : lv ((c : Thread nD τ), .reg barS) 0 < 0 + 2 := by rw [lv_b]; decide
  unfold bar owesAny
  iintro ⟨#Hctx, ⟨HatB, HcB, ⟨T1, T2⟩, #R1, #R2⟩, ⟨%W, HO⟩, M1, M2⟩ Hk
  iapply (Rounds.wp_signal 𝒱₀ ER (Rd B) (c : Thread nD τ) none (dst := (nxt true c : Thread nD τ)) (sem := barS) (r := 0) (d := false)
      (κ := K (bCell (nxt true c)))
      (by rw [duties_b]; exact Finset.mem_univ _) (amount_b B (nxt true c) false) 0 (owing c 0 0 0 0 + tallyAt (bCell (nxt false c)) 0 1) rfl)
    $$ [HO T1 M1]
  · isplitr; · iapply (ctx_inv B (bCell_mem _)); iexact Hctx
    isplitl [HO]; · iexact HO
    isplitl [T1]; · iexact T1
    isplitl [M1]; · rw [payload_b]; iexact M1
    iexact R1
  iintro HO
  iapply (Rounds.wp_signal 𝒱₀ ER (Rd B) (c : Thread nD τ) none (dst := (nxt false c : Thread nD τ)) (sem := barS) (r := 0) (d := true)
      (κ := K (bCell (nxt false c)))
      (by rw [duties_b]; exact Finset.mem_univ _) (amount_b B (nxt false c) true) 0 (owing c 0 0 0 0) rfl)
    $$ [HO T2 M2]
  · isplitr; · iapply (ctx_inv B (bCell_mem _)); iexact Hctx
    isplitl [HO]; · iexact HO
    isplitl [T2]; · iexact T2
    isplitl [M2]; · rw [payload_b]; iexact M2
    iexact R2
  iintro HO
  iapply (Rounds.wp_wait_rest_token 𝒱₀ ER (Rd B) (c : Thread nD τ) none (κ := K (bCell c))
      (wpE_semWait_eq 𝒱₀ (c : Thread nD τ) none Set.univ) (Set.mem_univ _) 0 (O := owing c 0 0 0 0) (W := W) (R := 0) (m := 0) (T := ∅)
      ((Nat.zero_add 2).trans (expect_b B c).symm)) $$ [HcB HO HatB]
  · isplitr; · iapply (ctx_inv B (bCell_mem _)); iexact Hctx
    isplitl [HcB]; · iexact HcB
    isplitl [HO]; · iexact HO
    isplitr
    · iapply (ctx_mayWait B c (.reg barS) 0 (by decide) _ (Above.owing c 0 0 0 0 hb hb hb hb)); iexact Hctx
    iexact HatB
  iintro ⟨HO, HatB, -, Hpay⟩
  ihave Hp := (Entails.of_eq (rest_b B c)) $$ Hpay
  icases Hp with ⟨P1, P2⟩
  iapply Hk
  isplitl [HatB]; · iexact HatB
  isplitl [HO]; · rw [← ow_start]; iexists _; iexact HO
  isplitl [P1]; · iexact P1
  iexact P2

/-! ## The body -/

section Body
variable (x : Memref sig .tc .vmem S2x128x512 .f32) (wq : Memref sig .tc .vmem S512x256 .f32)
    (k v : Memref sig .tc .vmem S256x128x64 .f32) (wo : Memref sig .tc .vmem S256x512 .f32)
    (out : Memref sig .tc .vmem S2x128x512 .f32) (c : Dev nD) (I : Ins F)

/-- The rings of a device, as slots. -/
def rings : sProp 𝕄 := iprop((slots false false c ∗ slots false true c) ∗ (slots true false c ∗ slots true true c))

theorem wp_body (o : S2x128x512.Idx → F .f32) (Φ : PUnit → sProp 𝕄) :
    iprop(ctx B K ∗ bar c ∗ led2 false c 0 0 0 ∗ led2 true c 0 0 0 ∗ owesAny c (O₀ c) ∗ rings c ∗ wins B x wq k v wo out c I ∗ at' out c fullShare o)
      ⊢ iprop((((bigSep Finset.univ fun q : Q => (semVal ((c : Thread nD τ), osem q) 0 : sProp 𝕄)) ∗ semVal (bCell c) 0
            ∗ owesAny c (0 : CellTallies nD τ sig ℕ) ∗ rings c ∗ wins B x wq k v wo out c I ∗ at' out c fullShare (rows (result B I c))) -∗ Φ ⟨⟩)
        -∗ wp frame (wpE (defs₀ (F := F)) 𝒱₀ c none) Set.univ (ringBody (atRings x wq k v wo out)) Φ) := by
  have e : ringBody (F := F) (atRings x wq k v wo out) = Prog.bind (Prog.lift .deviceId) fun d => (meet d).bind fun _ => (own (atRings x wq k v wo out) d).bind fun _ =>
      (rounds (atRings x wq k v wo out) d 15 0).bind fun _ => (finish (atRings x wq k v wo out) d).bind fun _ => Prog.ret ⟨⟩ := by
    have h (p : BProg F PUnit) : (p.bind fun _ => Prog.ret ⟨⟩) = p := Prog.bind_pure p
    unfold ringBody
    simp only [bind_eq, h]
  rw [e]
  simp only [Prog.lift, op_bind, ret_bind, wp_deviceId]
  unfold rings
  iintro ⟨#Hctx, Hbar, LR, LL, HO, ⟨S1, S2⟩, Hw, Hout⟩ Hk
  ihave H := (offer false c (nxt true c) (nxt_prv false c)) $$ [S1 LR]
  · isplitl [S1]; · iexact S1
    iexact LR
  icases H with ⟨M1, F1, LR⟩
  ihave H := (offer true c (nxt false c) (nxt_prv true c)) $$ [S2 LL]
  · isplitl [S2]; · iexact S2
    iexact LL
  icases H with ⟨M2, F2, LL⟩
  iapply (wp_meet B K c) $$ [Hbar HO M1 M2]
  · isplitr; · iexact Hctx
    isplitl [Hbar]; · iexact Hbar
    isplitl [HO]; · iexact HO
    isplitl [M1]; · iexact M1
    iexact M2
  iintro ⟨Hat, HO, M1, M2⟩
  iapply (wp_own B K x wq k v wo out c I o) $$ [LR LL HO F1 F2 M1 M2 Hw Hout]
  · isplitr; · iexact Hctx
    isplitl [LR]; · iexact LR
    isplitl [LL]; · iexact LL
    isplitl [HO]; · iexact HO
    isplitl [F1]; · iexact F1
    isplitl [F2]; · iexact F2
    isplitl [M1]; · iexact M1
    isplitl [M2]; · iexact M2
    isplitl [Hw]; · iexact Hw
    iexact Hout
  iintro ⟨LR, LL, HO, C1, C2, C3, C4, Hw, Hout⟩
  iapply (wp_rounds B K x wq k v wo out c I 2 13 0 (by decide)) $$ [LR LL HO C1 C2 C3 C4 Hw Hout]
  · isplitr; · iexact Hctx
    unfold St
    isplitl [LR]; · iexact LR
    isplitl [LL]; · iexact LL
    isplitl [HO]; · iexact HO
    isplitl [C1 C3]
    · isplitl [C1]; · iexact C1
      iexact C3
    isplitl [C2 C4]
    · isplitl [C2]; · iexact C2
      iexact C4
    isplitl [Hw]; · iexact Hw
    iexact Hout
  iintro HS
  rw [rounds_succ x wq k v wo out c 1 (0 + 13) (by decide)]
  iapply (wp_round B K x wq k v wo out c I ⟨13, _⟩ (by decide)) $$ [HS]
  · isplitr; · iexact Hctx
    iexact HS
  iintro ⟨HS, X1, X2⟩
  rw [rounds_succ x wq k v wo out c 0 (0 + 13 + 1) (by decide)]
  iapply (wp_round_last B K x wq k v wo out c I) $$ [HS X1 X2]
  · isplitr; · iexact Hctx
    isplitl [HS]; · iexact HS
    isplitl [X1]; · iexact X1
    iexact X2
  iintro HP
  iapply (wp_finish B K x wq k v wo out c I) $$ [HP]
  · isplitr; · iexact Hctx
    iexact HP
  unfold Post
  iintro ⟨LR, LL, HO, ⟨S1, S2⟩, ⟨S3, S4⟩, Hw, Hout⟩
  rw [wp_ret]
  imod (close_cells B K c) $$ [LR LL] with Hs
  · isplitr; · iexact Hctx
    isplitl [LR]; · iexact LR
    iexact LL
  imod (Rounds.cell_close ER (Rd B) (Set.mem_univ (K (bCell c))) id fun r hr => duties_b_later B c r hr) $$ [Hat] with Hb
  · isplitr; · iapply (ctx_inv B (bCell_mem _)); iexact Hctx
    iexact Hat
  imodintro
  iapply Hk
  isplitl [Hs]; · iexact Hs
  isplitl [Hb]; · iexact Hb
  isplitl [HO]; · iexact HO
  isplitl [S1 S2 S3 S4]
  · isplitl [S1 S3]
    · isplitl [S1]; · iexact S1
      iexact S3
    isplitl [S2]; · iexact S2
    iexact S4
  isplitl [Hw]; · iexact Hw
  iexact Hout

end Body

end Cert.KernelIdeal.Ring

end
-- ==== Proof.Region.lean ====
/- The pipelined region: what its windows hold before and after the body, and the body met with the whole body's run. -/
module

public import proofs.«01_k».proof.Proof.Whole
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

-- The arrays of every device as the region finds them.
variable (W : Dev nD → Valuation τ sig (Elt F))

/-- The blocks that travel: each device's block of `Wq` and of `Wo`. -/
def blks : Blocks F := fun k e => match k with
  | false => W e (Proc.devRef .tc main_arg1)
  | true => W e (Proc.devRef .tc main_arg4)

/-- What a device's contributions read. -/
def insOf (c : Dev nD) : Ins F where
  x := W c (Proc.devRef .tc main_arg0)
  k := W c (Proc.devRef .tc main_v16)
  v := W c (Proc.devRef .tc main_v18)

/-- What the region leaves in the result array. -/
def res (c : Dev nD) : S2x128x512.Idx → F .f32 := rows (result (blks W) (insOf W c) c)

/-! ## The ghost state of one device -/

/-- The tokens of the transfers of one direction and kind. -/
def ledT (d : Dir) (k : Kd) (c : Dev nD) : sProp 𝕄 :=
  bigSep (Finset.Ico 0 (last d + 1)) fun t => iprop(dutyTok ER (sCell d k c (slotOf t)) (t / 4) false
      ∗ dutyTok ER (rCell d k (nxt d c) (slotOf t)) (t / 4) false)
/-- The credits of the landings of one direction and kind. -/
def ledC (d : Dir) (k : Kd) (c : Dev nD) : sProp 𝕄 :=
  bigSep (Finset.Ico 0 (last d + 1)) fun t => (cred (tallyAt (rCell d k c (slotOf t)) t NN) : sProp 𝕄)
/-- The four of each. -/
def four (Ψ : Dir → Kd → sProp 𝕄) : sProp 𝕄 :=
  iprop((Ψ false false ∗ Ψ false true) ∗ (Ψ true false ∗ Ψ true true))

theorem led_of (d : Dir) (k : Kd) (c : Dev nD) :
    iprop(ledT d k c ∗ ledC d k c ∗ stand (sCell d k c) 0 ∗ stand (rCell d k c) 0) ⊢ (led d k c 0 0 0 : sProp 𝕄) := by
  unfold led ledT ledC
  rw [Finset.Ico_self, BI.bigSep_empty]
  iintro ⟨H1, H2, H3, H4⟩
  isplitl [H1]; · iexact H1
  isplitr; · iempintro
  isplitl [H2]; · iexact H2
  isplitl [H3]; · iexact H3
  iexact H4

theorem leds_of (c : Dev nD) :
    iprop(four (fun d k => ledT d k c) ∗ four (fun d k => ledC d k c) ∗ stands c)
      ⊢ (iprop(led2 false c 0 0 0 ∗ led2 true c 0 0 0) : sProp 𝕄) := by
  unfold four stands led2
  iintro ⟨⟨⟨T1, T2⟩, T3, T4⟩, ⟨⟨C1, C2⟩, C3, C4⟩, ⟨⟨A1, A2⟩, A3, A4⟩, ⟨B1, B2⟩, B3, B4⟩
  isplitl [T1 T2 C1 C2 A1 A2 A3 A4]
  · isplitl [T1 C1 A1 A2]
    · iapply (led_of false false c)
      isplitl [T1]; · iexact T1
      isplitl [C1]; · iexact C1
      isplitl [A1]; · iexact A1
      iexact A2
    iapply (led_of false true c)
    isplitl [T2]; · iexact T2
    isplitl [C2]; · iexact C2
    isplitl [A3]; · iexact A3
    iexact A4
  isplitl [T3 C3 B1 B2]
  · iapply (led_of true false c)
    isplitl [T3]; · iexact T3
    isplitl [C3]; · iexact C3
    isplitl [B1]; · iexact B1
    iexact B2
  iapply (led_of true true c)
  isplitl [T4]; · iexact T4
  isplitl [C4]; · iexact C4
  isplitl [B3]; · iexact B3
  iexact B4

/-- What the launch leaves a device: every cell's invariant, its place at the barrier, the rights to open its cells, its
    tokens and its credits. -/
def Tk (c : Dev nD) : sProp 𝕄 :=
  iprop(∃ K : GSem nD τ sig → ℕ, (bigSep cells fun g => cellInv ER (Rd (blks W)) (K g) g) ∗ bar c
    ∗ (bigSep Finset.univ fun x : Q => openTok ER ((c : Thread nD τ), osem x))
    ∗ four (fun d k => ledT d k c) ∗ four (fun d k => ledC d k c))
/-- The same, its cells opened. -/
def Xk (c : Dev nD) : sProp 𝕄 :=
  iprop(∃ K : GSem nD τ sig → ℕ, ctx (blks W) K ∗ bar c ∗ led2 false c 0 0 0 ∗ led2 true c 0 0 0)
def Yk (c : Dev nD) : sProp 𝕄 := semVal (bCell c) 0

theorem region_open (c : Dev nD) : iprop(Tk W c ∗ Pipeline.ownSems0 osem c ∗ levAts L lv) ⊢ (|={Set.univ}=> Xk W c : sProp 𝕄) := by
  unfold Tk Xk ctx levs Pipeline.ownSems0
  iintro ⟨⟨%K, #Hinv, Hbar, Ho, HT, HC⟩, Hs, #Hlev⟩
  imod (open_cells (blks W) K c) $$ [Ho Hs] with Hst
  · isplitr
    · unfold ctx levs
      isplitr; · iexact Hinv
      iexact Hlev
    isplitl [Ho]; · iexact Ho
    iexact Hs
  ihave HL := (leds_of c) $$ [HT HC Hst]
  · isplitl [HT]; · iexact HT
    isplitl [HC]; · iexact HC
    iexact Hst
  icases HL with ⟨L1, L2⟩
  imodintro
  iexists K
  isplitr
  · isplitr; · iexact Hinv
    iexact Hlev
  isplitl [Hbar]; · iexact Hbar
  isplitl [L1]; · iexact L1
  iexact L2

/-! ## The proof data -/

/-- What the windows hold after the body: the inputs what was fetched, the output the result. -/
def aft (c : Dev nD) : (w : Fin cfg0.W) → Fin cfg0.N → (cfg0.win w).block.Idx → Elt F (cfg0.win w).elt
  | 0, _ => W c (Proc.devRef .tc main_arg0)
  | 1, _ => W c (Proc.devRef .tc main_arg1)
  | 2, _ => W c (Proc.devRef .tc main_v16)
  | 3, _ => W c (Proc.devRef .tc main_v18)
  | 4, _ => W c (Proc.devRef .tc main_arg4)
  | 5, _ => res W c
  | ⟨_ + 6, h⟩, _ => absurd h (Nat.not_lt.2 (Nat.le_add_left _ _))

/-- What the body starts from and what it leaves, beside the windows. -/
def start0 (c : Dev nD) : sProp 𝕄 := iprop(Xk W c ∗ Pipeline.scopedRest spec0 c ∗ ∃ r, prngReg c r)
def end0 (c : Dev nD) : sProp 𝕄 := iprop(Yk c ∗ Pipeline.ownSems0 osem c ∗ Pipeline.scopedRest spec0 c ∗ ∃ r, prngReg c r)

def dat0 (c : Dev nD) : Dat τ (Elt F) ℕ ℕ UU ℕ cfg0 c where
  A w := W c (Proc.devRef .tc (Pipeline.arrRef spec0 w))
  after := aft W c
  Φ t := if t.val = 0 then start0 W c else end0 c
  q _ := fullShare
  owed t := if t.val = 0 then O₀ c else 0

def pdats : (p : Fin 1) → (c : Dev nD) → Dat τ (Elt F) ℕ ℕ UU ℕ (cfgs p) c
  | 0 => dat0 W
  | ⟨_ + 1, h⟩ => absurd h (Nat.not_lt.2 (Nat.le_add_left _ _))

theorem owed_first (c : Dev nD) : (dat0 W c).owed t0_0.castSucc = O₀ c := by
  show (if t0_0.castSucc.val = 0 then O₀ c else 0) = O₀ c
  exact if_pos rfl
theorem owed_last (c : Dev nD) : (dat0 W c).owed t0_0.succ = 0 := by
  show (if t0_0.succ.val = 0 then O₀ c else 0) = 0
  exact if_neg (by decide)

theorem owesAt_intro (c : Dev nD) (t : Fin (cfg0.N + 1)) (O : CellTallies nD τ sig ℕ) (h0 : (dat0 W c).owed t = O) :
    owesAny c O ⊢ ((dat0 W c).owesAt 0 t : sProp 𝕄) := by
  unfold owesAny Dat.owesAt Pipeline.owesWithin Dat.bound
  rw [h0, show (dat0 W c).recorded t = Set.univ from rfl]
  iintro ⟨%V, HO⟩
  iexists V
  isplitr; · ipureintro; exact fun _ _ => Or.inl trivial
  iexact HO
theorem owesAt_elim (c : Dev nD) (t : Fin (cfg0.N + 1)) (O : CellTallies nD τ sig ℕ) (h0 : (dat0 W c).owed t = O) :
    ((dat0 W c).owesAt 0 t : sProp 𝕄) ⊢ owesAny c O := by
  unfold owesAny Dat.owesAt Pipeline.owesWithin
  rw [h0]
  iintro ⟨%V, -, HO⟩
  iexists V
  iexact HO

/-! ## A window's staging buffer, held at its values -/

theorem at_of_owns {s : Shape} (m : Memref sig .tc .vmem s .f32) (c : Dev nD) (v : Vec F s .f32) :
    (owns (c : Thread nD τ) m fullShare v : sProp 𝕄) ⊢ at' m c fullShare v := by
  unfold owns
  iintro ⟨%f, %h, H⟩
  iapply (Entails.of_eq (at'_of m c fullShare f v h)) $$ H
theorem owns_of_at {s : Shape} (m : Memref sig .tc .vmem s .f32) (c : Dev nD) (v : Vec F s .f32) :
    at' m c fullShare v ⊢ (owns (c : Thread nD τ) m fullShare v : sProp 𝕄) := by
  unfold owns at'
  iintro H
  iexists _
  isplitr
  · ipureintro; exact View.read_rep (Val := Elt F) m.view v
  iexact H

/-- A fetch of a block that is its whole array brings the array. -/
theorem fetched_all {cfg : Pipeline.Cfg sig Λ₀} {c : Dev nD} (dat : Dat τ (Elt F) ℕ ℕ UU ℕ cfg c) (w : Fin cfg.W) (t : Fin cfg.N)
    (h0 : ∀ a, (cfg.win w).index t a = 0) (hs : ∀ a, (cfg.win w).size a = (cfg.win w).xsize (cfg.grid.coords t) a)
    (hx : ∀ a, (cfg.win w).size a ≤ (cfg.win w).shape.size a)
    (d) (j : (cfg.win w).block.Idx) :
    dat.fetched w t d j = (cfg.win w).arr.view.read (Elt F) (dat.A w) (fun a => ⟨(j a).val, Nat.lt_of_lt_of_le (j a).isLt (hx a)⟩) := by
  unfold Dat.fetched Pipeline.Window.fill
  rw [dif_pos (((cfg.win w).moved_iff _ j).mpr fun a => by rw [← hs a]; exact (j a).isLt)]
  show (cfg.win w).arr.view.read (Elt F) (dat.A w) (((cfg.win w).rect t).emb _) = _
  congr 1
  funext a
  exact Fin.ext (Pipeline.Window.rect_emb_val_of_index_zero (cfg.win w) t a (h0 a) _)

/-- An input window is found holding its array. -/
theorem found (c : Dev nD) (w : Fin cfg0.W) (hw : (cfg0.win w).isOut = false) (d) : (dat0 W c).before w t0_0 d = aft W c w t0_0 := by
  have hf : ∀ w : Fin cfg0.W, (cfg0.win w).isOut = false → (cfg0.win w).fetch t0_0 = true := by decide +kernel
  have h0 : ∀ (w : Fin cfg0.W) (a), (cfg0.win w).index t0_0 a = 0 := by decide +kernel
  have hs : ∀ (w : Fin cfg0.W) (a), (cfg0.win w).size a = (cfg0.win w).xsize (cfg0.grid.coords t0_0) a := by decide +kernel
  have hx : ∀ (w : Fin cfg0.W) (a), (cfg0.win w).size a ≤ (cfg0.win w).shape.size a := by decide +kernel
  rw [Dat.before_fetched _ _ _ (hf w hw)]
  funext j
  rw [fetched_all (dat0 W c) w t0_0 (h0 w) (hs w) (hx w)]
  fin_cases w
  iterate 5 rfl
  exact absurd hw (by decide)

/-- A window's buffer before the body, and after it. -/
def inB (c : Dev nD) (w : Fin cfg0.W) : sProp 𝕄 :=
  iprop(∃ d, owns (c : Thread nD τ) ((cfg0.win w).stage (cfg0.slots t0_0 w)) fullShare ((dat0 W c).before w t0_0 d))
def outB (c : Dev nD) (w : Fin cfg0.W) : sProp 𝕄 :=
  owns (c : Thread nD τ) ((cfg0.win w).stage (cfg0.slots t0_0 w)) fullShare ((dat0 W c).after w t0_0)

theorem inB_found (c : Dev nD) (w : Fin cfg0.W) (hw : (cfg0.win w).isOut = false) : inB W c w ⊢ outB W c w := by
  unfold inB outB
  iintro ⟨%d, H⟩
  rw [found W c w hw d]
  iexact H

abbrev m0 : Memref sig .tc .vmem S2x128x512 .f32 := st0_0 t0_0
abbrev m1 : Memref sig .tc .vmem S512x256 .f32 := st0_1 t0_0
abbrev m2 : Memref sig .tc .vmem S256x128x64 .f32 := st0_2 t0_0
abbrev m3 : Memref sig .tc .vmem S256x128x64 .f32 := st0_3 t0_0
abbrev m4 : Memref sig .tc .vmem S256x512 .f32 := st0_4 t0_0
abbrev m5 : Memref sig .tc .vmem S2x128x512 .f32 := st0_5 t0_0

theorem out0 (c : Dev nD) : outB W c 0 ⊢ (at' m0 c fullShare (insOf W c).x : sProp 𝕄) := at_of_owns m0 c _
theorem out1 (c : Dev nD) : outB W c 1 ⊢ (at' m1 c fullShare (bq (blks W) c) : sProp 𝕄) := at_of_owns m1 c _
theorem out2 (c : Dev nD) : outB W c 2 ⊢ (at' m2 c fullShare (insOf W c).k : sProp 𝕄) := at_of_owns m2 c _
theorem out3 (c : Dev nD) : outB W c 3 ⊢ (at' m3 c fullShare (insOf W c).v : sProp 𝕄) := at_of_owns m3 c _
theorem out4 (c : Dev nD) : outB W c 4 ⊢ (at' m4 c fullShare (bo (blks W) c) : sProp 𝕄) := at_of_owns m4 c _
theorem in5 (c : Dev nD) : inB W c 5 ⊢ (iprop(∃ o, at' m5 c fullShare o) : sProp 𝕄) := by
  unfold inB
  iintro ⟨%d, H⟩
  iexists _
  iapply (at_of_owns m5 c _) $$ H
theorem to0 (c : Dev nD) : (at' m0 c fullShare (insOf W c).x : sProp 𝕄) ⊢ outB W c 0 := owns_of_at m0 c _
theorem to1 (c : Dev nD) : (at' m1 c fullShare (bq (blks W) c) : sProp 𝕄) ⊢ outB W c 1 := owns_of_at m1 c _
theorem to2 (c : Dev nD) : (at' m2 c fullShare (insOf W c).k : sProp 𝕄) ⊢ outB W c 2 := owns_of_at m2 c _
theorem to3 (c : Dev nD) : (at' m3 c fullShare (insOf W c).v : sProp 𝕄) ⊢ outB W c 3 := owns_of_at m3 c _
theorem to4 (c : Dev nD) : (at' m4 c fullShare (bo (blks W) c) : sProp 𝕄) ⊢ outB W c 4 := owns_of_at m4 c _
theorem to5 (c : Dev nD) : (at' m5 c fullShare (rows (result (blks W) (insOf W c) c)) : sProp 𝕄) ⊢ outB W c 5 := owns_of_at m5 c _

/-- The windows' buffers before the body. -/
theorem windows_in (c : Dev nD) :
    iprop(inB W c 0 ∗ inB W c 1 ∗ inB W c 2 ∗ inB W c 3 ∗ inB W c 4 ∗ inB W c 5)
      ⊢ (iprop(wins (blks W) m0 m1 m2 m3 m4 m5 c (insOf W c) ∗ ∃ o, at' m5 c fullShare o) : sProp 𝕄) := by
  unfold wins ins
  iintro ⟨H0, H1, H2, H3, H4, H5⟩
  isplitr [H5]
  · isplitl [H0 H2 H3]
    · isplitl [H0]; · iapply ((inB_found W c 0 rfl).trans (out0 W c)) $$ H0
      isplitl [H2]; · iapply ((inB_found W c 2 rfl).trans (out2 W c)) $$ H2
      iapply ((inB_found W c 3 rfl).trans (out3 W c)) $$ H3
    isplitl [H1]; · iapply ((inB_found W c 1 rfl).trans (out1 W c)) $$ H1
    iapply ((inB_found W c 4 rfl).trans (out4 W c)) $$ H4
  iapply (in5 W c) $$ H5

/-- The windows' buffers after the body. -/
theorem windows_out (c : Dev nD) :
    (iprop(wins (blks W) m0 m1 m2 m3 m4 m5 c (insOf W c) ∗ at' m5 c fullShare (rows (result (blks W) (insOf W c) c))) : sProp 𝕄)
      ⊢ iprop(outB W c 0 ∗ outB W c 1 ∗ outB W c 2 ∗ outB W c 3 ∗ outB W c 4 ∗ outB W c 5) := by
  unfold wins ins
  iintro ⟨⟨⟨H0, H2, H3⟩, H1, H4⟩, H5⟩
  isplitl [H0]; · iapply (to0 W c) $$ H0
  isplitl [H1]; · iapply (to1 W c) $$ H1
  isplitl [H2]; · iapply (to2 W c) $$ H2
  isplitl [H3]; · iapply (to3 W c) $$ H3
  isplitl [H4]; · iapply (to4 W c) $$ H4
  iapply (to5 W c) $$ H5

/-- The buffers no window stages are the rings' four. -/
theorem rest_bufs (c : Dev nD) : (Pipeline.scopedRest spec0 c : sProp 𝕄)
    = iprop(bufAny false false c ∗ bufAny false true c ∗ bufAny true false c ∗ bufAny true true c) := scopedRest0_eq c

/-- The buffers the body takes its rings from are the rings. -/
theorem rings_of (c : Dev nD) : (Pipeline.scopedRest spec0 c : sProp 𝕄) ⊢ rings c := by
  rw [rest_bufs]
  unfold rings
  iintro ⟨H0, H1, H2, H3⟩
  isplitl [H0 H1]
  · isplitl [H0]; · iapply (slots_of false false c) $$ H0
    iapply (slots_of false true c) $$ H1
  isplitl [H2]; · iapply (slots_of true false c) $$ H2
  iapply (slots_of true true c) $$ H3
theorem rings_back (c : Dev nD) : rings c ⊢ (Pipeline.scopedRest spec0 c : sProp 𝕄) := by
  rw [rest_bufs]
  unfold rings
  iintro ⟨⟨H0, H1⟩, H2, H3⟩
  isplitl [H0]; · iapply (slots_back false false c) $$ H0
  isplitl [H1]; · iapply (slots_back false true c) $$ H1
  isplitl [H2]; · iapply (slots_back true false c) $$ H2
  iapply (slots_back true true c) $$ H3

theorem region_core (c : Dev nD) :
    iprop(start0 W c ∗ (dat0 W c).owesAt 0 t0_0.castSucc
        ∗ inB W c 0 ∗ inB W c 1 ∗ inB W c 2 ∗ inB W c 3 ∗ inB W c 4 ∗ inB W c 5)
      ⊢ wp frame (wpE (defs₀ (F := F)) 𝒱₀ c none) Set.univ (ringBody (atRings m0 m1 m2 m3 m4 m5)) fun _ =>
        iprop(end0 c ∗ (dat0 W c).owesAt 0 t0_0.succ
          ∗ outB W c 0 ∗ outB W c 1 ∗ outB W c 2 ∗ outB W c 3 ∗ outB W c 4 ∗ outB W c 5) := by
  unfold start0 end0 Xk Yk
  iintro ⟨⟨⟨%K, Hctx, Hbar, L1, L2⟩, Hs, Hr⟩, HO, Hin⟩
  ihave HO := (owesAt_elim W c _ (O₀ c) (owed_first W c)) $$ HO
  ihave Hs := (rings_of c) $$ Hs
  ihave Hin := (windows_in W c) $$ Hin
  icases Hin with ⟨Hw, ⟨%o, Ho⟩⟩
  iapply (wp_body (blks W) K m0 m1 m2 m3 m4 m5 c (insOf W c) o) $$ [Hctx Hbar L1 L2 HO Hs Hw Ho]
  · isplitl [Hctx]; · iexact Hctx
    isplitl [Hbar]; · iexact Hbar
    isplitl [L1]; · iexact L1
    isplitl [L2]; · iexact L2
    isplitl [HO]; · iexact HO
    isplitl [Hs]; · iexact Hs
    isplitl [Hw]; · iexact Hw
    iexact Ho
  iintro ⟨Hq, Hb, HO, Hs, Hw, Ho⟩
  isplitl [Hq Hb Hs Hr]
  · isplitl [Hb]; · iexact Hb
    isplitl [Hq]; · unfold Pipeline.ownSems0; iexact Hq
    isplitl [Hs]; · iapply (rings_back c) $$ Hs
    iexact Hr
  isplitl [HO]; · iapply (owesAt_intro W c _ 0 (owed_last W c)) $$ HO
  iapply (windows_out W c)
  isplitl [Hw]; · iexact Hw
  iexact Ho

set_option maxRecDepth 65536 in
theorem body_at : defs₀ (F := F) .tc cfg0.body (cfg0.bodyArgs t0_0 (cfg0.slots t0_0)) = ringBody (atRings m0 m1 m2 m3 m4 m5) :=
  (show defs₀ (F := F) .tc cfg0.body (cfg0.bodyArgs t0_0 (cfg0.slots t0_0)) = bodyAt0 t0_0 from rfl).trans (by unfold bodyAt0; rw [body_eq])

theorem Phi_first (c : Dev nD) : (dat0 W c).Φ t0_0.castSucc = start0 W c := by
  show (if t0_0.castSucc.val = 0 then start0 W c else end0 c) = _
  exact if_pos rfl
theorem Phi_last (c : Dev nD) : (dat0 W c).Φ t0_0.succ = end0 c := by
  show (if t0_0.succ.val = 0 then start0 W c else end0 c) = _
  exact if_neg (by decide)

set_option maxRecDepth 65536 in
/-- The region's body is met. -/
theorem region_body (c : Dev nD) : BodyObligation (dat0 (F := F) W c) defs₀ 𝒱₀ 0 Set.univ := fun t => by
  obtain rfl := fin_N0 t
  show iprop((dat0 W c).Φ t0_0.castSucc ∗ (dat0 W c).owesAt 0 t0_0.castSucc ∗ bigSep Finset.univ (inB W c))
    ⊢ wp frame (wpE (defs₀ (F := F)) 𝒱₀ c none) Set.univ (defs₀ (F := F) .tc cfg0.body (cfg0.bodyArgs t0_0 (cfg0.slots t0_0))) fun _ =>
      iprop((dat0 W c).Φ t0_0.succ ∗ (dat0 W c).owesAt 0 t0_0.succ ∗ bigSep Finset.univ (outB W c))
  rw [bigSep_W0, bigSep_W0, body_at, Phi_first, Phi_last]
  exact region_core W c

end Cert.KernelIdeal.Ring

end
-- ==== Proof.Sum.lean ====
/- The kernel's result over the extended reals: a sum over all devices' blocks. -/
module

public import proofs.«01_k».proof.Proof.Attn
public import proofs.«01_k».proof.Proof.Region
public import Idealize.ShloMosaic.Lib.Pipeline.ValueKit.Basic

@[expose] public section

set_option maxRecDepth 16384

noncomputable section

namespace Cert.KernelIdeal.Ring

open Cert.KernelIdeal Cert.KernelIdeal.Gen Idealize.ShloMosaic Cert.Attn

variable (B : Blocks Ideal) (I : Ins Ideal)

theorem plus_apply (r : FVec Ideal S1x128x512 .f32) (w : FVec Ideal S128x512 .f32) (i : Fin 128) (o : Fin 512) :
    (plus r w (ix3 0 i o) : EReal) = r (ix3 0 i o) + w (ix2 i o) := by
  unfold plus
  pointwise

/-- The value a contribution has at an entry. -/
def term (b : Fin 2) (i : Fin 128) (o : Fin 512) (e : Dev nD) : EReal := conB B I b e (ix2 i o)

theorem start_apply (e : Dev nD) (b : Fin 2) (i : Fin 128) (o : Fin 512) : (start B I e b (ix3 0 i o) : EReal) = term B I b i o e := by
  unfold start term
  generalize conB B I b e = w
  pointwise

theorem addB_apply (e : Dev nD) (r : Fin 2 → FVec Ideal S1x128x512 .f32) (b : Fin 2) (i : Fin 128) (o : Fin 512) :
    (addB B I e r b (ix3 0 i o) : EReal) = r b (ix3 0 i o) + term B I b i o e := plus_apply _ _ i o

theorem outs_apply (e : Dev nD) (b : Fin 2) (i : Fin 128) (o : Fin 512) (n : ℕ) :
    (outs B I e n b (ix3 0 i o) : EReal) = ∑ t ∈ Finset.range (n + 1), term B I b i o (org false t e)
      + ∑ t ∈ Finset.range n, term B I b i o (org true (t + 1) e) := by
  induction n with
  | zero =>
    rw [show outs B I e 0 = start B I e from rfl, start_apply]
    simp [org]
  | succ n ih =>
    rw [show outs B I e (n + 1) = addB B I (org true (n + 1) e) (addB B I (org false (n + 1) e) (outs B I e n)) from rfl, addB_apply, addB_apply, ih,
      Finset.sum_range_succ _ (n + 1), Finset.sum_range_succ (fun t => term B I b i o (org true (t + 1) e)) n]
    abel

theorem left_inj (e : Dev nD) : Set.InjOn (fun t => org false t e) (Finset.range 17) := by
  have h : ∀ e : Dev nD, ∀ s ∈ Finset.range 17, ∀ t ∈ Finset.range 17, org false s e = org false t e → s = t := by decide +kernel
  intro s hs t ht hst
  exact h e s hs t ht hst

theorem right_inj (e : Dev nD) : Set.InjOn (fun t => org true (t + 1) e) (Finset.range 15) := by
  have h : ∀ e : Dev nD, ∀ s ∈ Finset.range 15, ∀ t ∈ Finset.range 15, org true (s + 1) e = org true (t + 1) e → s = t := by decide +kernel
  intro s hs t ht hst
  exact h e s hs t ht hst

theorem apart (e : Dev nD) :
    Disjoint ((Finset.range 17).image fun t => org false t e) ((Finset.range 15).image fun t => org true (t + 1) e) := by
  revert e; decide +kernel

theorem cover (e : Dev nD) :
    ((Finset.range 17).image fun t => org false t e) ∪ ((Finset.range 15).image fun t => org true (t + 1) e) = Finset.univ := by
  revert e; decide +kernel

/-- The ring's order of the devices: seventeen from the left, fifteen from the right. -/
theorem org_all (e : Dev nD) (f : Dev nD → EReal) :
    ∑ t ∈ Finset.range 17, f (org false t e) + ∑ t ∈ Finset.range 15, f (org true (t + 1) e) = ∑ c : Dev nD, f c := by
  have h1 : ∑ t ∈ Finset.range 17, f (org false t e) = ∑ c ∈ (Finset.range 17).image fun t => org false t e, f c :=
    (Finset.sum_image (left_inj e)).symm
  have h2 : ∑ t ∈ Finset.range 15, f (org true (t + 1) e) = ∑ c ∈ (Finset.range 15).image fun t => org true (t + 1) e, f c :=
    (Finset.sum_image (right_inj e)).symm
  rw [h1, h2, ← Finset.sum_union (apart e)]
  exact Finset.sum_congr (cover e) fun _ _ => rfl

/-- The result at an entry: the sum of all the devices' contributions. -/
theorem result_apply (e : Dev nD) (b : Fin 2) (i : Fin 128) (o : Fin 512) :
    (result B I e b (ix3 0 i o) : EReal) = ∑ c : Dev nD, term B I b i o c := by
  unfold result
  rw [addB_apply, outs_apply, ← org_all e, Finset.sum_range_succ _ 16]
  abel

/-- A contribution at an entry, in the kernel's arrays. -/
theorem term_apply (b : Fin 2) (i : Fin 128) (o : Fin 512) (e : Dev nD) :
    term B I b i o e = ∑ p : Fin 256, Cert.Attn.ctx
        (fun d => qry (fun n => I.x (ix3 b i n)) fun n => (B false e : S512x256.Idx → EReal) (ix2 n (⟨p.val / 64 * 64 + d.val, by omega⟩ : Fin 256)))
        (fun j d => I.k (ix3 (⟨128 * b.val + 4 * e.val + p.val / 64, by have := e.2; have : nD = 32 := rfl; omega⟩ : Fin 256) j d))
        (fun j => I.v (ix3 (⟨128 * b.val + 4 * e.val + p.val / 64, by have := e.2; have : nD = 32 := rfl; omega⟩ : Fin 256) j (⟨p.val % 64, by omega⟩ : Fin 64)))
      * (B true e : S256x512.Idx → EReal) (ix2 p o) := by
  unfold term conB con
  refine (attn_apply _ _ _ _ _ i o).trans (Finset.sum_congr rfl fun p _ => ?_)
  refine congrArg₂ (· * ·) ?_ rfl
  refine congr (congrArg₂ Cert.Attn.ctx (funext fun d => ?_) (funext fun j => funext fun d => ?_)) (funext fun j => ?_)
  · unfold qcol
    refine congrArg₂ qry (funext fun n => ?_) rfl
    refine congrArg I.x (funext fun a => Fin.ext ((ValueKit.rect_emb_unit_val _ _ _ _ _).trans ?_))
    match a with
    | ⟨0, _⟩ => exact Nat.add_zero _
    | ⟨1, _⟩ => exact Nat.zero_add _
    | ⟨2, _⟩ => exact Nat.zero_add _
  · refine congrArg I.k (funext fun a => Fin.ext ((ValueKit.rect_emb_unit_val _ _ _ _ _).trans ?_))
    match a with
    | ⟨0, _⟩ => rfl
    | ⟨1, _⟩ => exact Nat.zero_add _
    | ⟨2, _⟩ => exact Nat.zero_add _
  · refine congrArg I.v (funext fun a => Fin.ext ((ValueKit.rect_emb_unit_val _ _ _ _ _).trans ?_))
    match a with
    | ⟨0, _⟩ => rfl
    | ⟨1, _⟩ => exact Nat.zero_add _
    | ⟨2, _⟩ => exact Nat.zero_add _

end Cert.KernelIdeal.Ring

end
-- ==== Proof.Slices.lean ====
/- What the host lays out of `K` and `V` for each device. -/
module

public import proofs.«01_k».proof.Proof.Attn
public import proofs.«01_k».proof.Proof.Gen.KernelIdeal.Regions
public import Idealize.ShloMosaic.Lib.StableHlo.ReadAt
public import Idealize.ShloMosaic.Lib.DynamicIndex

@[expose] public section

set_option maxRecDepth 16384

noncomputable section

namespace Cert.KernelIdeal.Ring

open Cert.KernelIdeal Cert.KernelIdeal.Gen Idealize.ShloMosaic Cert.Attn

variable (m : (ℓ : Loc nD τ sig) → Buf (Elt Ideal) ℓ)

/-- The first batch row of a device, as a word. -/
def firstRow (c : Dev nD) : BitVec 32 :=
  let w : BitVec 32 := IntOp.muli (id (Host.remui (Host.divui (constantI S_ 32 c.word) (constantI S_ 32 1#32)) (constantI S_ 32 32#32) (Shape.Idx.first h_S_))) 2#32
  Scalar.select (IntOp.cmpi .slt w 0#32) (IntOp.addi w 64#32) w

theorem firstRow_val (c : Dev nD) : (firstRow c).toInt = ((2 * c.val : ℕ) : ℤ) := by
  revert c
  decide +kernel

set_option maxHeartbeats 4000000 in
theorem start_k0 (c : Dev nD) :
    BitVec.toInt ((StableHlo.upto (hostOps0 c) (V0 m c) 16 (Proc.devRef .tc main_v8) : S_.Idx → BitVec 32) (Shape.Idx.first h_S_))
      = ((2 * c.val : ℕ) : ℤ) := by
  refine Eq.trans (congrArg BitVec.toInt ?_) (firstRow_val c)
  after_reads_at
  rfl

theorem start_k1 (c : Dev nD) (i : S_.Idx) :
    BitVec.toInt ((StableHlo.upto (hostOps0 c) (V0 m c) 16 (Proc.devRef .tc main_c_4) : S_.Idx → BitVec 32) i) = ((0 : ℕ) : ℤ) := by
  after_reads_at
  rfl

theorem start_k2 (c : Dev nD) (i : S_.Idx) :
    BitVec.toInt ((StableHlo.upto (hostOps0 c) (V0 m c) 16 (Proc.devRef .tc main_c_5) : S_.Idx → BitVec 32) i) = ((0 : ℕ) : ℤ) := by
  after_reads_at
  rfl

theorem start_k3 (c : Dev nD) (i : S_.Idx) :
    BitVec.toInt ((StableHlo.upto (hostOps0 c) (V0 m c) 16 (Proc.devRef .tc main_c_6) : S_.Idx → BitVec 32) i) = ((0 : ℕ) : ℤ) := by
  after_reads_at
  rfl

set_option maxHeartbeats 4000000 in
/-- The device's copy of `K`, laid out head by head. -/
theorem laid_k (c : Dev nD) (r : Fin 256) (j : Fin 128) (d : Fin 64) :
    (V1 m c (Proc.devRef .tc main_v16) : S256x128x64.Idx → EReal) (ix3 r j d)
      = (m (c, Proc.devRef .tc main_arg2) : S64x128x128x64.Idx → EReal) (ix4 ⟨2 * c.val + r.val / 128, by have := c.2; have : nD = 32 := rfl; omega⟩ j ⟨r.val % 128, by omega⟩ d) := by
  unfold V1
  after_reads_at
  refine at4 _ (congrArg (· + r.val / 128) (Host.clampedStart_of_le _ _ 0 (2 * c.val) (start_k0 m c) ?_))
    ((congrArg (· + j.val) (Host.clampedStart_of_le _ _ 1 0 (start_k1 m c _) ?_)).trans (Nat.zero_add _))
    ((congrArg (· + r.val % 128) (Host.clampedStart_of_le _ _ 2 0 (start_k2 m c _) ?_)).trans (Nat.zero_add _))
    ((congrArg (· + d.val) (Host.clampedStart_of_le _ _ 3 0 (start_k3 m c _) ?_)).trans (Nat.zero_add _))
  · have := c.2; have : nD = 32 := rfl
    show 2 * c.val + 2 ≤ 64
    omega
  · decide
  · decide
  · decide

set_option maxHeartbeats 4000000 in
theorem start_v0 (c : Dev nD) :
    BitVec.toInt ((StableHlo.upto (hostOps0 c) (V0 m c) 27 (Proc.devRef .tc main_v13) : S_.Idx → BitVec 32) (Shape.Idx.first h_S_))
      = ((2 * c.val : ℕ) : ℤ) := by
  refine Eq.trans (congrArg BitVec.toInt ?_) (firstRow_val c)
  after_reads_at
  rfl

theorem start_v1 (c : Dev nD) (i : S_.Idx) :
    BitVec.toInt ((StableHlo.upto (hostOps0 c) (V0 m c) 27 (Proc.devRef .tc main_c_10) : S_.Idx → BitVec 32) i) = ((0 : ℕ) : ℤ) := by
  after_reads_at
  rfl

theorem start_v2 (c : Dev nD) (i : S_.Idx) :
    BitVec.toInt ((StableHlo.upto (hostOps0 c) (V0 m c) 27 (Proc.devRef .tc main_c_11) : S_.Idx → BitVec 32) i) = ((0 : ℕ) : ℤ) := by
  after_reads_at
  rfl

theorem start_v3 (c : Dev nD) (i : S_.Idx) :
    BitVec.toInt ((StableHlo.upto (hostOps0 c) (V0 m c) 27 (Proc.devRef .tc main_c_12) : S_.Idx → BitVec 32) i) = ((0 : ℕ) : ℤ) := by
  after_reads_at
  rfl

set_option maxHeartbeats 4000000 in
/-- The device's copy of `V`, laid out head by head. -/
theorem laid_v (c : Dev nD) (r : Fin 256) (j : Fin 128) (d : Fin 64) :
    (V1 m c (Proc.devRef .tc main_v18) : S256x128x64.Idx → EReal) (ix3 r j d)
      = (m (c, Proc.devRef .tc main_arg3) : S64x128x128x64.Idx → EReal) (ix4 ⟨2 * c.val + r.val / 128, by have := c.2; have : nD = 32 := rfl; omega⟩ j ⟨r.val % 128, by omega⟩ d) := by
  unfold V1
  after_reads_at
  refine at4 _ (congrArg (· + r.val / 128) (Host.clampedStart_of_le _ _ 0 (2 * c.val) (start_v0 m c) ?_))
    ((congrArg (· + j.val) (Host.clampedStart_of_le _ _ 1 0 (start_v1 m c _) ?_)).trans (Nat.zero_add _))
    ((congrArg (· + r.val % 128) (Host.clampedStart_of_le _ _ 2 0 (start_v2 m c _) ?_)).trans (Nat.zero_add _))
    ((congrArg (· + d.val) (Host.clampedStart_of_le _ _ 3 0 (start_v3 m c _) ?_)).trans (Nat.zero_add _))
  · have := c.2; have : nD = 32 := rfl
    show 2 * c.val + 2 ≤ 64
    omega
  · decide
  · decide
  · decide

end Cert.KernelIdeal.Ring

end
-- ==== Proof.Ref.lean ====
/- The reference's result over the extended reals, entry by entry. -/
module

public import proofs.«01_k».proof.Proof.Soft
public import proofs.«01_k».proof.Proof.Gen.ReferenceIdeal.Run
public import Idealize.ShloMosaic.Lib.Pointwise
public import Idealize.ShloMosaic.Lib.Routing.OpsOrder
public import Idealize.ShloMosaic.Lib.Tactic.CleanTypes

@[expose] public section

set_option maxRecDepth 16384

noncomputable section

namespace Cert.ReferenceIdeal.Plain

open Cert.ReferenceIdeal Cert.ReferenceIdeal.Gen Cert.ReferenceIdeal.Value Idealize.ShloMosaic Cert.Attn

variable {F : FTy → Type} [FloatOps F]

/-- The mask: keys at most 128 positions away, which is every key. -/
def mask : IVec S128x128 1 :=
  cmpi .sle (absi (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 128#32))

/-- The queries that see some key, which is every query. -/
def keep : IVec S128 1 := Host.reduce IntOp.ori mask (constantI S_ 1 0#1) reducesTo_S128x128_S128_d1 h_S_

def logits (x : FVec F S64x128x512 .f32) (wq : FVec F S512x8192 .f32) (k : FVec F S64x128x128x64 .f32) : FVec F S64x128x128x128 .f32 :=
  mulf (Host.dotGeneral dot_S64x128x128x64_S64x128x128x64_S64x128x128x128_3_3_1_1_02_02 none (shapeCast _ (Host.dotGeneral dot_S64x128x512_S512x8192_S64x128x8192_2_0_01_1_n_n none x wq) shapeCasts_S64x128x8192_S64x128x128x64) k) (broadcastInDim S64x128x128x128 ![] bcast_S_S64x128x128x128 (constant S_ .f32 0x3E000000#32))

def masked (s : FVec F S64x128x128x128 .f32) : FVec F S64x128x128x128 .f32 :=
  select (broadcastInDim S64x128x128x128 ![0, 1, 2, 3] bcast_S1x1x128x128_S64x128x128x128_0_1_2_3 (broadcastInDim S1x1x128x128 ![2, 3] bcast_S128x128_S1x1x128x128_2_3 mask)) s (broadcastInDim S64x128x128x128 ![] bcast_S_S64x128x128x128 (id (constant S_ .f32 0xCE6E6B28#32)))

/-- The exponentials of the scores less their row's greatest. -/
def exps (s : FVec F S64x128x128x128 .f32) : FVec F S64x128x128x128 .f32 :=
  Host.exp (subf s (broadcastInDim S64x128x128x128 ![0, 1, 2, 3] bcast_S64x128x128x1_S64x128x128x128_0_1_2_3 (broadcastInDim S64x128x128x1 ![0, 1, 2] bcast_S64x128x128_S64x128x128x1_0_1_2 (Host.reduce FloatOps.maximumf s (constant S_ .f32 0xFF800000#32) reducesTo_S64x128x128x128_S64x128x128_d3 h_S_))))

/-- The row's weights from its exponentials. -/
def ratios (e : FVec F S64x128x128x128 .f32) : FVec F S64x128x128x128 .f32 :=
  select (broadcastInDim S64x128x128x128 ![0, 1, 2, 3] bcast_S1x1x128x1_S64x128x128x128_0_1_2_3 (broadcastInDim S1x1x128x1 ![2] bcast_S128_S1x1x128x1_2 keep))
    (Host.divf e (broadcastInDim S64x128x128x128 ![0, 1, 2, 3] bcast_S64x128x128x1_S64x128x128x128_0_1_2_3
      (select (broadcastInDim S64x128x128x1 ![0, 1, 2, 3] bcast_S1x1x128x1_S64x128x128x1_0_1_2_3 (broadcastInDim S1x1x128x1 ![2] bcast_S128_S1x1x128x1_2 keep))
        (broadcastInDim S64x128x128x1 ![0, 1, 2] bcast_S64x128x128_S64x128x128x1_0_1_2 (Host.reduceAdd e (constant S_ .f32 0x00000000#32) reducesTo_S64x128x128x128_S64x128x128_d3 h_S_))
        (broadcastInDim S64x128x128x1 ![] bcast_S_S64x128x128x1 (id (constant S_ .f32 0x3F800000#32))))))
    (broadcastInDim S64x128x128x128 ![] bcast_S_S64x128x128x128 (id (constant S_ .f32 0x00000000#32)))

/-- The output from the values and the weights. -/
def output (v : FVec F S64x128x128x64 .f32) (w : FVec F S64x128x128x128 .f32) (wo : FVec F S8192x512 .f32) : FVec F S64x128x512 .f32 :=
  Host.dotGeneral dot_S64x128x8192_S8192x512_S64x128x512_2_0_01_1_n_n none (shapeCast _ (transpose S64x128x128x64 [0, 3, 1, 2] (Host.dotGeneral dot_S64x128x128x64_S64x128x128x128_S64x128x64x128_1_3_3_2_02_01 none v w) transposes_S64x128x64x128_S64x128x128x64_0_3_1_2) shapeCasts_S64x128x128x64_S64x128x8192) wo

theorem res_eq (m : (ℓ : Loc nD τ sig) → Buf (Elt F) ℓ) (c : Dev nD) :
    res_main_v34 m c = output (m ((c.tc : Thread nD τ).loc main_arg3))
      (ratios (exps (masked (logits (m ((c.tc : Thread nD τ).loc main_arg0)) (m ((c.tc : Thread nD τ).loc main_arg1)) (m ((c.tc : Thread nD τ).loc main_arg2))))))
      (m ((c.tc : Thread nD τ).loc main_arg4)) := by
  unfold res_main_v34 output ratios exps masked logits keep mask
  rfl

theorem mask_apply (i j : Fin 128) : mask (ix2 i j) = 1#1 := by
  unfold mask
  pointwise
  revert i j
  decide +kernel

theorem keep_apply (i : Fin 128) : keep (ix1 i) = 1#1 := by
  unfold keep
  have h := mask_apply
  generalize mask = mk at h
  pointwise
  rw [Routing.fold_ori]
  exact ⟨0, Finset.mem_univ _, h i 0⟩

theorem masked_apply (s : FVec F S64x128x128x128 .f32) (b : Fin 64) (h i j : Fin 128) : masked s (ix4 b h i j) = s (ix4 b h i j) := by
  unfold masked
  have hm := mask_apply
  generalize mask = mk at hm
  pointwise
  rw [hm]
  rfl

theorem logits_apply (x : S64x128x512.Idx → EReal) (wq : S512x8192.Idx → EReal) (k : S64x128x128x64.Idx → EReal) (b : Fin 64) (h i j : Fin 128) :
    logits (F := Ideal) x wq k (ix4 b h i j) =
      score (fun d => qry (fun n => x (ix3 b i n)) fun n => wq (ix2 n (⟨h.val * 64 + d.val, by omega⟩ : Fin 8192))) fun d => k (ix4 b j h d) := by
  unfold logits score qry scale
  pointwise

theorem ratios_exps (s : S64x128x128x128.Idx → EReal) (b : Fin 64) (h i j : Fin 128) :
    ratios (F := Ideal) (exps s) (ix4 b h i j) =
      wt (fun j' => s (ix4 b h i j') - (Finset.univ : Finset (Fin 128)).fold max ⊥ fun j'' => s (ix4 b h i j'')) j := by
  unfold ratios exps wt
  have hk := keep_apply
  generalize keep = kp at hk
  pointwise
  rw [hk, word_bot]
  rfl

theorem output_apply (v : S64x128x128x64.Idx → EReal) (w : S64x128x128x128.Idx → EReal) (wo : S8192x512.Idx → EReal) (b : Fin 64) (i : Fin 128) (o : Fin 512) :
    output (F := Ideal) v w wo (ix3 b i o) =
      ∑ n : Fin 8192, (∑ j : Fin 128, w (ix4 b ⟨n.val / 64, by omega⟩ i j) * v (ix4 b j ⟨n.val / 64, by omega⟩ ⟨n.val % 64, by omega⟩)) * wo (ix2 n o) := by
  unfold output
  pointwise
  refine Finset.sum_congr rfl fun n _ => congrArg (· * _) (Finset.sum_congr rfl fun j _ => mul_comm _ _)

/-- The reference's result at an entry, where the scores are finite. -/
theorem value (x : S64x128x512.Idx → EReal) (wq : S512x8192.Idx → EReal) (k v : S64x128x128x64.Idx → EReal) (wo : S8192x512.Idx → EReal)
    (hx : ∀ b i n, Fin' (x (ix3 b i n))) (hq : ∀ n p, Fin' (wq (ix2 n p))) (hk : ∀ b j h d, Fin' (k (ix4 b j h d)))
    (b : Fin 64) (i : Fin 128) (o : Fin 512) :
    output (F := Ideal) v (ratios (exps (masked (logits x wq k)))) wo (ix3 b i o) =
      ∑ n : Fin 8192, ctx (fun d => qry (fun m => x (ix3 b i m)) fun m => wq (ix2 m (⟨n.val / 64 * 64 + d.val, by omega⟩ : Fin 8192)))
        (fun j d => k (ix4 b j ⟨n.val / 64, by omega⟩ d)) (fun j => v (ix4 b j ⟨n.val / 64, by omega⟩ ⟨n.val % 64, by omega⟩)) * wo (ix2 n o) := by
  refine (output_apply _ _ _ b i o).trans (Finset.sum_congr rfl fun n _ => congrArg (· * wo (ix2 n o)) ?_)
  unfold ctx
  refine Finset.sum_congr rfl fun j _ => congrArg (· * v (ix4 b j ⟨n.val / 64, by omega⟩ ⟨n.val % 64, by omega⟩)) ?_
  have e : ∀ j' : Fin 128, masked (logits (F := Ideal) x wq k) (ix4 b ⟨n.val / 64, by omega⟩ i j')
      = score (fun d => qry (fun m => x (ix3 b i m)) fun m => wq (ix2 m (⟨n.val / 64 * 64 + d.val, by omega⟩ : Fin 8192)))
        fun d => k (ix4 b j' ⟨n.val / 64, by omega⟩ d) := fun j' => (masked_apply _ _ _ _ _).trans (logits_apply _ _ _ _ _ _ _)
  have hs : ∀ j' : Fin 128, Fin' (masked (logits (F := Ideal) x wq k) (ix4 b ⟨n.val / 64, by omega⟩ i j')) := fun j' => by
    rw [e]
    exact fin_score _ _ (fun d => Fin'.sum _ _ fun m => (hx _ _ _).mul (hq _ _)) fun d => hk _ _ _ _
  exact (ratios_exps _ _ _ _ _).trans ((wt_shift _ hs _ (fin_max _ hs) j).trans (congrFun (congrArg wt (funext e)) j))

end Cert.ReferenceIdeal.Plain

end
-- ==== Proof.Finite.lean ====
/- What the precondition says of a device's arrays: `x`, `Wq` and `K` are finite everywhere. -/
module

public import proofs.«01_k».proof.Proof.Soft
public import proofs.«01_k».proof.Proof.Gen.Pre_finite_scores_KernelIdeal
public import Idealize.ShloMosaic.Lib.Pointwise
public import Idealize.ShloMosaic.Lib.ReduceAll

@[expose] public section

set_option maxRecDepth 16384

noncomputable section

namespace Cert.Attn

open Idealize.ShloMosaic Cert.Pre_finite_scores_KernelIdeal Cert.Pre_finite_scores_KernelIdeal.Gen

theorem andi_one (a b : BitVec 1) : IntOp.andi a b = 1#1 ↔ a = 1#1 ∧ b = 1#1 := by revert a b; decide

/-- One comparison of the precondition, read back. -/
theorem fin_of_cmp {s : Shape} (x y : s.Idx → EReal) (i : s.Idx) (hy : y i = (⊤ : EReal))
    (h : (cmpf (F := Ideal) (φ := .f32) .olt (Host.absf (F := Ideal) (φ := .f32) x) y) i = 1#1) : Fin' (x i) := by
  refine fin_of_abs ?_
  have h' : Ideal.cmp .olt (max (x i) (-(x i))) (y i) = 1#1 := h
  rw [hy] at h'
  by_contra hn
  have : Ideal.cmp .olt (max (x i) (-(x i))) ⊤ = 0#1 := by
    unfold Ideal.cmp
    simp [hn]
  rw [this] at h'
  exact absurd h' (by decide)

theorem finite_scores (x : FVec Ideal S2x128x512 .f32) (wq : FVec Ideal S512x256 .f32) (k v : FVec Ideal S64x128x128x64 .f32)
    (wo : FVec Ideal S256x512 .f32) (h : fn (F := Ideal) x wq k v wo = fun _ => 1#1) :
    (∀ i, Fin' (x i)) ∧ (∀ i, Fin' (wq i)) ∧ ∀ i, Fin' (k i) := by
  have h0 := congrFun h ix0
  unfold fn at h0
  simp only [andi, andi_one] at h0
  obtain ⟨⟨hx, hq⟩, hk⟩ := h0
  refine ⟨fun i => ?_, fun i => ?_, fun i => ?_⟩
  · exact fin_of_cmp x _ i word_top (Host.reduce_andi_all _ _ _ _ _ hx i)
  · exact fin_of_cmp wq _ i word_top (Host.reduce_andi_all _ _ _ _ _ hq i)
  · exact fin_of_cmp k _ i word_top (Host.reduce_andi_all _ _ _ _ _ hk i)

end Cert.Attn

end
-- ==== Proof.Record.lean ====
/- The region as a segment of the program: entered with its arrays and the launch's ghost state, left with the result written. -/
module

public import proofs.«01_k».proof.Proof.Region

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)
open Cert.KernelIdeal Cert.KernelIdeal.Gen

variable {F : FTy → Type} [FloatOps F]

local notation "𝕄" => MT nD τ sig ℕ (Elt F) ℕ UU ℕ

variable (W : Dev nD → Valuation τ sig (Elt F))

/-- The arrays as the region leaves them: the result array rewritten. -/
def after0 (c : Dev nD) : Valuation τ sig (Elt F) := Function.update (W c) (Proc.devRef .tc main_v19) (res W c)

/-- The buffers that are no window's array. -/
def others : Finset (DevRef τ sig) := Pipeline.ucRefs τ sig \ Pipeline.arrRefs (τ := τ) spec0

theorem arrs_sub : Pipeline.arrRefs (τ := τ) spec0 ⊆ Pipeline.ucRefs τ sig := Pipeline.arrRefs_sub_ucRefs spec0 (by decide)

theorem after0_of (c : Dev nD) (r : Ref sig .tc) (h : r ≠ main_v19) : after0 W c (Proc.devRef .tc r) = W c (Proc.devRef .tc r) :=
  Function.update_of_ne (StableHlo.devRef_ne_of_ne h) _ _
theorem after0_res (c : Dev nD) : after0 W c (Proc.devRef .tc main_v19) = res W c := Function.update_self _ _ _

theorem after0_others (c : Dev nD) (b : DevRef τ sig) (hb : b ∈ others) : after0 W c b = W c b := by
  refine Function.update_of_ne (fun h => ?_) _ _
  subst h
  exact (Finset.mem_sdiff.mp hb).2 (Finset.mem_map.mpr ⟨main_v19, Finset.mem_image.mpr ⟨5, Finset.mem_univ _, rfl⟩, rfl⟩)

theorem arr_in (c : Dev nD) (w : Fin cfg0.W) (hw : (cfg0.win w).isOut = false) (t : ℕ) :
    (dat0 W c).arrAt w t = W c (Proc.devRef .tc (Pipeline.arrRef spec0 w)) := (dat0 W c).arrAt_in w hw t

theorem arr_first (c : Dev nD) (w : Fin cfg0.W) : (dat0 W c).arrAt w 0 = W c (Proc.devRef .tc (Pipeline.arrRef spec0 w)) := rfl

theorem arr_out (c : Dev nD) : (dat0 W c).arrAt 5 cfg0.N = res W c :=
  (dat0 W c).arrAt_eq_of_after_last 5 t0_0 (by decide +kernel) (res W c) fun j => rfl

theorem arr_last (c : Dev nD) (w : Fin cfg0.W) : (dat0 W c).arrAt w cfg0.N = after0 W c (Proc.devRef .tc (Pipeline.arrRef spec0 w)) := by
  have hw : w = 5 ∨ ((cfg0.win w).isOut = false ∧ Pipeline.arrRef spec0 w ≠ main_v19) := by revert w; decide +kernel
  rcases hw with rfl | ⟨h, h'⟩
  · exact (arr_out W c).trans (after0_res W c).symm
  · exact (arr_in W c w h _).trans (after0_of W c _ h').symm

theorem kit0 : Pipeline.PLaunchFacts (nD := nD) (τ := τ) (pcfgs (F := F)) 0 := launch0.toP

theorem held_none (c : Dev nD) (V : Valuation τ sig (Elt F)) : (StableHlo.held (c.tc : Thread nD τ) ∅ V : sProp 𝕄) = BI.emp := by
  unfold StableHlo.held
  exact BI.bigSep_empty

theorem region_in (c : Dev nD) : iprop(Pipeline.scopedRest spec0 c ∗ (∃ r, prngReg c r) ∗ StableHlo.held (c.tc : Thread nD τ) ∅ (W c) ∗ Xk W c)
    ⊢ (dat0 W c).Φ t0_0.castSucc := by
  rw [Phi_first]
  unfold start0
  iintro ⟨Hs, Hr, -, HX⟩
  isplitl [HX]; · iexact HX
  isplitl [Hs]; · iexact Hs
  iexact Hr

theorem region_out (c : Dev nD) : (dat0 W c).Φ t0_0.succ
    ⊢ iprop(Pipeline.scopedRest spec0 c ∗ (∃ r, prngReg c r) ∗ StableHlo.held (c.tc : Thread nD τ) ∅ (after0 W c) ∗ Pipeline.ownSems0 osem c ∗ Yk c) := by
  rw [Phi_last, held_none]
  unfold end0
  iintro ⟨HY, Ho, Hs, Hr⟩
  isplitl [Hs]; · iexact Hs
  isplitl [Hr]; · iexact Hr
  isplitr; · iempintro
  isplitl [Ho]; · iexact Ho
  iexact HY

theorem owed_above (c : Dev nD) (t : Fin (cfg0.N + 1)) : Above 0 ((dat0 W c).owed t) := by
  show Above 0 (if t.val = 0 then O₀ c else 0)
  split
  · exact Above.start c
  · exact Above.zero 0

theorem staging_level : ∀ (w : Fin cfg0.W) (s : Fin (cfg0.win w).nbuf), ∀ c : Dev nD, lv ((c : Thread nD τ), .dma ((cfg0.win w).sem s)) 0 ≤ 0 := by
  have h : ∀ (w : Fin cfg0.W) (s : Fin (cfg0.win w).nbuf), dec ((cfg0.win w).sem s) = none := by decide +kernel
  intro w s c
  unfold lv
  simp only [h w s]
  exact Nat.le_refl 0

theorem share_full (c : Dev nD) (w : Fin cfg0.W) : (dat0 W c).share w = fullShare := by
  unfold Pipeline.Dat.share
  split <;> rfl

set_option backward.isDefEq.respectTransparency.types false in
/-- The region's record. -/
def reg0 : RegionSeg (pcfgs (F := F)) adm (pdats W) 0 defs₀ 𝒱₀ L lv 0 :=
  Pipeline.RegionSeg.ofTalk (pcfgs (F := F)) adm (pdats W) 0 defs₀ 𝒱₀ L lv 0 osem (by decide +kernel : Pipeline.OwnSemFacts spec0 osem)
    ∅ others (Finset.empty_subset _) kit0 rfl (fun c => (region_body W c).loose)
    (fun _ => 0) O₀ (fun c => (owed_first W c).trans (zero_add _).symm) (fun c => owed_last W c) (fun _ => rfl) (share_full W)
    W (after0 W) (fun c b hb => after0_others W c b (Finset.mem_sdiff.mp hb).1)
    (Tk W) Yk (Xk W) Yk (region_open W) (region_in W) (region_out W)
    (fun c => by iintro H; imodintro; iexact H)
    (fun _ => 0)
    ⟨fun c w s => by rw [L_tc]; decide, fun c w s => staging_level w s c, fun c t g i h => owed_above W c t g i h⟩
    (fun _ => iprop(emp)) (fun c w => arr_first W c w) (fun c w => arr_last W c w)

theorem reg0_pre (c : Dev nD) : iprop(StableHlo.held (c : Thread nD τ) (Pipeline.ucRefs τ sig) (W c)
      ∗ Tk W c ∗ (∃ r, prngReg c r) ∗ ∃ Wd, owes (c : Thread nD τ) (O₀ c) Wd) ⊢ (reg0 W).pre c := by
  show _ ⊢ iprop(StableHlo.held (c.tc : Thread nD τ) (Pipeline.arrRefs (τ := τ) spec0) (W c) ∗ (∃ r, prngReg c r)
    ∗ (StableHlo.held (c.tc : Thread nD τ) others (W c) ∗ emp) ∗ Tk W c ∗ ∃ Wd, owes (c : Thread nD τ) (0 + O₀ c) Wd)
  rw [zero_add, StableHlo.held_sub_split (c.tc : Thread nD τ) arrs_sub (W c)]
  iintro ⟨⟨Ha, Ho⟩, HT, Hr, HO⟩
  isplitl [Ha]; · iexact Ha
  isplitl [Hr]; · iexact Hr
  isplitl [Ho]
  · isplitl [Ho]; · iexact Ho
    iempintro
  isplitl [HT]; · iexact HT
  iexact HO

theorem reg0_post (c : Dev nD) : (reg0 W).post c ⊢ iprop(StableHlo.held (c : Thread nD τ) (Pipeline.ucRefs τ sig) (after0 W c)
      ∗ Yk c ∗ ∃ Wd, owes (c : Thread nD τ) (0 : CellTallies nD τ sig ℕ) Wd) := by
  show iprop(StableHlo.held (c.tc : Thread nD τ) (Pipeline.arrRefs (τ := τ) spec0) (after0 W c) ∗ (∃ r, prngReg c r)
    ∗ (StableHlo.held (c.tc : Thread nD τ) others (after0 W c) ∗ emp) ∗ Yk c ∗ ∃ Wd, owes (c : Thread nD τ) (0 : CellTallies nD τ sig ℕ) Wd) ⊢ _
  rw [StableHlo.held_sub_split (c.tc : Thread nD τ) arrs_sub (after0 W c)]
  iintro ⟨Ha, -, ⟨Ho, -⟩, HY, HO⟩
  isplitl [Ha Ho]
  · isplitl [Ha]; · iexact Ha
    iexact Ho
  isplitl [HY]; · iexact HY
  iexact HO

end Cert.KernelIdeal.Ring

end
-- ==== Proof.Deal.lean ====
/- The launch's deal: every cell's invariant made, every token and credit handed to the device that spends it. -/
module

public import proofs.«01_k».proof.Proof.Region
public import Idealize.ShloMosaic.Harness.Basic

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)
open Cert.KernelIdeal Cert.KernelIdeal.Gen

variable {F : FTy → Type} [FloatOps F]

local notation "𝕄" => MT nD τ sig ℕ (Elt F) ℕ UU ℕ

/-! ## Credits -/

theorem credit_b (d : Dir) (c : Dev nD) :
    (Pipeline.launchCred (fun e => tallyAt (bCell (nxt d e)) 0 1) c : sProp 𝕄) ⊢ cred (tallyAt (bCell c) 0 1) :=
  Pipeline.launchCred_tallyAt (.reg barS) (nxt d) (prv d) (nxt_prv d) (prv_nxt d) 0 1 c

theorem credit_due (d : Dir) (k : Kd) (c : Dev nD) :
    (Pipeline.launchCred (fun e => due d k e 0) c : sProp 𝕄) ⊢ ledC d k c := by
  unfold ledC
  rw [show (fun e => due d k e 0) = fun e => ∑ t ∈ Finset.Ico 0 (last d + 1), (fun t e => tallyAt (rCell d k (nxt d e) (slotOf t)) t NN) t e from rfl,
    Pipeline.launchCred_sum]
  exact bigSep_mono fun t _ => Pipeline.launchCred_tallyAt (rSem d k (slotOf t)) (nxt d) (prv d) (nxt_prv d) (prv_nxt d) t NN c

theorem credits (c : Dev nD) : (Pipeline.launchCred O₀ c : sProp 𝕄)
    ⊢ iprop(cred (tallyAt (bCell c) 0 2) ∗ four (fun d k => ledC d k c)) := by
  have h1 := Pipeline.launchCred_add (Val := Elt F) (Name := ℕ) (U := UU) (Lvl := ℕ) (fun e => owing e 0 0 0 0 + tallyAt (bCell (nxt false e)) 0 1) (fun e => tallyAt (bCell (nxt true e)) 0 1) c
  have h2 := Pipeline.launchCred_add (Val := Elt F) (Name := ℕ) (U := UU) (Lvl := ℕ) (fun e => owing e 0 0 0 0) (fun e => tallyAt (bCell (nxt false e)) 0 1) c
  have h3 := Pipeline.launchCred_add (Val := Elt F) (Name := ℕ) (U := UU) (Lvl := ℕ) (fun e => due false false e 0 + due false true e 0 + due true false e 0) (fun e => due true true e 0) c
  have h4 := Pipeline.launchCred_add (Val := Elt F) (Name := ℕ) (U := UU) (Lvl := ℕ) (fun e => due false false e 0 + due false true e 0) (fun e => due true false e 0) c
  have h5 := Pipeline.launchCred_add (Val := Elt F) (Name := ℕ) (U := UU) (Lvl := ℕ) (fun e => due false false e 0) (fun e => due false true e 0) c
  have hO : (Pipeline.launchCred O₀ c : sProp 𝕄) = iprop(((((Pipeline.launchCred (fun e => due false false e 0) c ∗ Pipeline.launchCred (fun e => due false true e 0) c)
      ∗ Pipeline.launchCred (fun e => due true false e 0) c) ∗ Pipeline.launchCred (fun e => due true true e 0) c)
      ∗ Pipeline.launchCred (fun e => tallyAt (bCell (nxt false e)) 0 1) c) ∗ Pipeline.launchCred (fun e => tallyAt (bCell (nxt true e)) 0 1) c) := by
    rw [← h5, ← h4, ← h3]
    exact h1.trans (congrArg (fun X => iprop(X ∗ _)) h2)
  rw [hO, show (2 : ℕ) = 1 + 1 from rfl, ← tallyAt_add]
  unfold four
  iintro ⟨⟨⟨⟨⟨H1, H2⟩, H3⟩, H4⟩, B1⟩, B2⟩
  isplitl [B1 B2]
  · iapply (cred_add _ _).2
    isplitl [B1]; · iapply (credit_b false c) $$ B1
    iapply (credit_b true c) $$ B2
  isplitl [H1 H2]
  · isplitl [H1]; · iapply (credit_due false false c) $$ H1
    iapply (credit_due false true c) $$ H2
  isplitl [H3]; · iapply (credit_due true false c) $$ H3
  iapply (credit_due true true c) $$ H4

/-! ## Tokens -/

abbrev Tok : Type := GSem nD τ sig × ℕ × Bool

/-- A barrier token: a unit from each side. -/
def barTok : Dev nD × Bool ↪ Tok := ⟨fun x => (bCell x.1, 0, x.2), fun x y h =>
  Prod.ext (congrArg (fun t : Tok => t.1.1.1) h) (congrArg (fun t : Tok => t.2.2) h)⟩

/-- A transfer's token, leaving or landing. -/
def rideTok (x : Dev nD × Dir × Kd × Bool × Fin 16) : Tok :=
  (cellAt (x.1, x.2.1, x.2.2.1, x.2.2.2.1, if x.2.2.2.1 then slotOf x.2.2.2.2.val + 1 else slotOf x.2.2.2.2.val), x.2.2.2.2.val / 4, false)

theorem rideTok_inj : Function.Injective rideTok := by
  rintro ⟨c, d, k, b, t⟩ ⟨c', d', k', b', t'⟩ h
  have h1 := cellAt_inj (congrArg (fun t : Tok => t.1) h)
  have h2 : t.val / 4 = t'.val / 4 := congrArg (fun t : Tok => t.2.1) h
  simp only [Prod.mk.injEq] at h1
  obtain ⟨rfl, rfl, rfl, rfl, h3⟩ := h1
  have h4 : slotOf t.val = slotOf t'.val := by
    cases b
    · exact h3
    · exact add_right_cancel h3
  have h5 : t.val % 4 = t'.val % 4 := congrArg Fin.val h4
  have : t = t' := Fin.ext (by omega)
  rw [this]

def barToks : Finset Tok := Finset.univ.map barTok
def rideToks : Finset Tok := Finset.univ.map ⟨rideTok, rideTok_inj⟩

theorem toks_disjoint : Disjoint barToks rideToks := by
  rw [Finset.disjoint_left]
  rintro g h₁ h₂
  obtain ⟨x, -, rfl⟩ := Finset.mem_map.mp h₁
  obtain ⟨y, -, h⟩ := Finset.mem_map.mp h₂
  exact absurd (congrArg (fun t : Tok => t.1.2) h) (by intro h'; cases h')

abbrev allToks : Finset Tok := barToks ∪ rideToks

/-- A device's neighbour, as a permutation. -/
def turn (d : Dir) : Dev nD ≃ Dev nD := ⟨nxt d, prv d, prv_nxt d, nxt_prv d⟩

def ledS (d : Dir) (k : Kd) (c : Dev nD) : sProp 𝕄 := bigSep Finset.univ fun t : Fin 16 => dutyTok ER (sCell d k c (slotOf t.val)) (t.val / 4) false
def ledR (d : Dir) (k : Kd) (c : Dev nD) : sProp 𝕄 := bigSep Finset.univ fun t : Fin 16 => dutyTok ER (rCell d k c (slotOf t.val)) (t.val / 4) false

theorem upto (d : Dir) (Φ : ℕ → sProp 𝕄) : bigSep Finset.univ (fun t : Fin 16 => Φ t.val) ⊢ bigSep (Finset.Ico 0 (last d + 1)) Φ := by
  have h := bigSep_map (s := (Finset.univ : Finset (Fin 16))) Fin.valEmbedding (Φ := Φ)
  refine (Entails.of_eq h.symm).trans (BI.bigSep_subset fun t ht => ?_)
  have := last_lt d
  rw [Finset.mem_Ico] at ht
  exact Finset.mem_map.mpr ⟨⟨t, by omega⟩, Finset.mem_univ _, rfl⟩

theorem ledT_of (d : Dir) (k : Kd) (c : Dev nD) : iprop(ledS d k c ∗ ledR d k (nxt d c)) ⊢ (ledT d k c : sProp 𝕄) := by
  unfold ledS ledR ledT
  exact bigSep_pair.trans (upto d (fun t => iprop(dutyTok ER (sCell d k c (slotOf t)) (t / 4) false ∗ dutyTok ER (rCell d k (nxt d c) (slotOf t)) (t / 4) false)))

theorem ride_toks : bigSep rideToks (fun x => (dutyTok ER x.1 x.2.1 x.2.2 : sProp 𝕄))
    ⊢ bigSep Finset.univ fun c : Dev nD => four (fun d k => ledT d k c) := by
  have h : bigSep rideToks (fun x => (dutyTok ER x.1 x.2.1 x.2.2 : sProp 𝕄))
      = bigSep Finset.univ fun c : Dev nD => four (fun d k => iprop(ledS d k c ∗ ledR d k c)) := by
    unfold rideToks
    rw [bigSep_map, bigSep_univ_prod]
    refine bigSep_congr fun c _ => ?_
    rw [bigSep_univ_prod, univ_bool, bigSep_univ_prod, bigSep_univ_prod, univ_bool, univ_bool, bigSep_univ_prod, bigSep_univ_prod,
      bigSep_univ_prod, bigSep_univ_prod, univ_bool, univ_bool, univ_bool, univ_bool]
    rfl
  have hr (d : Dir) (k : Kd) : bigSep Finset.univ (fun c : Dev nD => (ledR d k c : sProp 𝕄)) = bigSep Finset.univ fun c : Dev nD => ledR d k (nxt d c) :=
    bigSep_univ_equiv (turn d) (fun c : Dev nD => (ledR d k c : sProp 𝕄))
  have h2 : (bigSep Finset.univ fun c : Dev nD => (four (fun d k => iprop(ledS d k c ∗ ledR d k c)) : sProp 𝕄))
      = bigSep Finset.univ fun c : Dev nD => four (fun d k => iprop(ledS d k c ∗ ledR d k (nxt d c))) := by
    unfold four
    simp only [bigSep_sep']
    rw [hr, hr, hr, hr]
  rw [h, h2]
  refine bigSep_mono fun c _ => ?_
  unfold four
  exact BIClass.sep_mono (BIClass.sep_mono (ledT_of _ _ c) (ledT_of _ _ c)) (BIClass.sep_mono (ledT_of _ _ c) (ledT_of _ _ c))

theorem bar_toks : bigSep barToks (fun x => (dutyTok ER x.1 x.2.1 x.2.2 : sProp 𝕄))
    ⊢ bigSep Finset.univ fun c : Dev nD => iprop(dutyTok ER (bCell (nxt true c)) 0 false ∗ dutyTok ER (bCell (nxt false c)) 0 true) := by
  refine Entails.of_eq ?_
  unfold barToks
  rw [bigSep_map, bigSep_univ_prod]
  have h : (bigSep Finset.univ fun c : Dev nD => bigSep Finset.univ fun u : Bool => (dutyTok ER (barTok (c, u)).1 (barTok (c, u)).2.1 (barTok (c, u)).2.2 : sProp 𝕄))
      = bigSep Finset.univ fun c : Dev nD => iprop(dutyTok ER (bCell c) 0 false ∗ dutyTok ER (bCell c) 0 true) :=
    bigSep_congr fun c _ => by rw [univ_bool]; rfl
  rw [h, bigSep_sep', bigSep_sep', bigSep_univ_equiv (turn true) (fun c : Dev nD => (dutyTok ER (bCell c) 0 false : sProp 𝕄)),
    bigSep_univ_equiv (turn false) (fun c : Dev nD => (dutyTok ER (bCell c) 0 true : sProp 𝕄))]
  rfl

/-- A landing cell is named by the slot its transfer leaves from. -/
def shift : Q ≃ Q := Equiv.ofBijective (fun x => (x.1, x.2.1, x.2.2.1, if x.2.2.1 then x.2.2.2 + 1 else x.2.2.2)) (by decide +kernel)

theorem open_toks : bigSep scCells (fun g => (openTok ER g : sProp 𝕄))
    ⊢ bigSep Finset.univ fun c : Dev nD => bigSep Finset.univ fun x : Q => openTok ER ((c : Thread nD τ), osem x) := by
  refine Entails.of_eq ?_
  unfold scCells
  rw [bigSep_map, bigSep_univ_prod]
  exact bigSep_congr fun c _ => bigSep_univ_equiv shift (fun x : Q => (openTok ER (cellAt (c, x)) : sProp 𝕄))

theorem cells_disjoint : Disjoint barCells scCells := by
  rw [Finset.disjoint_left]
  rintro g h₁ h₂
  obtain ⟨x, -, rfl⟩ := Finset.mem_map.mp h₁
  obtain ⟨y, -, h⟩ := Finset.mem_map.mp h₂
  exact absurd (congrArg (fun t : GSem nD τ sig => t.2) h) (by intro h'; cases h')

/-! ## The deal -/

variable (W : Dev nD → Valuation τ sig (Elt F))

/-- What every device may consult. -/
def records (κ : GSem nD τ sig → ℕ) : sProp 𝕄 :=
  iprop((bigSep cells fun g => cellInv ER (Rd (blks W)) (κ g) g) ∗ bigSep barCells fun g => reached ER g 0)

instance records_persistent (κ : GSem nD τ sig → ℕ) : BI.Persistent (records W κ) := by unfold records; infer_instance

/-- What is a device's own. -/
def mine (c : Dev nD) : sProp 𝕄 :=
  iprop(atPos ER (bCell c) 0 ∅ 0 ∗ (bigSep Finset.univ fun x : Q => openTok ER ((c : Thread nD τ), osem x))
    ∗ (dutyTok ER (bCell (nxt true c)) 0 false ∗ dutyTok ER (bCell (nxt false c)) 0 true) ∗ four (fun d k => ledT d k c))

/-- What a device holds beside the ghost state. -/
def purse (c : Dev nD) : sProp 𝕄 :=
  iprop((cred (tallyAt (bCell c) 0 2) ∗ four (fun d k => ledC d k c)) ∗ (∃ r, prngReg c r) ∗ owes (c : Thread nD τ) (O₀ c) ∅)

/-- What rides beside the arrays until the region. -/
def ride (c : Dev nD) : sProp 𝕄 := iprop(Tk W c ∗ (∃ r, prngReg c r) ∗ ∃ Wd, owes (c : Thread nD τ) (O₀ c) Wd)

theorem reached_at (c : Dev nD) : (bigSep barCells fun g => (reached ER g 0 : sProp 𝕄)) ⊢ reached ER (bCell c) 0 :=
  BI.bigSep_elim (Finset.mem_map_of_mem bCellEmb (Finset.mem_univ c))

theorem ride_intro (κ : GSem nD τ sig → ℕ) (c : Dev nD) : iprop(records W κ ∗ (mine c ∗ purse c)) ⊢ ride W c := by
  unfold records mine purse ride Tk bar
  iintro ⟨⟨#HI, #HR⟩, ⟨HA, HO, HD, HT⟩, ⟨HB, HC⟩, Hr, HW⟩
  isplitl [HA HO HD HT HB HC]
  · iexists κ
    isplitr; · iexact HI
    isplitl [HA HD HB]
    · isplitl [HA]; · iexact HA
      isplitl [HB]; · iexact HB
      isplitl [HD]; · iexact HD
      isplitr; · iapply (reached_at (nxt true c)); iexact HR
      iapply (reached_at (nxt false c)); iexact HR
    isplitl [HO]; · iexact HO
    isplitl [HT]; · iexact HT
    iexact HC
  isplitl [Hr]; · iexact Hr
  iexists ∅; iexact HW

theorem unscoped_one (c : Dev nD) : (unscopedSems0 c : sProp 𝕄) = semVal (bCell c) 0 := by
  unfold unscopedSems0
  rw [show (Finset.univ.filter fun sm : SemLoc sig => ¬ sm.isScoped .tc) = {SemLoc.reg barS} from by decide +kernel, BI.bigSep_singleton]

/-- The launch element: the pipeline's, and the rounds'. -/
def u₀ : UU :=
  (initOf (Pipeline.cells cfgs cellOf_inj) (Pipeline.launchToks cfgs cellOf_inj), launchOf barCells scCells allToks)

def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [BI.bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The rounds' element, kept on one device until the deal. -/
def G : Dev nD → sProp 𝕄 := onDev 0 (BI.own (ER (launchOf barCells scCells allToks)))

theorem u₀_deal : (ownU u₀ : sProp 𝕄) ⊢ |={Set.univ}=> iprop(BI.own (EP (initOf (Pipeline.cells cfgs cellOf_inj) (Pipeline.launchToks cfgs cellOf_inj))) ∗ bigSep Finset.univ G) := by
  unfold u₀ G
  iintro Hu
  ihave H := (ownU_pair _ _) $$ Hu
  icases H with ⟨HP, HX⟩
  imodintro
  isplitl [HP]; · iexact HP
  rw [bigSep_onDev]; iexact HX

theorem deal (ρ : Dev nD → PrngReg) :
    (bigSep Finset.univ fun c : Dev nD => iprop(unscopedSems0 c ∗ owes (c : Thread nD τ) (O₀ c) ∅ ∗ Pipeline.launchCred O₀ c ∗ prngReg c (ρ c) ∗ G c))
      ⊢ (|={Set.univ}=> bigSep Finset.univ (ride W) : sProp 𝕄) := by
  have hcore (c : Dev nD) : iprop(unscopedSems0 c ∗ owes (c : Thread nD τ) (O₀ c) ∅ ∗ Pipeline.launchCred O₀ c ∗ prngReg c (ρ c) ∗ G c)
      ⊢ (iprop(purse c ∗ (semVal (bCell c) 0 ∗ G c)) : sProp 𝕄) := by
    rw [unscoped_one]
    unfold purse
    iintro ⟨Hus, HO, Hcr, Hp, HG⟩
    ihave Hc := (credits c) $$ Hcr
    isplitl [Hc HO Hp]
    · isplitl [Hc]; · iexact Hc
      isplitl [Hp]; · iexists (ρ c); iexact Hp
      iexact HO
    isplitl [Hus] <;> iassumption
  have hv : bigSep Finset.univ (fun c : Dev nD => (semVal (bCell c) 0 : sProp 𝕄)) ⊢ bigSep barCells (fun g => (semVal g 0 : sProp 𝕄)) :=
    Entails.of_eq (bigSep_map (s := Finset.univ) bCellEmb (Φ := fun g : GSem nD τ sig => (semVal g 0 : sProp 𝕄))).symm
  have hat : bigSep barCells (fun g => (atPos ER g 0 ∅ 0 : sProp 𝕄)) ⊢ bigSep Finset.univ (fun c : Dev nD => (atPos ER (bCell c) 0 ∅ 0 : sProp 𝕄)) :=
    Entails.of_eq (bigSep_map (s := Finset.univ) bCellEmb (Φ := fun g : GSem nD τ sig => (atPos ER g 0 ∅ 0 : sProp 𝕄)))
  have ht : bigSep allToks (fun x => (dutyTok ER x.1 x.2.1 x.2.2 : sProp 𝕄))
      ⊢ iprop(bigSep barToks (fun x => (dutyTok ER x.1 x.2.1 x.2.2 : sProp 𝕄)) ∗ bigSep rideToks (fun x => (dutyTok ER x.1 x.2.1 x.2.2 : sProp 𝕄))) :=
    Entails.of_eq (BI.bigSep_union toks_disjoint)
  iintro H
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(purse c ∗ (semVal (bCell c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells scCells allToks)) from
    Entails.of_eq (bigSep_onDev (F := F) 0 (BI.own (ER (launchOf barCells scCells allToks))))) $$ HG
  imod (Rounds.fund_launch ER (Rd (blks W)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records W κ) (Φ := fun c => iprop(mine c ∗ purse c)) fun c _ => ride_intro W κ c)
  isplitr
  · unfold records cells
    isplitr; · iexact Hinv
    iexact Hr
  iapply bigSep_pair
  isplitr [HB]
  · ihave Ht := ht $$ Htok
    icases Ht with ⟨Htb, Htr⟩
    unfold mine
    iapply bigSep_pair; isplitl [Hat]; · iapply hat $$ Hat
    iapply bigSep_pair; isplitl [Hopen]; · iapply (open_toks (F := F)) $$ Hopen
    iapply bigSep_pair; isplitl [Htb]; · iapply (bar_toks (F := F)) $$ Htb
    iapply (ride_toks (F := F)) $$ Htr
  · iexact HB

end Cert.KernelIdeal.Ring

end
-- ==== Proof.Run.lean ====
/- The whole run: every device ends with its arguments as launched, its result array at the region's result, and its counters at zero. -/
module

public import proofs.«01_k».proof.Proof.Record
public import proofs.«01_k».proof.Proof.Deal

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- What rides beside the arrays, before and after the region. -/
def beside : Fin 2 → Dev nD → sProp 𝕄
  | 0, c => ride (V1 m) c
  | 1, c => iprop(Yk c ∗ ∃ Wd, owes (c : Thread nD τ) (0 : CellTallies nD τ sig ℕ) Wd)

/-- The program's items. -/
def items (c : Dev nD) : List (Seg (pcfgs (F := F)) adm (pdats (V1 m)) 0 defs₀ 𝒱₀ L lv) :=
  segs m 𝒱₀ L lv (beside m) 0 (pdats (V1 m)) (reg0 (V1 m)) c

/-- What a device holds at the end. -/
def ends (c : Dev nD) : sProp 𝕄 :=
  iprop(StableHlo.held (c : Thread nD τ) (Pipeline.ucRefs τ sig) (after0 (V1 m) c) ∗ Yk c)

theorem launched : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)) ∗ levAts L lv)
    ⊢ (|={Set.univ}=> bigSep Finset.univ fun c : Dev nD =>
      iprop(StableHlo.held (c : Thread nD τ) (Pipeline.ucRefs τ sig) (V0 m c) ∗ beside m 0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
    rw [← bigSep_sep']
    exact bigSep_mono fun c _ => by
      rw [← Pipeline.unscopedBufs_held (Ix := ℕ) (Name := ℕ) (U := UU) (Lvl := ℕ) c (V0 m c)]; exact BI.Entails.refl _
  iintro ⟨H, -⟩
  ihave H' := hsplit $$ H
  icases H' with ⟨Hh, Hr⟩
  imod (deal (V1 m) ρ) $$ Hr with HE
  imodintro
  rw [bigSep_sep']
  isplitl [Hh]; · iexact Hh
  iexact HE

/-- What a device's final memory shows. -/
def Shows (c : Dev nD) (s : MemSt nD τ sig (Elt F)) : Prop :=
  (∀ r : Ref sig .tc, r.isScoped = false → s.mem ((c.tc : Thread nD τ).loc r) = after0 (V1 m) c (Proc.devRef .tc r)) ∧ s.sem (bCell c) = 0

theorem shown (c : Dev nD) (s' : Phys nD τ sig (Elt F)) : iprop(ends m c ∗ SI s') ⊢ (|={Set.univ}=> iprop(⌜Shows m c s'.mem⌝ ∗ SI s') : sProp 𝕄) := by
  unfold ends Yk StableHlo.held
  iintro ⟨⟨Hh, Hb⟩, HSI⟩
  icombine HSI Hb gives %hb
  ihave Hr := (pointsTo_read_all (Pipeline.ucRefs τ sig) (fun b => ((c : Thread nD τ).1, b)) (after0 (V1 m) c) s') $$ [Hh HSI]
  · isplitl [Hh] <;> iassumption
  icases Hr with ⟨%h, HSI⟩
  imodintro
  isplitr
  · ipureintro
    exact ⟨fun r hr => h (Proc.devRef .tc r) (Finset.mem_filter.mpr ⟨StableHlo.devRef_mem_tcRefs r, by rw [show (Proc.devRef (τ := τ) .tc r).isScoped = r.isScoped from rfl, hr]; decide⟩),
      by simpa using hb⟩
  iexact HSI

theorem unscoped_eq : ∀ sm : SemLoc sig, sm.isScoped .tc = false → sm = .reg barS := by decide +kernel

theorem arg_kept (c : Dev nD) (r : Ref sig .tc) (h : r ≠ main_v19) (h' : r ∉ hostOps0_W) :
    after0 (V1 m) c (Proc.devRef .tc r) = m ((c.tc : Thread nD τ).loc r) :=
  (after0_of (V1 m) c r h).trans (V1_of m c r h')

set_option backward.isDefEq.respectTransparency.types false in
/-- The whole run. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v19) = res (V1 m) c) ∧ r.2.sem = fun _ => 0) :=
  Pipeline.θ_run_regions_kit_dev_sems (pcfgs (F := F)) adm (pdats (V1 m)) 0 cellOf_inj EP defs₀ 𝒱₀ L lv m ρ main (items m)
    (fun c Q => by
      rewrite [main_chain c, Seg.run_eq_chain,
        show (items m c).map Seg.prog = [StableHlo.seq (hostOps0 c), Prog.lift (.customCall (Pipeline.entry 0) ())] from rfl]
      dsimp (config := { failIfUnchanged := false }) only
      exact .rfl)
    (fun c => by simp only [items, segs, Seg.pipes_host, Seg.pipes_region, Seg.pipes_nil]; decide) O₀ L_of_ne G u₀ u₀_deal
    (T₀ := fun c => iprop(StableHlo.held (c : Thread nD τ) (Pipeline.ucRefs τ sig) (V0 m c) ∗ beside m 0 c))
    (Tₙ := ends m)
    (hch := fun c => ⟨.rfl, reg0_pre (V1 m) c, (reg0_post (V1 m) c).trans (by
      unfold ends
      iintro ⟨Hh, HY, HO⟩
      isplitr [HO]
      · isplitl [Hh] <;> iassumption
      iexact HO)⟩)
    (hinit := launched m ρ) (QY := Shows m) (hfin := shown m)
    (hQ := fun s h hs => ⟨fun c => ⟨⟨((h c).1 main_arg0 (by decide)).trans (arg_kept m c _ (by decide) (by decide)),
        ((h c).1 main_arg1 (by decide)).trans (arg_kept m c _ (by decide) (by decide)),
        ((h c).1 main_arg2 (by decide)).trans (arg_kept m c _ (by decide) (by decide)),
        ((h c).1 main_arg3 (by decide)).trans (arg_kept m c _ (by decide) (by decide)),
        ((h c).1 main_arg4 (by decide)).trans (arg_kept m c _ (by decide) (by decide))⟩,
        ((h c).1 main_v19 (by decide)).trans (after0_res (V1 m) c)⟩,
      sem_eq_zero hs fun c sm hsm => by
        obtain rfl := unscoped_eq sm hsm
        exact (h c).2⟩)

end Cert.KernelIdeal.Ring

end
-- ==== Proof.Frames.lean ====
/- The frames of the kernel: its run with the values dropped. -/
module

public import proofs.«01_k».proof.Defs
public import proofs.«01_k».proof.Proof.Run
public import proofs.«01_k».proof.Proof.Gen.Kernel
public import proofs.«01_k».proof.Proof.Gen.ReferenceIdeal.Run

@[expose] public section

set_option maxRecDepth 65536

noncomputable section

namespace Cert.Proof

open Idealize.ShloMosaic Idealize.SL.Sem

/-- The run with the values dropped, over any floats. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).1, h.2⟩) (Cert.KernelIdeal.Ring.run_main (F := F) m ρ)

/-- The idealized kernel runs, leaves its arguments, and ends quiescent. -/
theorem frame_ideal : Cert.quiescent_KernelIdeal (hKernelIdeal := Cert.KernelIdeal.Gen.facts) := fun m ρ _ => frame m ρ

/-- The printed kernel's body table is the idealized one's: the bodies are the same text. -/
theorem defs₀_eq {F : FTy → Type} [FloatOps F] : Cert.Kernel.defs₀ (F := F) = Cert.KernelIdeal.defs₀ (F := F) := by
  unfold Cert.Kernel.defs₀ Cert.KernelIdeal.defs₀
  congr 1
  funext l
  obtain ⟨l, a⟩ := l
  match l with
  | 0 => rfl

/-- So are the whole table and the host program. -/
theorem defs_eq {F : FTy → Type} [FloatOps F] : Cert.Kernel.defs (F := F) = Cert.KernelIdeal.defs (F := F) := by
  unfold Cert.Kernel.defs Cert.KernelIdeal.defs
  exact congrArg _ defs₀_eq

theorem main_eq {F : FTy → Type} [FloatOps F] : Cert.Kernel.main (F := F) = Cert.KernelIdeal.main (F := F) := rfl

/-- The kernel as printed has the same text, so the same run. -/
theorem frame_kernel : Cert.quiescent_Kernel (hKernel := Cert.Kernel.Gen.facts) := by
  intro m ρ _
  rw [defs_eq, main_eq]
  exact frame (F := Bits) m ρ

/-- The reference declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, by
    funext g
    obtain ⟨t, s⟩ := g
    cases s with
    | reg s => exact s.elim0
    | dma s => exact s.elim0⟩) (Cert.ReferenceIdeal.Value.run (F := Ideal) m ρ)

end Cert.Proof

end
-- ==== Proof.Equal.lean ====
/- The kernel's result is the reference's, device by device. -/
module

public import proofs.«01_k».proof.Proof.Sum
public import proofs.«01_k».proof.Proof.Slices
public import proofs.«01_k».proof.Proof.Ref
public import proofs.«01_k».proof.Proof.Finite
public import proofs.«01_k».proof.Proof.Frames
public import proofs.«01_k».proof.Defs
public import Idealize.ShloMosaic.Lib.LayoutAt

@[expose] public section

set_option maxRecDepth 16384

noncomputable section

namespace Cert.Proof

open Idealize.ShloMosaic Cert.Attn

/-! ## Blocks of the whole arrays -/

theorem block_x (X : (⟨3, ![64, 128, 512]⟩ : Shape).Idx → EReal) (c : Fin 32) (b : Fin 2) (i : Fin 128) (n : Fin 512) :
    Layout.block ⟨3, ![2, 128, 512]⟩ ⟨3, ![64, 128, 512]⟩ 0 32 c X (by decide) (ix3 b i n) = X (ix3 (⟨c.val * 2 + b.val, by omega⟩ : Fin 64) i n) := by
  refine congrArg X (funext fun a => Fin.ext ((Layout.Tiles.idx_val _ c _ a).trans ?_))
  match a with
  | ⟨0, _⟩ => rfl
  | ⟨1, _⟩ => rfl
  | ⟨2, _⟩ => rfl

theorem block_q (X : (⟨2, ![512, 8192]⟩ : Shape).Idx → EReal) (c : Fin 32) (n : Fin 512) (p : Fin 256) :
    Layout.block ⟨2, ![512, 256]⟩ ⟨2, ![512, 8192]⟩ 1 32 c X (by decide) (ix2 n p) = X (ix2 n (⟨c.val * 256 + p.val, by omega⟩ : Fin 8192)) := by
  refine congrArg X (funext fun a => Fin.ext ((Layout.Tiles.idx_val _ c _ a).trans ?_))
  match a with
  | ⟨0, _⟩ => rfl
  | ⟨1, _⟩ => rfl

theorem block_o (X : (⟨2, ![8192, 512]⟩ : Shape).Idx → EReal) (c : Fin 32) (p : Fin 256) (o : Fin 512) :
    Layout.block ⟨2, ![256, 512]⟩ ⟨2, ![8192, 512]⟩ 0 32 c X (by decide) (ix2 p o) = X (ix2 (⟨c.val * 256 + p.val, by omega⟩ : Fin 8192) o) := by
  refine congrArg X (funext fun a => Fin.ext ((Layout.Tiles.idx_val _ c _ a).trans ?_))
  match a with
  | ⟨0, _⟩ => rfl
  | ⟨1, _⟩ => rfl

/-! ## The kernel's result in the whole arrays -/

/-- The result's entry in the whole arrays: the columns of all heads. -/
def entry (x : (⟨3, ![64, 128, 512]⟩ : Shape).Idx → EReal) (wq : (⟨2, ![512, 8192]⟩ : Shape).Idx → EReal)
    (k v : (⟨4, ![64, 128, 128, 64]⟩ : Shape).Idx → EReal) (wo : (⟨2, ![8192, 512]⟩ : Shape).Idx → EReal) (b : Fin 64) (i : Fin 128) (o : Fin 512) : EReal :=
  ∑ n : Fin 8192, ctx (fun d => qry (fun m => x (ix3 b i m)) fun m => wq (ix2 m (⟨n.val / 64 * 64 + d.val, by omega⟩ : Fin 8192)))
    (fun j d => k (ix4 b j (⟨n.val / 64, by omega⟩ : Fin 128) d)) (fun j => v (ix4 b j (⟨n.val / 64, by omega⟩ : Fin 128) (⟨n.val % 64, by omega⟩ : Fin 64))) * wo (ix2 n o)

section
variable (m : (ℓ : Loc Cert.KernelIdeal.nD Cert.KernelIdeal.τ Cert.KernelIdeal.sig) → Buf (Elt Ideal) ℓ)
variable (x : (⟨3, ![64, 128, 512]⟩ : Shape).Idx → EReal) (wq : (⟨2, ![512, 8192]⟩ : Shape).Idx → EReal)
variable (k v : (⟨4, ![64, 128, 128, 64]⟩ : Shape).Idx → EReal) (wo : (⟨2, ![8192, 512]⟩ : Shape).Idx → EReal)

open Cert.KernelIdeal Cert.KernelIdeal.Gen Cert.KernelIdeal.Ring in
theorem kernel_entry
    (hx : ∀ c : Dev nD, m ((c.tc : Thread nD τ).loc main_arg0) = Layout.block ⟨3, ![2, 128, 512]⟩ ⟨3, ![64, 128, 512]⟩ 0 32 c x)
    (hq : ∀ c : Dev nD, m ((c.tc : Thread nD τ).loc main_arg1) = Layout.block ⟨2, ![512, 256]⟩ ⟨2, ![512, 8192]⟩ 1 32 c wq)
    (hk : ∀ c : Dev nD, m ((c.tc : Thread nD τ).loc main_arg2) = k)
    (hv : ∀ c : Dev nD, m ((c.tc : Thread nD τ).loc main_arg3) = v)
    (ho : ∀ c : Dev nD, m ((c.tc : Thread nD τ).loc main_arg4) = Layout.block ⟨2, ![256, 512]⟩ ⟨2, ![8192, 512]⟩ 0 32 c wo)
    (c : Fin 32) (b : Fin 2) (i : Fin 128) (o : Fin 512) :
    (res (V1 m) c (ix3 b i o) : EReal) = entry x wq k v wo ⟨c.val * 2 + b.val, by omega⟩ i o := by
  refine (result_apply (blks (V1 m)) (insOf (V1 m) c) c b i o).trans ?_
  unfold entry
  rw [sum_blocks]
  refine Finset.sum_congr rfl fun e _ => (term_apply _ _ b i o e).trans (Finset.sum_congr rfl fun p _ => ?_)
  have he : e.val < 32 := e.isLt
  have exx : ∀ n, (insOf (V1 m) c).x (ix3 b i n) = x (ix3 (⟨c.val * 2 + b.val, by omega⟩ : Fin 64) i n) := fun n =>
    (congrFun ((V1_of m c main_arg0 (by decide)).trans (hx c)) _).trans (block_x x c b i n)
  have eqq : ∀ n p, (blks (V1 m) false e : S512x256.Idx → EReal) (ix2 n p) = wq (ix2 n (⟨e.val * 256 + p.val, by omega⟩ : Fin 8192)) := fun n p =>
    (congrFun ((V1_of m e main_arg1 (by decide)).trans (hq e)) _).trans (block_q wq e n p)
  have eoo : (blks (V1 m) true e : S256x512.Idx → EReal) (ix2 p o) = wo (ix2 (⟨e.val * 256 + p.val, by omega⟩ : Fin 8192) o) :=
    (congrFun ((V1_of m e main_arg4 (by decide)).trans (ho e)) _).trans (block_o wo e p o)
  have ekk : ∀ (r : Fin 256) (j : Fin 128) (d : Fin 64), (insOf (V1 m) c).k (ix3 r j d)
      = k (ix4 (⟨2 * c.val + r.val / 128, by omega⟩ : Fin 64) j (⟨r.val % 128, by omega⟩ : Fin 128) d) := fun r j d =>
    (laid_k m c r j d).trans (congrFun (hk c) _)
  have evv : ∀ (r : Fin 256) (j : Fin 128) (d : Fin 64), (insOf (V1 m) c).v (ix3 r j d)
      = v (ix4 (⟨2 * c.val + r.val / 128, by omega⟩ : Fin 64) j (⟨r.val % 128, by omega⟩ : Fin 128) d) := fun r j d =>
    (laid_v m c r j d).trans (congrFun (hv c) _)
  refine congrArg₂ (· * ·) ?_ eoo
  refine congr (congrArg₂ Cert.Attn.ctx (funext fun d => congrArg₂ qry (funext exx) (funext fun n => (eqq n _).trans ?_)) (funext fun j => funext fun d => (ekk _ j d).trans ?_))
    (funext fun j => (evv _ j _).trans ?_)
  · exact at2 wq rfl (by simp only; omega)
  · exact at4 k (by simp only; omega) rfl (by simp only; omega) rfl
  · exact at4 v (by simp only; omega) rfl (by simp only; omega) (by simp only; omega)

/-- The same of a device's whole result, where the reference's scores are finite. -/
theorem kernel_value
    (hx : ∀ c : Dev Cert.KernelIdeal.nD, m ((c.tc : Thread Cert.KernelIdeal.nD Cert.KernelIdeal.τ).loc Cert.KernelIdeal.main_arg0) = Layout.block ⟨3, ![2, 128, 512]⟩ ⟨3, ![64, 128, 512]⟩ 0 32 c x)
    (hq : ∀ c : Dev Cert.KernelIdeal.nD, m ((c.tc : Thread Cert.KernelIdeal.nD Cert.KernelIdeal.τ).loc Cert.KernelIdeal.main_arg1) = Layout.block ⟨2, ![512, 256]⟩ ⟨2, ![512, 8192]⟩ 1 32 c wq)
    (hk : ∀ c : Dev Cert.KernelIdeal.nD, m ((c.tc : Thread Cert.KernelIdeal.nD Cert.KernelIdeal.τ).loc Cert.KernelIdeal.main_arg2) = k)
    (hv : ∀ c : Dev Cert.KernelIdeal.nD, m ((c.tc : Thread Cert.KernelIdeal.nD Cert.KernelIdeal.τ).loc Cert.KernelIdeal.main_arg3) = v)
    (ho : ∀ c : Dev Cert.KernelIdeal.nD, m ((c.tc : Thread Cert.KernelIdeal.nD Cert.KernelIdeal.τ).loc Cert.KernelIdeal.main_arg4) = Layout.block ⟨2, ![256, 512]⟩ ⟨2, ![8192, 512]⟩ 0 32 c wo)
    (hP : Cert.Pre_KernelIdeal_finite_scores_KernelIdeal m) (c : Fin 32) :
    Cert.KernelIdeal.Ring.res (Cert.KernelIdeal.Gen.V1 m) c = Layout.block ⟨3, ![2, 128, 512]⟩ ⟨3, ![64, 128, 512]⟩ 0 32 c
      (Cert.ReferenceIdeal.Plain.output (F := Ideal) v (Cert.ReferenceIdeal.Plain.ratios (Cert.ReferenceIdeal.Plain.exps
        (Cert.ReferenceIdeal.Plain.masked (Cert.ReferenceIdeal.Plain.logits x wq k)))) wo) := by
  have fx : ∀ b i n, Fin' (x (ix3 b i n)) := fun b i n => by
    have h := (finite_scores _ _ _ _ _ (hP (⟨b.val / 2, by omega⟩ : Fin 32))).1 (ix3 (⟨b.val % 2, by omega⟩ : Fin 2) i n)
    rw [hx] at h
    have e := (block_x x (⟨b.val / 2, by omega⟩ : Fin 32) (⟨b.val % 2, by omega⟩ : Fin 2) i n).trans (at3 x (i' := b) (by simp only; omega) rfl rfl)
    exact e ▸ h
  have fq : ∀ n p, Fin' (wq (ix2 n p)) := fun n p => by
    have h := (finite_scores _ _ _ _ _ (hP (⟨p.val / 256, by omega⟩ : Fin 32))).2.1 (ix2 n (⟨p.val % 256, by omega⟩ : Fin 256))
    rw [hq] at h
    have e := (block_q wq (⟨p.val / 256, by omega⟩ : Fin 32) n (⟨p.val % 256, by omega⟩ : Fin 256)).trans (at2 wq (j' := p) rfl (by simp only; omega))
    exact e ▸ h
  have fk : ∀ b j h d, Fin' (k (ix4 b j h d)) := fun b j h d => by
    have h := (finite_scores _ _ _ _ _ (hP (0 : Fin 32))).2.2 (ix4 b j h d)
    rw [hk] at h
    exact h
  funext y
  obtain ⟨b, i, o, rfl⟩ : ∃ (b : Fin 2) (i : Fin 128) (o : Fin 512), y = ix3 b i o :=
    ⟨y 0, y 1, y 2, funext fun a => match a with | ⟨0, _⟩ => rfl | ⟨1, _⟩ => rfl | ⟨2, _⟩ => rfl⟩
  refine (kernel_entry m x wq k v wo hx hq hk hv ho c b i o).trans ?_
  refine Eq.trans ?_ (block_x _ c b i o).symm
  exact (Cert.ReferenceIdeal.Plain.value x wq k v wo fx fq fk _ i o).symm

end

/-- The kernel over the extended reals computes the reference. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) := by
  intro m g m' g' hP hA
  refine ⟨_, ?_, (θ_run Cert.ReferenceIdeal.defs _ _).mono (fun r h => ⟨(h 0).1.trans (Cert.ReferenceIdeal.Plain.res_eq m' 0), (h 0).2⟩)
    (Cert.ReferenceIdeal.Value.run (F := Ideal) m' g')⟩
  refine (θ_run Cert.KernelIdeal.defs _ _).mono (fun r h c => ⟨(h.1 c).2.trans ?_, (h.1 c).1⟩) (Cert.KernelIdeal.Ring.run_main (F := Ideal) m g)
  exact kernel_value m _ _ _ _ _ (fun c => (hA c).1) (fun c => (hA c).2.1) (fun c => (hA c).2.2.1) (fun c => (hA c).2.2.2.1)
    (fun c => (hA c).2.2.2.2) hP c

end Cert.Proof

end
-- ==== Proof.Needed.lean ====
/- Why the scores must be finite: what each program's weights are when a row's scores are all plus infinity. -/
module

public import proofs.«01_k».proof.Proof.Soft

@[expose] public section

noncomputable section

namespace Cert.Attn

open Idealize.ShloMosaic

/-- The kernel's weights are then all zero: each is an infinity over an infinity. -/
theorem weight_top (j : Fin 128) : wt (fun _ : Fin 128 => (⊤ : EReal)) j = 0 := by
  have h : (∑ _j' : Fin 128, (⊤ : EReal)) = ⊤ := by
    rw [← Finset.add_sum_erase _ _ (Finset.mem_univ (0 : Fin 128))]
    refine EReal.top_add_of_ne_bot (ne_of_gt (lt_of_lt_of_le EReal.bot_lt_zero (Finset.sum_nonneg fun _ _ => le_top)))
  show Ideal.div ⊤ (∑ _j' : Fin 128, (⊤ : EReal)) = 0
  rw [h]
  unfold Ideal.div
  simp

/-- The reference's are all minus infinity: the greatest score taken off leaves minus infinity everywhere, so each weight is zero over zero. -/
theorem weight_shifted_top (j : Fin 128) :
    wt (fun _ : Fin 128 => (⊤ : EReal) - (Finset.univ : Finset (Fin 128)).fold max ⊥ fun _ => (⊤ : EReal)) j = ⊥ := by
  have h : ((Finset.univ : Finset (Fin 128)).fold max ⊥ fun _ => (⊤ : EReal)) = ⊤ :=
    top_le_iff.mp ((Finset.le_fold_max (⊤ : EReal)).mpr (Or.inr ⟨0, Finset.mem_univ _, le_rfl⟩))
  rw [h]
  show Ideal.div 0 (∑ _j' : Fin 128, (0 : EReal)) = ⊥
  rw [Finset.sum_const_zero]
  unfold Ideal.div
  simp

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Equal
public import proofs.«01_k».proof.Proof.Needed
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_ideal, fun m ρ _ => frame_ideal m ρ trivial, frame_reference, fun m ρ _ => frame_reference m ρ trivial, trivial, algebraic⟩

end Cert.Proof

end
